-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.2.2.2.2.1 = (fun _ => 1#1)
    ∧ (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.2.2.2.2.1 = (fun _ => 1#1)
    ∧ (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  IdealRules.named_const.Statement Cert.KernelIdeal.κ "five" .f32 0x40A00000#32 ((45035996282712159 / 9007199254740992 : ℝ) : EReal)

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S16384x300 : Shape := ⟨2, ![16384, 300]⟩
abbrev S4096x300 : Shape := ⟨2, ![4096, 300]⟩
abbrev S16384x7 : Shape := ⟨2, ![16384, 7]⟩
abbrev S4096x7 : Shape := ⟨2, ![4096, 7]⟩
abbrev S20480 : Shape := ⟨1, ![20480]⟩
abbrev S81920 : Shape := ⟨1, ![81920]⟩
abbrev S307x512 : Shape := ⟨2, ![307, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S4x64 : Shape := ⟨2, ![4, 64]⟩
abbrev S256x128 : Shape := ⟨2, ![256, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S3x128x1 : Shape := ⟨3, ![3, 128, 1]⟩
abbrev S3x1 : Shape := ⟨2, ![3, 1]⟩
abbrev S4096x5 : Shape := ⟨2, ![4096, 5]⟩
abbrev S4096x5x4 : Shape := ⟨3, ![4096, 5, 4]⟩
abbrev S_ : Shape := ⟨0, ![]⟩

class Facts : Prop where
  natLt_1_32 : 1 < 32
  shapeCasts_S20480_S4096x5 : S20480.ShapeCasts S4096x5
  shapeCasts_S81920_S4096x5x4 : S81920.ShapeCasts S4096x5x4
  bcast_S_S4096x5x4 : S_.BroadcastsInDim S4096x5x4 (![] : Fin 0 → Fin S4096x5x4.rank)
  bcast_S_S16384x300 : S_.BroadcastsInDim S16384x300 (![] : Fin 0 → Fin S16384x300.rank)
  bcast_S_S4096x300 : S_.BroadcastsInDim S4096x300 (![] : Fin 0 → Fin S4096x300.rank)
  bcast_S_S307x512 : S_.BroadcastsInDim S307x512 (![] : Fin 0 → Fin S307x512.rank)
  bcast_S_S256x256 : S_.BroadcastsInDim S256x256 (![] : Fin 0 → Fin S256x256.rank)
  bcast_S_S4x64 : S_.BroadcastsInDim S4x64 (![] : Fin 0 → Fin S4x64.rank)
  bcast_S_S256x128 : S_.BroadcastsInDim S256x128 (![] : Fin 0 → Fin S256x128.rank)
  bcast_S_S128 : S_.BroadcastsInDim S128 (![] : Fin 0 → Fin S128.rank)
  bcast_S_S128x128 : S_.BroadcastsInDim S128x128 (![] : Fin 0 → Fin S128x128.rank)
  bcast_S_S3x128x128 : S_.BroadcastsInDim S3x128x128 (![] : Fin 0 → Fin S3x128x128.rank)

variable [Facts]

def fn_part3 {F : FTy → Type} [FloatOps F] (main_arg25 : FVec F S3x128x128 .f32) (main_v8 : IVec S4096x5 1) (main_v13 : IVec S4096x5x4 1) (main_v18 : IVec S4096x5x4 1) (main_v21 : IVec S16384x300 1) (main_v24 : IVec S4096x300 1) (main_v27 : IVec S307x512 1) (main_v30 : IVec S307x512 1) (main_v33 : IVec S256x256 1) (main_v36 : IVec S4x64 1) (main_v39 : IVec S4x64 1) (main_v42 : IVec S256x256 1) (main_v45 : IVec S256x256 1) (main_v48 : IVec S256x128 1) (main_v51 : IVec S128 1) (main_v54 : IVec S128x128 1) (main_v55 : FVec F S128 .f32) (main_v56 : FVec F S128 .f32) : IVec S4096x5 1 × IVec S4096x5x4 1 × IVec S4096x5x4 1 × IVec S16384x300 1 × IVec S4096x300 1 × IVec S307x512 1 × IVec S307x512 1 × IVec S256x256 1 × IVec S4x64 1 × IVec S4x64 1 × IVec S256x256 1 × IVec S256x256 1 × IVec S256x128 1 × IVec S128 1 × IVec S128x128 1 × IVec S128 1 × IVec S3x128x128 1 :=
  let main_v57 : IVec S128 1 := cmpf .olt main_v55 main_v56
  let main_v58 : FVec F S3x128x128 .f32 := Host.absf main_arg25
  let main_cst_13 : FVec F S_ .f32 := constant S_ .f32 0x7F800000#32
  let main_v59 : FVec F S3x128x128 .f32 := broadcastInDim S3x128x128 ![] bcast_S_S3x128x128 main_cst_13
  let main_v60 : IVec S3x128x128 1 := cmpf .olt main_v58 main_v59
  (main_v8, main_v13, main_v18, main_v21, main_v24, main_v27, main_v30, main_v33, main_v36, main_v39, main_v42, main_v45, main_v48, main_v51, main_v54, main_v57, main_v60)

def fn_part2 {F : FTy → Type} [FloatOps F] (main_arg18 : FVec F S256x256 .f32) (main_arg20 : FVec F S256x256 .f32) (main_arg21 : FVec F S256x128 .f32) (main_arg22 : FVec F S128 .f32) (main_arg23 : FVec F S128x128 .f32) (main_arg24 : FVec F S128 .f32) (main_arg25 : FVec F S3x128x128 .f32) (main_v8 : IVec S4096x5 1) (main_v13 : IVec S4096x5x4 1) (main_v18 : IVec S4096x5x4 1) (main_v21 : IVec S16384x300 1) (main_v24 : IVec S4096x300 1) (main_v27 : IVec S307x512 1) (main_v30 : IVec S307x512 1) (main_v33 : IVec S256x256 1) (main_v36 : IVec S4x64 1) (main_v37 : FVec F S4x64 .f32) (main_v38 : FVec F S4x64 .f32) : IVec S4096x5 1 × IVec S4096x5x4 1 × IVec S4096x5x4 1 × IVec S16384x300 1 × IVec S4096x300 1 × IVec S307x512 1 × IVec S307x512 1 × IVec S256x256 1 × IVec S4x64 1 × IVec S4x64 1 × IVec S256x256 1 × IVec S256x256 1 × IVec S256x128 1 × IVec S128 1 × IVec S128x128 1 × IVec S128 1 × IVec S3x128x128 1 :=
  let main_v39 : IVec S4x64 1 := cmpf .olt main_v37 main_v38
  let main_v40 : FVec F S256x256 .f32 := Host.absf main_arg18
  let main_cst_7 : FVec F S_ .f32 := constant S_ .f32 0x7F800000#32
  let main_v41 : FVec F S256x256 .f32 := broadcastInDim S256x256 ![] bcast_S_S256x256 main_cst_7
  let main_v42 : IVec S256x256 1 := cmpf .olt main_v40 main_v41
  let main_v43 : FVec F S256x256 .f32 := Host.absf main_arg20
  let main_cst_8 : FVec F S_ .f32 := constant S_ .f32 0x7F800000#32
  let main_v44 : FVec F S256x256 .f32 := broadcastInDim S256x256 ![] bcast_S_S256x256 main_cst_8
  let main_v45 : IVec S256x256 1 := cmpf .olt main_v43 main_v44
  let main_v46 : FVec F S256x128 .f32 := Host.absf main_arg21
  let main_cst_9 : FVec F S_ .f32 := constant S_ .f32 0x7F800000#32
  let main_v47 : FVec F S256x128 .f32 := broadcastInDim S256x128 ![] bcast_S_S256x128 main_cst_9
  let main_v48 : IVec S256x128 1 := cmpf .olt main_v46 main_v47
  let main_v49 : FVec F S128 .f32 := Host.absf main_arg22
  let main_cst_10 : FVec F S_ .f32 := constant S_ .f32 0x7F800000#32
  let main_v50 : FVec F S128 .f32 := broadcastInDim S128 ![] bcast_S_S128 main_cst_10
  let main_v51 : IVec S128 1 := cmpf .olt main_v49 main_v50
  let main_v52 : FVec F S128x128 .f32 := Host.absf main_arg23
  let main_cst_11 : FVec F S_ .f32 := constant S_ .f32 0x7F800000#32
  let main_v53 : FVec F S128x128 .f32 := broadcastInDim S128x128 ![] bcast_S_S128x128 main_cst_11
  let main_v54 : IVec S128x128 1 := cmpf .olt main_v52 main_v53
  let main_v55 : FVec F S128 .f32 := Host.absf main_arg24
  let main_cst_12 : FVec F S_ .f32 := constant S_ .f32 0x7F800000#32
  let main_v56 : FVec F S128 .f32 := broadcastInDim S128 ![] bcast_S_S128 main_cst_12
  fn_part3 (F := F) main_arg25 main_v8 main_v13 main_v18 main_v21 main_v24 main_v27 main_v30 main_v33 main_v36 main_v39 main_v42 main_v45 main_v48 main_v51 main_v54 main_v55 main_v56

def fn_part1 {F : FTy → Type} [FloatOps F] (main_arg1 : FVec F S4096x300 .f32) (main_arg7 : FVec F S307x512 .f32) (main_arg11 : FVec F S307x512 .f32) (main_arg15 : FVec F S256x256 .f32) (main_arg16 : FVec F S4x64 .f32) (main_arg17 : FVec F S4x64 .f32) (main_arg18 : FVec F S256x256 .f32) (main_arg20 : FVec F S256x256 .f32) (main_arg21 : FVec F S256x128 .f32) (main_arg22 : FVec F S128 .f32) (main_arg23 : FVec F S128x128 .f32) (main_arg24 : FVec F S128 .f32) (main_arg25 : FVec F S3x128x128 .f32) (main_v8 : IVec S4096x5 1) (main_v13 : IVec S4096x5x4 1) (main_v18 : IVec S4096x5x4 1) (main_v19 : FVec F S16384x300 .f32) (main_v20 : FVec F S16384x300 .f32) : IVec S4096x5 1 × IVec S4096x5x4 1 × IVec S4096x5x4 1 × IVec S16384x300 1 × IVec S4096x300 1 × IVec S307x512 1 × IVec S307x512 1 × IVec S256x256 1 × IVec S4x64 1 × IVec S4x64 1 × IVec S256x256 1 × IVec S256x256 1 × IVec S256x128 1 × IVec S128 1 × IVec S128x128 1 × IVec S128 1 × IVec S3x128x128 1 :=
  let main_v21 : IVec S16384x300 1 := cmpf .olt main_v19 main_v20
  let main_v22 : FVec F S4096x300 .f32 := Host.absf main_arg1
  let main_cst_1 : FVec F S_ .f32 := constant S_ .f32 0x7F800000#32
  let main_v23 : FVec F S4096x300 .f32 := broadcastInDim S4096x300 ![] bcast_S_S4096x300 main_cst_1
  let main_v24 : IVec S4096x300 1 := cmpf .olt main_v22 main_v23
  let main_v25 : FVec F S307x512 .f32 := Host.absf main_arg7
  let main_cst_2 : FVec F S_ .f32 := constant S_ .f32 0x7F800000#32
  let main_v26 : FVec F S307x512 .f32 := broadcastInDim S307x512 ![] bcast_S_S307x512 main_cst_2
  let main_v27 : IVec S307x512 1 := cmpf .olt main_v25 main_v26
  let main_v28 : FVec F S307x512 .f32 := Host.absf main_arg11
  let main_cst_3 : FVec F S_ .f32 := constant S_ .f32 0x7F800000#32
  let main_v29 : FVec F S307x512 .f32 := broadcastInDim S307x512 ![] bcast_S_S307x512 main_cst_3
  let main_v30 : IVec S307x512 1 := cmpf .olt main_v28 main_v29
  let main_v31 : FVec F S256x256 .f32 := Host.absf main_arg15
  let main_cst_4 : FVec F S_ .f32 := constant S_ .f32 0x7F800000#32
  let main_v32 : FVec F S256x256 .f32 := broadcastInDim S256x256 ![] bcast_S_S256x256 main_cst_4
  let main_v33 : IVec S256x256 1 := cmpf .olt main_v31 main_v32
  let main_v34 : FVec F S4x64 .f32 := Host.absf main_arg16
  let main_cst_5 : FVec F S_ .f32 := constant S_ .f32 0x7F800000#32
  let main_v35 : FVec F S4x64 .f32 := broadcastInDim S4x64 ![] bcast_S_S4x64 main_cst_5
  let main_v36 : IVec S4x64 1 := cmpf .olt main_v34 main_v35
  let main_v37 : FVec F S4x64 .f32 := Host.absf main_arg17
  let main_cst_6 : FVec F S_ .f32 := constant S_ .f32 0x7F800000#32
  let main_v38 : FVec F S4x64 .f32 := broadcastInDim S4x64 ![] bcast_S_S4x64 main_cst_6
  fn_part2 (F := F) main_arg18 main_arg20 main_arg21 main_arg22 main_arg23 main_arg24 main_arg25 main_v8 main_v13 main_v18 main_v21 main_v24 main_v27 main_v30 main_v33 main_v36 main_v37 main_v38

def fn {F : FTy → Type} [FloatOps F] (main_arg0 : FVec F S16384x300 .f32) (main_arg1 : FVec F S4096x300 .f32) (main_arg2 : FVec F S16384x7 .f32) (main_arg3 : FVec F S4096x7 .f32) (main_arg4 : IVec S20480 32) (main_arg5 : IVec S81920 32) (main_arg6 : IVec S81920 32) (main_arg7 : FVec F S307x512 .f32) (main_arg8 : FVec F S512 .f32) (main_arg9 : FVec F S512x256 .f32) (main_arg10 : FVec F S256 .f32) (main_arg11 : FVec F S307x512 .f32) (main_arg12 : FVec F S512 .f32) (main_arg13 : FVec F S512x256 .f32) (main_arg14 : FVec F S256 .f32) (main_arg15 : FVec F S256x256 .f32) (main_arg16 : FVec F S4x64 .f32) (main_arg17 : FVec F S4x64 .f32) (main_arg18 : FVec F S256x256 .f32) (main_arg19 : FVec F S256 .f32) (main_arg20 : FVec F S256x256 .f32) (main_arg21 : FVec F S256x128 .f32) (main_arg22 : FVec F S128 .f32) (main_arg23 : FVec F S128x128 .f32) (main_arg24 : FVec F S128 .f32) (main_arg25 : FVec F S3x128x128 .f32) (main_arg26 : FVec F S3x128 .f32) (main_arg27 : FVec F S3x128x1 .f32) (main_arg28 : FVec F S3x1 .f32) : IVec S4096x5 1 × IVec S4096x5x4 1 × IVec S4096x5x4 1 × IVec S16384x300 1 × IVec S4096x300 1 × IVec S307x512 1 × IVec S307x512 1 × IVec S256x256 1 × IVec S4x64 1 × IVec S4x64 1 × IVec S256x256 1 × IVec S256x256 1 × IVec S256x128 1 × IVec S128 1 × IVec S128x128 1 × IVec S128 1 × IVec S3x128x128 1 :=
  let main_v0 : IVec S4096x5 32 := iotaInDim S4096x5 32 0
  let main_v1 : IVec S4096x5x4 32 := iotaInDim S4096x5x4 32 0
  let main_v2 : IVec S4096x5x4 32 := iotaInDim S4096x5x4 32 1
  let main_v3 : IVec S4096x5x4 32 := iotaInDim S4096x5x4 32 2
  let main_v4 : IVec S4096x5x4 1 := cmpi .sge main_v3 main_v2
  let main_v5 : IVec S4096x5x4 32 := (extui 32 · natLt_1_32) main_v4
  let main_v6 : IVec S4096x5x4 32 := addi main_v3 main_v5
  let main_v7 : IVec S4096x5 32 := shapeCast S4096x5 main_arg4 shapeCasts_S20480_S4096x5
  let main_v8 : IVec S4096x5 1 := cmpi .eq main_v7 main_v0
  let main_v9 : IVec S4096x5x4 32 := shapeCast S4096x5x4 main_arg5 shapeCasts_S81920_S4096x5x4
  let main_c : IVec S_ 32 := constantI S_ 32 5#32
  let main_v10 : IVec S4096x5x4 32 := broadcastInDim S4096x5x4 ![] bcast_S_S4096x5x4 main_c
  let main_v11 : IVec S4096x5x4 32 := muli main_v10 main_v1
  let main_v12 : IVec S4096x5x4 32 := addi main_v11 main_v2
  let main_v13 : IVec S4096x5x4 1 := cmpi .eq main_v9 main_v12
  let main_v14 : IVec S4096x5x4 32 := shapeCast S4096x5x4 main_arg6 shapeCasts_S81920_S4096x5x4
  let main_c_0 : IVec S_ 32 := constantI S_ 32 5#32
  let main_v15 : IVec S4096x5x4 32 := broadcastInDim S4096x5x4 ![] bcast_S_S4096x5x4 main_c_0
  let main_v16 : IVec S4096x5x4 32 := muli main_v15 main_v1
  let main_v17 : IVec S4096x5x4 32 := addi main_v16 main_v6
  let main_v18 : IVec S4096x5x4 1 := cmpi .eq main_v14 main_v17
  let main_v19 : FVec F S16384x300 .f32 := Host.absf main_arg0
  let main_cst : FVec F S_ .f32 := constant S_ .f32 0x7F800000#32
  let main_v20 : FVec F S16384x300 .f32 := broadcastInDim S16384x300 ![] bcast_S_S16384x300 main_cst
  fn_part1 (F := F) main_arg1 main_arg7 main_arg11 main_arg15 main_arg16 main_arg17 main_arg18 main_arg20 main_arg21 main_arg22 main_arg23 main_arg24 main_arg25 main_v8 main_v13 main_v18 main_v19 main_v20
-- ==== Kernel.lean ====
abbrev S16384x300 : Shape := ⟨2, ![16384, 300]⟩
abbrev S4096x300 : Shape := ⟨2, ![4096, 300]⟩
abbrev S16384x7 : Shape := ⟨2, ![16384, 7]⟩
abbrev S4096x7 : Shape := ⟨2, ![4096, 7]⟩
abbrev S20480 : Shape := ⟨1, ![20480]⟩
abbrev S81920 : Shape := ⟨1, ![81920]⟩
abbrev S307x512 : Shape := ⟨2, ![307, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S4x64 : Shape := ⟨2, ![4, 64]⟩
abbrev S256x128 : Shape := ⟨2, ![256, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S3x128x1 : Shape := ⟨3, ![3, 128, 1]⟩
abbrev S3x1 : Shape := ⟨2, ![3, 1]⟩
abbrev S8x7 : Shape := ⟨2, ![8, 7]⟩
abbrev S7 : Shape := ⟨1, ![7]⟩
abbrev S1x7 : Shape := ⟨2, ![1, 7]⟩
abbrev S4x7 : Shape := ⟨2, ![4, 7]⟩
abbrev S256x1 : Shape := ⟨2, ![256, 1]⟩
abbrev S_ : Shape := ⟨0, ![]⟩
abbrev S4 : Shape := ⟨1, ![4]⟩
abbrev S1x4 : Shape := ⟨2, ![1, 4]⟩
abbrev S256x4 : Shape := ⟨2, ![256, 4]⟩
abbrev S300x512 : Shape := ⟨2, ![300, 512]⟩
abbrev S7x512 : Shape := ⟨2, ![7, 512]⟩
abbrev S1x512 : Shape := ⟨2, ![1, 512]⟩
abbrev S1x256 : Shape := ⟨2, ![1, 256]⟩
abbrev S1x128 : Shape := ⟨2, ![1, 128]⟩
abbrev S1x3 : Shape := ⟨2, ![1, 3]⟩
abbrev S4096x3 : Shape := ⟨2, ![4096, 3]⟩
abbrev S2048x300 : Shape := ⟨2, ![2048, 300]⟩
abbrev S2048x7 : Shape := ⟨2, ![2048, 7]⟩
abbrev S512x300 : Shape := ⟨2, ![512, 300]⟩
abbrev S512x7 : Shape := ⟨2, ![512, 7]⟩
abbrev S512x3 : Shape := ⟨2, ![512, 3]⟩
abbrev S2048x512 : Shape := ⟨2, ![2048, 512]⟩
abbrev S2048x256 : Shape := ⟨2, ![2048, 256]⟩
abbrev S2048 : Shape := ⟨1, ![2048]⟩
abbrev S2048x1 : Shape := ⟨2, ![2048, 1]⟩
abbrev S512x512 : Shape := ⟨2, ![512, 512]⟩
abbrev S512x1 : Shape := ⟨2, ![512, 1]⟩
abbrev S512x1024 : Shape := ⟨2, ![512, 1024]⟩
abbrev S512x4 : Shape := ⟨2, ![512, 4]⟩
abbrev S4x256 : Shape := ⟨2, ![4, 256]⟩
abbrev S512x128 : Shape := ⟨2, ![512, 128]⟩
abbrev S1x128x128 : Shape := ⟨3, ![1, 128, 128]⟩

abbrev nBuf : Space → Nat
  | .hbm => 134
  | .vmem => 52
  | .smem => 0
  | _ => 0

abbrev hbmTy0_0 (i : Nat) : BufTy := match i % 128 with
  | 0 => ⟨S16384x300, .f32⟩
  | 1 => ⟨S4096x300, .f32⟩
  | 2 => ⟨S16384x7, .f32⟩
  | 3 => ⟨S4096x7, .f32⟩
  | 4 => ⟨S20480, .i32⟩
  | 5 => ⟨S81920, .i32⟩
  | 6 => ⟨S81920, .i32⟩
  | 7 => ⟨S307x512, .f32⟩
  | 8 => ⟨S512, .f32⟩
  | 9 => ⟨S512x256, .f32⟩
  | 10 => ⟨S256, .f32⟩
  | 11 => ⟨S307x512, .f32⟩
  | 12 => ⟨S512, .f32⟩
  | 13 => ⟨S512x256, .f32⟩
  | 14 => ⟨S256, .f32⟩
  | 15 => ⟨S256x256, .f32⟩
  | 16 => ⟨S4x64, .f32⟩
  | 17 => ⟨S4x64, .f32⟩
  | 18 => ⟨S256x256, .f32⟩
  | 19 => ⟨S256, .f32⟩
  | 20 => ⟨S256x256, .f32⟩
  | 21 => ⟨S256x128, .f32⟩
  | 22 => ⟨S128, .f32⟩
  | 23 => ⟨S128x128, .f32⟩
  | 24 => ⟨S128, .f32⟩
  | 25 => ⟨S3x128x128, .f32⟩
  | 26 => ⟨S3x128, .f32⟩
  | 27 => ⟨S3x128x1, .f32⟩
  | 28 => ⟨S3x1, .f32⟩
  | 29 => ⟨S8x7, .f32⟩
  | 30 => ⟨S256, .i32⟩
  | 31 => ⟨S256x1, .i32⟩
  | 32 => ⟨S_, .i32⟩
  | 33 => ⟨S_, .i32⟩
  | 34 => ⟨S256x1, .i32⟩
  | 35 => ⟨S256x1, .i32⟩
  | 36 => ⟨S256x1, .i32⟩
  | 37 => ⟨S_, .i32⟩
  | 38 => ⟨S256x1, .i32⟩
  | 39 => ⟨S256x1, .i1⟩
  | 40 => ⟨S256x1, .i32⟩
  | 41 => ⟨S256x1, .i32⟩
  | 42 => ⟨S_, .i32⟩
  | 43 => ⟨S256x1, .i32⟩
  | 44 => ⟨S256x1, .i1⟩
  | 45 => ⟨S256x1, .i1⟩
  | 46 => ⟨S_, .i32⟩
  | 47 => ⟨S256x1, .i32⟩
  | 48 => ⟨S256x1, .i32⟩
  | 49 => ⟨S256x1, .i32⟩
  | 50 => ⟨S4, .i32⟩
  | 51 => ⟨S1x4, .i32⟩
  | 52 => ⟨S256x4, .i32⟩
  | 53 => ⟨S256x4, .i32⟩
  | 54 => ⟨S256x4, .i1⟩
  | 55 => ⟨S256x4, .f32⟩
  | 56 => ⟨S256, .f32⟩
  | 57 => ⟨S256x1, .f32⟩
  | 58 => ⟨S256x4, .f32⟩
  | 59 => ⟨S256x4, .f32⟩
  | 60 => ⟨S256, .f32⟩
  | 61 => ⟨S256x1, .f32⟩
  | 62 => ⟨S256x4, .f32⟩
  | 63 => ⟨S256x4, .f32⟩
  | 64 => ⟨S300x512, .f32⟩
  | 65 => ⟨S300x512, .bf16⟩
  | 66 => ⟨S300x512, .f32⟩
  | 67 => ⟨S300x512, .f32⟩
  | 68 => ⟨S300x512, .bf16⟩
  | 69 => ⟨S7x512, .f32⟩
  | 70 => ⟨S7x512, .bf16⟩
  | 71 => ⟨S7x512, .f32⟩
  | 72 => ⟨S7x512, .f32⟩
  | 73 => ⟨S7x512, .bf16⟩
  | 74 => ⟨S1x512, .f32⟩
  | 75 => ⟨S512x256, .bf16⟩
  | 76 => ⟨S512x256, .f32⟩
  | 77 => ⟨S512x256, .f32⟩
  | 78 => ⟨S512x256, .bf16⟩
  | 79 => ⟨S1x256, .f32⟩
  | 80 => ⟨S300x512, .f32⟩
  | 81 => ⟨S300x512, .bf16⟩
  | 82 => ⟨S300x512, .f32⟩
  | 83 => ⟨S300x512, .f32⟩
  | 84 => ⟨S300x512, .bf16⟩
  | 85 => ⟨S7x512, .f32⟩
  | 86 => ⟨S7x512, .bf16⟩
  | 87 => ⟨S7x512, .f32⟩
  | 88 => ⟨S7x512, .f32⟩
  | 89 => ⟨S7x512, .bf16⟩
  | 90 => ⟨S1x512, .f32⟩
  | 91 => ⟨S512x256, .bf16⟩
  | 92 => ⟨S512x256, .f32⟩
  | 93 => ⟨S512x256, .f32⟩
  | 94 => ⟨S512x256, .bf16⟩
  | 95 => ⟨S1x256, .f32⟩
  | 96 => ⟨S256x256, .bf16⟩
  | 97 => ⟨S256x256, .f32⟩
  | 98 => ⟨S256x256, .f32⟩
  | 99 => ⟨S256x256, .bf16⟩
  | 100 => ⟨S256x4, .bf16⟩
  | 101 => ⟨S256x4, .f32⟩
  | 102 => ⟨S256x4, .f32⟩
  | 103 => ⟨S256x4, .bf16⟩
  | 104 => ⟨S256x4, .bf16⟩
  | 105 => ⟨S256x4, .f32⟩
  | 106 => ⟨S256x4, .f32⟩
  | 107 => ⟨S256x4, .bf16⟩
  | 108 => ⟨S256x256, .bf16⟩
  | 109 => ⟨S256x256, .f32⟩
  | 110 => ⟨S256x256, .f32⟩
  | 111 => ⟨S256x256, .bf16⟩
  | 112 => ⟨S1x256, .f32⟩
  | 113 => ⟨S256x256, .bf16⟩
  | 114 => ⟨S256x256, .f32⟩
  | 115 => ⟨S256x256, .f32⟩
  | 116 => ⟨S256x256, .bf16⟩
  | 117 => ⟨S256x128, .bf16⟩
  | 118 => ⟨S256x128, .f32⟩
  | 119 => ⟨S256x128, .f32⟩
  | 120 => ⟨S256x128, .bf16⟩
  | 121 => ⟨S1x128, .f32⟩
  | 122 => ⟨S128x128, .bf16⟩
  | 123 => ⟨S128x128, .f32⟩
  | 124 => ⟨S128x128, .f32⟩
  | 125 => ⟨S128x128, .bf16⟩
  | 126 => ⟨S1x128, .f32⟩
  | 127 => ⟨S3x128x128, .bf16⟩
  | _ => ⟨S16384x300, .f32⟩

abbrev hbmTy0_1 (i : Nat) : BufTy := match i % 128 with
  | 0 => ⟨S3x128x128, .f32⟩
  | 1 => ⟨S3x128x128, .f32⟩
  | 2 => ⟨S3x128x128, .bf16⟩
  | 3 => ⟨S3x128, .f32⟩
  | 4 => ⟨S1x3, .f32⟩
  | 5 => ⟨S4096x3, .f32⟩
  | _ => ⟨S16384x300, .f32⟩

abbrev hbmTy (i : Nat) : BufTy := match i / 128 with
  | 0 => hbmTy0_0 i
  | 1 => hbmTy0_1 i
  | _ => ⟨S16384x300, .f32⟩

abbrev bufTy : (tb : Table) → Fin (tcTables nBuf tb) → BufTy
  | .hbm, ⟨i, _⟩ => hbmTy i
  | .local _ .vmem, ⟨0, _⟩ => ⟨S16384x7, .f32⟩
  | .local _ .vmem, ⟨1, _⟩ => ⟨S4096x7, .f32⟩
  | .local _ .vmem, ⟨2, _⟩ => ⟨S8x7, .f32⟩
  | .local _ .vmem, ⟨3, _⟩ => ⟨S2048x300, .f32⟩
  | .local _ .vmem, ⟨4, _⟩ => ⟨S2048x300, .f32⟩
  | .local _ .vmem, ⟨5, _⟩ => ⟨S2048x7, .f32⟩
  | .local _ .vmem, ⟨6, _⟩ => ⟨S2048x7, .f32⟩
  | .local _ .vmem, ⟨7, _⟩ => ⟨S512x300, .f32⟩
  | .local _ .vmem, ⟨8, _⟩ => ⟨S512x300, .f32⟩
  | .local _ .vmem, ⟨9, _⟩ => ⟨S512x7, .f32⟩
  | .local _ .vmem, ⟨10, _⟩ => ⟨S512x7, .f32⟩
  | .local _ .vmem, ⟨11, _⟩ => ⟨S8x7, .f32⟩
  | .local _ .vmem, ⟨12, _⟩ => ⟨S300x512, .bf16⟩
  | .local _ .vmem, ⟨13, _⟩ => ⟨S300x512, .bf16⟩
  | .local _ .vmem, ⟨14, _⟩ => ⟨S7x512, .bf16⟩
  | .local _ .vmem, ⟨15, _⟩ => ⟨S7x512, .bf16⟩
  | .local _ .vmem, ⟨16, _⟩ => ⟨S1x512, .f32⟩
  | .local _ .vmem, ⟨17, _⟩ => ⟨S512x256, .bf16⟩
  | .local _ .vmem, ⟨18, _⟩ => ⟨S512x256, .bf16⟩
  | .local _ .vmem, ⟨19, _⟩ => ⟨S1x256, .f32⟩
  | .local _ .vmem, ⟨20, _⟩ => ⟨S300x512, .bf16⟩
  | .local _ .vmem, ⟨21, _⟩ => ⟨S300x512, .bf16⟩
  | .local _ .vmem, ⟨22, _⟩ => ⟨S7x512, .bf16⟩
  | .local _ .vmem, ⟨23, _⟩ => ⟨S7x512, .bf16⟩
  | .local _ .vmem, ⟨24, _⟩ => ⟨S1x512, .f32⟩
  | .local _ .vmem, ⟨25, _⟩ => ⟨S512x256, .bf16⟩
  | .local _ .vmem, ⟨26, _⟩ => ⟨S512x256, .bf16⟩
  | .local _ .vmem, ⟨27, _⟩ => ⟨S1x256, .f32⟩
  | .local _ .vmem, ⟨28, _⟩ => ⟨S256x256, .bf16⟩
  | .local _ .vmem, ⟨29, _⟩ => ⟨S256x256, .bf16⟩
  | .local _ .vmem, ⟨30, _⟩ => ⟨S256x4, .bf16⟩
  | .local _ .vmem, ⟨31, _⟩ => ⟨S256x4, .bf16⟩
  | .local _ .vmem, ⟨32, _⟩ => ⟨S256x4, .bf16⟩
  | .local _ .vmem, ⟨33, _⟩ => ⟨S256x4, .bf16⟩
  | .local _ .vmem, ⟨34, _⟩ => ⟨S256x256, .bf16⟩
  | .local _ .vmem, ⟨35, _⟩ => ⟨S256x256, .bf16⟩
  | .local _ .vmem, ⟨36, _⟩ => ⟨S1x256, .f32⟩
  | .local _ .vmem, ⟨37, _⟩ => ⟨S256x256, .bf16⟩
  | .local _ .vmem, ⟨38, _⟩ => ⟨S256x256, .bf16⟩
  | .local _ .vmem, ⟨39, _⟩ => ⟨S256x128, .bf16⟩
  | .local _ .vmem, ⟨40, _⟩ => ⟨S256x128, .bf16⟩
  | .local _ .vmem, ⟨41, _⟩ => ⟨S1x128, .f32⟩
  | .local _ .vmem, ⟨42, _⟩ => ⟨S128x128, .bf16⟩
  | .local _ .vmem, ⟨43, _⟩ => ⟨S128x128, .bf16⟩
  | .local _ .vmem, ⟨44, _⟩ => ⟨S1x128, .f32⟩
  | .local _ .vmem, ⟨45, _⟩ => ⟨S3x128x128, .bf16⟩
  | .local _ .vmem, ⟨46, _⟩ => ⟨S3x128x128, .bf16⟩
  | .local _ .vmem, ⟨47, _⟩ => ⟨S3x128, .f32⟩
  | .local _ .vmem, ⟨48, _⟩ => ⟨S3x128, .f32⟩
  | .local _ .vmem, ⟨49, _⟩ => ⟨S1x3, .f32⟩
  | .local _ .vmem, ⟨50, _⟩ => ⟨S512x3, .f32⟩
  | .local _ .vmem, ⟨51, _⟩ => ⟨S512x3, .f32⟩
  | _, _ => ⟨S16384x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg15_0 : Ref sig .tc := ⟨.vmem, 22, rfl⟩
abbrev cc1_stg16_0 : Ref sig .tc := ⟨.vmem, 23, rfl⟩
abbrev cc1_stg17_0 : Ref sig .tc := ⟨.vmem, 24, rfl⟩
abbrev cc1_stg18_0 : Ref sig .tc := ⟨.vmem, 25, rfl⟩
abbrev cc1_stg19_0 : Ref sig .tc := ⟨.vmem, 26, rfl⟩
abbrev cc1_stg20_0 : Ref sig .tc := ⟨.vmem, 27, rfl⟩
abbrev cc1_stg21_0 : Ref sig .tc := ⟨.vmem, 28, rfl⟩
abbrev cc1_stg22_0 : Ref sig .tc := ⟨.vmem, 29, rfl⟩
abbrev cc1_stg23_0 : Ref sig .tc := ⟨.vmem, 30, rfl⟩
abbrev cc1_stg24_0 : Ref sig .tc := ⟨.vmem, 31, rfl⟩
abbrev cc1_stg25_0 : Ref sig .tc := ⟨.vmem, 32, rfl⟩
abbrev cc1_stg26_0 : Ref sig .tc := ⟨.vmem, 33, rfl⟩
abbrev cc1_stg27_0 : Ref sig .tc := ⟨.vmem, 34, rfl⟩
abbrev cc1_stg28_0 : Ref sig .tc := ⟨.vmem, 35, rfl⟩
abbrev cc1_stg29_0 : Ref sig .tc := ⟨.vmem, 36, rfl⟩
abbrev cc1_stg30_0 : Ref sig .tc := ⟨.vmem, 37, rfl⟩
abbrev cc1_stg31_0 : Ref sig .tc := ⟨.vmem, 38, rfl⟩
abbrev cc1_stg32_0 : Ref sig .tc := ⟨.vmem, 39, rfl⟩
abbrev cc1_stg33_0 : Ref sig .tc := ⟨.vmem, 40, rfl⟩
abbrev cc1_stg34_0 : Ref sig .tc := ⟨.vmem, 41, rfl⟩
abbrev cc1_stg35_0 : Ref sig .tc := ⟨.vmem, 42, rfl⟩
abbrev cc1_stg36_0 : Ref sig .tc := ⟨.vmem, 43, rfl⟩
abbrev cc1_stg37_0 : Ref sig .tc := ⟨.vmem, 44, rfl⟩
abbrev cc1_stg38_0 : Ref sig .tc := ⟨.vmem, 45, rfl⟩
abbrev cc1_stg39_0 : Ref sig .tc := ⟨.vmem, 46, rfl⟩
abbrev cc1_stg40_0 : Ref sig .tc := ⟨.vmem, 47, rfl⟩
abbrev cc1_stg41_0 : Ref sig .tc := ⟨.vmem, 48, rfl⟩
abbrev cc1_stg42_0 : Ref sig .tc := ⟨.vmem, 49, rfl⟩
abbrev cc1_stg43_0 : Ref sig .tc := ⟨.vmem, 50, rfl⟩
abbrev cc1_stg43_1 : Ref sig .tc := ⟨.vmem, 51, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem14_0 : DmaSem sig := 21
abbrev cc1_sem15_0 : DmaSem sig := 22
abbrev cc1_sem16_0 : DmaSem sig := 23
abbrev cc1_sem17_0 : DmaSem sig := 24
abbrev cc1_sem18_0 : DmaSem sig := 25
abbrev cc1_sem19_0 : DmaSem sig := 26
abbrev cc1_sem20_0 : DmaSem sig := 27
abbrev cc1_sem21_0 : DmaSem sig := 28
abbrev cc1_sem22_0 : DmaSem sig := 29
abbrev cc1_sem23_0 : DmaSem sig := 30
abbrev cc1_sem24_0 : DmaSem sig := 31
abbrev cc1_sem25_0 : DmaSem sig := 32
abbrev cc1_sem26_0 : DmaSem sig := 33
abbrev cc1_sem27_0 : DmaSem sig := 34
abbrev cc1_sem28_0 : DmaSem sig := 35
abbrev cc1_sem29_0 : DmaSem sig := 36
abbrev cc1_sem30_0 : DmaSem sig := 37
abbrev cc1_sem31_0 : DmaSem sig := 38
abbrev cc1_sem32_0 : DmaSem sig := 39
abbrev cc1_sem33_0 : DmaSem sig := 40
abbrev cc1_sem34_0 : DmaSem sig := 41
abbrev cc1_sem35_0 : DmaSem sig := 42
abbrev cc1_sem36_0 : DmaSem sig := 43
abbrev cc1_sem37_0 : DmaSem sig := 44
abbrev cc1_sem38_0 : DmaSem sig := 45
abbrev cc1_sem39_0 : DmaSem sig := 46
abbrev cc1_sem40_0 : DmaSem sig := 47
abbrev cc1_sem41_0 : DmaSem sig := 48
abbrev cc1_sem42_0 : DmaSem sig := 49
abbrev cc1_sem43_0 : DmaSem sig := 50
abbrev cc1_sem43_1 : DmaSem sig := 51

abbrev nD : Nat := 1
abbrev τ : Topo := Topo.v7x

variable {F : FTy → Type} [FloatOps F]

abbrev grid0 : Pipeline.Grid := .none

abbrev stage0_0 : Fin 1 → Memref sig .tc .vmem S16384x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_27 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_28 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_29 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_30 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_31 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_32 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_33 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_34 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_35 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_36 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_37 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_38 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_39 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_40 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_41 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_42 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_43 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x300 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x7 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S300x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S300x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S7x512 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S7x512 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S512x256 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S512x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S300x512 .bf16 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S300x512 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S7x512 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S7x512 .bf16 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x512 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S512x256 .bf16 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S512x256 .bf16 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S256x256 .bf16 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S256x256 .bf16 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S256x4 .bf16 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S256x4 .bf16 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S256x4 .bf16 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S256x4 .bf16 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 1 → Memref sig .tc .vmem S256x256 .bf16 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))
abbrev reads1_27 : Fin grid1.rank → Bool := ![false]

abbrev stage1_28 : Fin 1 → Memref sig .tc .vmem S256x256 .bf16 := fun | 0 => Memref.whole cc1_stg28_0 | ⟨_ + 1, h⟩ => absurd h (Nat.not_lt.2 (Nat.le_add_left _ _))
abbrev sem1_28 : Fin 1 → DmaSem sig := fun | 0 => cc1_sem28_0 | ⟨_ + 1, h⟩ => absurd h (Nat.not_lt.2 (Nat.le_add_left _ _))
abbrev reads1_28 : Fin grid1.rank → Bool := ![false]

abbrev stage1_29 : Fin 1 → Memref sig .tc .vmem S1x256 .f32 := fun | 0 => Memref.whole cc1_stg29_0 | ⟨_ + 1, h⟩ => absurd h (Nat.not_lt.2 (Nat.le_add_left _ _))
abbrev sem1_29 : Fin 1 → DmaSem sig := fun | 0 => cc1_sem29_0 | ⟨_ + 1, h⟩ => absurd h (Nat.not_lt.2 (Nat.le_add_left _ _))
abbrev reads1_29 : Fin grid1.rank → Bool := ![false]

abbrev stage1_30 : Fin 1 → Memref sig .tc .vmem S256x256 .bf16 := fun | 0 => Memref.whole cc1_stg30_0 | ⟨_ + 1, h⟩ => absurd h (Nat.not_lt.2 (Nat.le_add_left _ _))
abbrev sem1_30 : Fin 1 → DmaSem sig := fun | 0 => cc1_sem30_0 | ⟨_ + 1, h⟩ => absurd h (Nat.not_lt.2 (Nat.le_add_left _ _))
abbrev reads1_30 : Fin grid1.rank → Bool := ![false]

abbrev stage1_31 : Fin 1 → Memref sig .tc .vmem S256x256 .bf16 := fun | 0 => Memref.whole cc1_stg31_0 | ⟨_ + 1, h⟩ => absurd h (Nat.not_lt.2 (Nat.le_add_left _ _))
abbrev sem1_31 : Fin 1 → DmaSem sig := fun | 0 => cc1_sem31_0 | ⟨_ + 1, h⟩ => absurd h (Nat.not_lt.2 (Nat.le_add_left _ _))
abbrev reads1_31 : Fin grid1.rank → Bool := ![false]

abbrev stage1_32 : Fin 1 → Memref sig .tc .vmem S256x128 .bf16 := fun | 0 => Memref.whole cc1_stg32_0 | ⟨_ + 1, h⟩ => absurd h (Nat.not_lt.2 (Nat.le_add_left _ _))
abbrev sem1_32 : Fin 1 → DmaSem sig := fun | 0 => cc1_sem32_0 | ⟨_ + 1, h⟩ => absurd h (Nat.not_lt.2 (Nat.le_add_left _ _))
abbrev reads1_32 : Fin grid1.rank → Bool := ![false]

abbrev stage1_33 : Fin 1 → Memref sig .tc .vmem S256x128 .bf16 := fun | 0 => Memref.whole cc1_stg33_0 | ⟨_ + 1, h⟩ => absurd h (Nat.not_lt.2 (Nat.le_add_left _ _))
abbrev sem1_33 : Fin 1 → DmaSem sig := fun | 0 => cc1_sem33_0 | ⟨_ + 1, h⟩ => absurd h (Nat.not_lt.2 (Nat.le_add_left _ _))
abbrev reads1_33 : Fin grid1.rank → Bool := ![false]

abbrev stage1_34 : Fin 1 → Memref sig .tc .vmem S1x128 .f32 := fun | 0 => Memref.whole cc1_stg34_0 | ⟨_ + 1, h⟩ => absurd h (Nat.not_lt.2 (Nat.le_add_left _ _))
abbrev sem1_34 : Fin 1 → DmaSem sig := fun | 0 => cc1_sem34_0 | ⟨_ + 1, h⟩ => absurd h (Nat.not_lt.2 (Nat.le_add_left _ _))
abbrev reads1_34 : Fin grid1.rank → Bool := ![false]

abbrev stage1_35 : Fin 1 → Memref sig .tc .vmem S128x128 .bf16 := fun | 0 => Memref.whole cc1_stg35_0 | ⟨_ + 1, h⟩ => absurd h (Nat.not_lt.2 (Nat.le_add_left _ _))
abbrev sem1_35 : Fin 1 → DmaSem sig := fun | 0 => cc1_sem35_0 | ⟨_ + 1, h⟩ => absurd h (Nat.not_lt.2 (Nat.le_add_left _ _))
abbrev reads1_35 : Fin grid1.rank → Bool := ![false]

abbrev stage1_36 : Fin 1 → Memref sig .tc .vmem S128x128 .bf16 := fun | 0 => Memref.whole cc1_stg36_0 | ⟨_ + 1, h⟩ => absurd h (Nat.not_lt.2 (Nat.le_add_left _ _))
abbrev sem1_36 : Fin 1 → DmaSem sig := fun | 0 => cc1_sem36_0 | ⟨_ + 1, h⟩ => absurd h (Nat.not_lt.2 (Nat.le_add_left _ _))
abbrev reads1_36 : Fin grid1.rank → Bool := ![false]

abbrev stage1_37 : Fin 1 → Memref sig .tc .vmem S1x128 .f32 := fun | 0 => Memref.whole cc1_stg37_0 | ⟨_ + 1, h⟩ => absurd h (Nat.not_lt.2 (Nat.le_add_left _ _))
abbrev sem1_37 : Fin 1 → DmaSem sig := fun | 0 => cc1_sem37_0 | ⟨_ + 1, h⟩ => absurd h (Nat.not_lt.2 (Nat.le_add_left _ _))
abbrev reads1_37 : Fin grid1.rank → Bool := ![false]

abbrev stage1_38 : Fin 1 → Memref sig .tc .vmem S3x128x128 .bf16 := fun | 0 => Memref.whole cc1_stg38_0 | ⟨_ + 1, h⟩ => absurd h (Nat.not_lt.2 (Nat.le_add_left _ _))
abbrev sem1_38 : Fin 1 → DmaSem sig := fun | 0 => cc1_sem38_0 | ⟨_ + 1, h⟩ => absurd h (Nat.not_lt.2 (Nat.le_add_left _ _))
abbrev reads1_38 : Fin grid1.rank → Bool := ![false]

abbrev stage1_39 : Fin 1 → Memref sig .tc .vmem S3x128x128 .bf16 := fun | 0 => Memref.whole cc1_stg39_0 | ⟨_ + 1, h⟩ => absurd h (Nat.not_lt.2 (Nat.le_add_left _ _))
abbrev sem1_39 : Fin 1 → DmaSem sig := fun | 0 => cc1_sem39_0 | ⟨_ + 1, h⟩ => absurd h (Nat.not_lt.2 (Nat.le_add_left _ _))
abbrev reads1_39 : Fin grid1.rank → Bool := ![false]

abbrev stage1_40 : Fin 1 → Memref sig .tc .vmem S3x128 .f32 := fun | 0 => Memref.whole cc1_stg40_0 | ⟨_ + 1, h⟩ => absurd h (Nat.not_lt.2 (Nat.le_add_left _ _))
abbrev sem1_40 : Fin 1 → DmaSem sig := fun | 0 => cc1_sem40_0 | ⟨_ + 1, h⟩ => absurd h (Nat.not_lt.2 (Nat.le_add_left _ _))
abbrev reads1_40 : Fin grid1.rank → Bool := ![false]

abbrev stage1_41 : Fin 1 → Memref sig .tc .vmem S3x128 .f32 := fun | 0 => Memref.whole cc1_stg41_0 | ⟨_ + 1, h⟩ => absurd h (Nat.not_lt.2 (Nat.le_add_left _ _))
abbrev sem1_41 : Fin 1 → DmaSem sig := fun | 0 => cc1_sem41_0 | ⟨_ + 1, h⟩ => absurd h (Nat.not_lt.2 (Nat.le_add_left _ _))
abbrev reads1_41 : Fin grid1.rank → Bool := ![false]

abbrev stage1_42 : Fin 1 → Memref sig .tc .vmem S1x3 .f32 := fun | 0 => Memref.whole cc1_stg42_0 | ⟨_ + 1, h⟩ => absurd h (Nat.not_lt.2 (Nat.le_add_left _ _))
abbrev sem1_42 : Fin 1 → DmaSem sig := fun | 0 => cc1_sem42_0 | ⟨_ + 1, h⟩ => absurd h (Nat.not_lt.2 (Nat.le_add_left _ _))
abbrev reads1_42 : Fin grid1.rank → Bool := ![false]

abbrev stage1_43 : Fin 2 → Memref sig .tc .vmem S512x3 .f32 := fun | 0 => Memref.whole cc1_stg43_0 | 1 => Memref.whole cc1_stg43_1 | ⟨_ + 2, h⟩ => absurd h (Nat.not_lt.2 (Nat.le_add_left _ _))
abbrev sem1_43 : Fin 2 → DmaSem sig := fun | 0 => cc1_sem43_0 | 1 => cc1_sem43_1 | ⟨_ + 2, h⟩ => absurd h (Nat.not_lt.2 (Nat.le_add_left _ _))
abbrev reads1_43 : Fin grid1.rank → Bool := ![true]
-- ==== KernelIdeal.lean ====
variable {F : FTy → Type} [FloatOps F] [Named F]
def κ : String → Option EReal := fun
  | "five" => some ((45035996282712159 / 9007199254740992 : ℝ) : EReal)
  | _ => none
-- ==== ReferenceIdeal.lean ====
abbrev S16384x300 : Shape := ⟨2, ![16384, 300]⟩
abbrev S4096x300 : Shape := ⟨2, ![4096, 300]⟩
abbrev S16384x7 : Shape := ⟨2, ![16384, 7]⟩
abbrev S4096x7 : Shape := ⟨2, ![4096, 7]⟩
abbrev S20480 : Shape := ⟨1, ![20480]⟩
abbrev S81920 : Shape := ⟨1, ![81920]⟩
abbrev S307x512 : Shape := ⟨2, ![307, 512]⟩
abbrev S512 : Shape := ⟨1, ![512]⟩
abbrev S512x256 : Shape := ⟨2, ![512, 256]⟩
abbrev S256 : Shape := ⟨1, ![256]⟩
abbrev S256x256 : Shape := ⟨2, ![256, 256]⟩
abbrev S4x64 : Shape := ⟨2, ![4, 64]⟩
abbrev S256x128 : Shape := ⟨2, ![256, 128]⟩
abbrev S128 : Shape := ⟨1, ![128]⟩
abbrev S128x128 : Shape := ⟨2, ![128, 128]⟩
abbrev S3x128x128 : Shape := ⟨3, ![3, 128, 128]⟩
abbrev S3x128 : Shape := ⟨2, ![3, 128]⟩
abbrev S3x128x1 : Shape := ⟨3, ![3, 128, 1]⟩
abbrev S3x1 : Shape := ⟨2, ![3, 1]⟩
abbrev S_ : Shape := ⟨0, ![]⟩
abbrev S7 : Shape := ⟨1, ![7]⟩
abbrev S1x7 : Shape := ⟨2, ![1, 7]⟩
abbrev S16384x307 : Shape := ⟨2, ![16384, 307]⟩
abbrev S16384x512 : Shape := ⟨2, ![16384, 512]⟩
abbrev S1x512 : Shape := ⟨2, ![1, 512]⟩
abbrev S16384x256 : Shape := ⟨2, ![16384, 256]⟩
abbrev S1x256 : Shape := ⟨2, ![1, 256]⟩
abbrev S16384 : Shape := ⟨1, ![16384]⟩
abbrev S16384x1 : Shape := ⟨2, ![16384, 1]⟩
abbrev S4096x307 : Shape := ⟨2, ![4096, 307]⟩
abbrev S4096x512 : Shape := ⟨2, ![4096, 512]⟩
abbrev S4096x256 : Shape := ⟨2, ![4096, 256]⟩
abbrev S4096 : Shape := ⟨1, ![4096]⟩
abbrev S4096x1 : Shape := ⟨2, ![4096, 1]⟩
abbrev S20479 : Shape := ⟨1, ![20479]⟩
abbrev S1 : Shape := ⟨1, ![1]⟩
abbrev S20480x1 : Shape := ⟨2, ![20480, 1]⟩
abbrev S20480x256 : Shape := ⟨2, ![20480, 256]⟩
abbrev S20480x4x64 : Shape := ⟨3, ![20480, 4, 64]⟩
abbrev S1x4x64 : Shape := ⟨3, ![1, 4, 64]⟩
abbrev S20480x4 : Shape := ⟨2, ![20480, 4]⟩
abbrev S81920x1 : Shape := ⟨2, ![81920, 1]⟩
abbrev S81920x4 : Shape := ⟨2, ![81920, 4]⟩
abbrev S1x81920 : Shape := ⟨2, ![1, 81920]⟩
abbrev S20480x81920 : Shape := ⟨2, ![20480, 81920]⟩
abbrev S20480x81920x1 : Shape := ⟨3, ![20480, 81920, 1]⟩
abbrev S1x81920x4 : Shape := ⟨3, ![1, 81920, 4]⟩
abbrev S20480x81920x4 : Shape := ⟨3, ![20480, 81920, 4]⟩
abbrev S81920x4x1 : Shape := ⟨3, ![81920, 4, 1]⟩
abbrev S81920x4x64 : Shape := ⟨3, ![81920, 4, 64]⟩
abbrev S4096x128 : Shape := ⟨2, ![4096, 128]⟩
abbrev S1x128 : Shape := ⟨2, ![1, 128]⟩
abbrev S3x128x4096 : Shape := ⟨3, ![3, 128, 4096]⟩
abbrev S3x4096x128 : Shape := ⟨3, ![3, 4096, 128]⟩
abbrev S3x1x128 : Shape := ⟨3, ![3, 1, 128]⟩
abbrev S3x4096x1 : Shape := ⟨3, ![3, 4096, 1]⟩
abbrev S3x1x1 : Shape := ⟨3, ![3, 1, 1]⟩
abbrev S3x4096 : Shape := ⟨2, ![3, 4096]⟩
abbrev S4096x3 : Shape := ⟨2, ![4096, 3]⟩

abbrev nBuf : Space → Nat
  | .hbm => 366
  | .vmem => 0
  | .smem => 0
  | _ => 0

abbrev hbmTy0_0 (i : Nat) : BufTy := match i % 128 with
  | 0 => ⟨S16384x300, .f32⟩
  | 1 => ⟨S4096x300, .f32⟩
  | 2 => ⟨S16384x7, .f32⟩
  | 3 => ⟨S4096x7, .f32⟩
  | 4 => ⟨S20480, .i32⟩
  | 5 => ⟨S81920, .i32⟩
  | 6 => ⟨S81920, .i32⟩
  | 7 => ⟨S307x512, .f32⟩
  | 8 => ⟨S512, .f32⟩
  | 9 => ⟨S512x256, .f32⟩
  | 10 => ⟨S256, .f32⟩
  | 11 => ⟨S307x512, .f32⟩
  | 12 => ⟨S512, .f32⟩
  | 13 => ⟨S512x256, .f32⟩
  | 14 => ⟨S256, .f32⟩
  | 15 => ⟨S256x256, .f32⟩
  | 16 => ⟨S4x64, .f32⟩
  | 17 => ⟨S4x64, .f32⟩
  | 18 => ⟨S256x256, .f32⟩
  | 19 => ⟨S256, .f32⟩
  | 20 => ⟨S256x256, .f32⟩
  | 21 => ⟨S256x128, .f32⟩
  | 22 => ⟨S128, .f32⟩
  | 23 => ⟨S128x128, .f32⟩
  | 24 => ⟨S128, .f32⟩
  | 25 => ⟨S3x128x128, .f32⟩
  | 26 => ⟨S3x128, .f32⟩
  | 27 => ⟨S3x128x1, .f32⟩
  | 28 => ⟨S3x1, .f32⟩
  | 29 => ⟨S_, .f32⟩
  | 30 => ⟨S7, .f32⟩
  | 31 => ⟨S1x7, .f32⟩
  | 32 => ⟨S_, .f32⟩
  | 33 => ⟨S1x7, .f32⟩
  | 34 => ⟨S1x7, .f32⟩
  | 35 => ⟨S_, .i32⟩
  | 36 => ⟨S_, .f32⟩
  | 37 => ⟨S7, .f32⟩
  | 38 => ⟨S1x7, .f32⟩
  | 39 => ⟨S_, .f32⟩
  | 40 => ⟨S1x7, .f32⟩
  | 41 => ⟨S1x7, .f32⟩
  | 42 => ⟨S16384x7, .f32⟩
  | 43 => ⟨S16384x7, .f32⟩
  | 44 => ⟨S16384x7, .f32⟩
  | 45 => ⟨S_, .f32⟩
  | 46 => ⟨S_, .f32⟩
  | 47 => ⟨S_, .f32⟩
  | 48 => ⟨S_, .f32⟩
  | 49 => ⟨S7, .f32⟩
  | 50 => ⟨S1x7, .f32⟩
  | 51 => ⟨S1x7, .f32⟩
  | 52 => ⟨S1x7, .f32⟩
  | 53 => ⟨S_, .f32⟩
  | 54 => ⟨S_, .i1⟩
  | 55 => ⟨S_, .f32⟩
  | 56 => ⟨S_, .f32⟩
  | 57 => ⟨S1x7, .f32⟩
  | 58 => ⟨S1x7, .f32⟩
  | 59 => ⟨S1x7, .f32⟩
  | 60 => ⟨S_, .f32⟩
  | 61 => ⟨S1x7, .f32⟩
  | 62 => ⟨S1x7, .f32⟩
  | 63 => ⟨S16384x7, .f32⟩
  | 64 => ⟨S16384x7, .f32⟩
  | 65 => ⟨S16384x7, .f32⟩
  | 66 => ⟨S16384x7, .f32⟩
  | 67 => ⟨S16384x307, .f32⟩
  | 68 => ⟨S16384x512, .f32⟩
  | 69 => ⟨S1x512, .f32⟩
  | 70 => ⟨S16384x512, .f32⟩
  | 71 => ⟨S16384x512, .f32⟩
  | 72 => ⟨S_, .f32⟩
  | 73 => ⟨S16384x512, .f32⟩
  | 74 => ⟨S16384x512, .f32⟩
  | 75 => ⟨S16384x256, .f32⟩
  | 76 => ⟨S1x256, .f32⟩
  | 77 => ⟨S16384x256, .f32⟩
  | 78 => ⟨S16384x256, .f32⟩
  | 79 => ⟨S16384x256, .f32⟩
  | 80 => ⟨S_, .f32⟩
  | 81 => ⟨S16384, .f32⟩
  | 82 => ⟨S16384x1, .f32⟩
  | 83 => ⟨S16384x1, .f32⟩
  | 84 => ⟨S_, .f32⟩
  | 85 => ⟨S16384x1, .f32⟩
  | 86 => ⟨S16384x1, .f32⟩
  | 87 => ⟨S16384x256, .f32⟩
  | 88 => ⟨S16384x256, .f32⟩
  | 89 => ⟨S_, .f32⟩
  | 90 => ⟨S7, .f32⟩
  | 91 => ⟨S1x7, .f32⟩
  | 92 => ⟨S_, .f32⟩
  | 93 => ⟨S1x7, .f32⟩
  | 94 => ⟨S1x7, .f32⟩
  | 95 => ⟨S_, .i32⟩
  | 96 => ⟨S_, .f32⟩
  | 97 => ⟨S7, .f32⟩
  | 98 => ⟨S1x7, .f32⟩
  | 99 => ⟨S_, .f32⟩
  | 100 => ⟨S1x7, .f32⟩
  | 101 => ⟨S1x7, .f32⟩
  | 102 => ⟨S4096x7, .f32⟩
  | 103 => ⟨S4096x7, .f32⟩
  | 104 => ⟨S4096x7, .f32⟩
  | 105 => ⟨S_, .f32⟩
  | 106 => ⟨S_, .f32⟩
  | 107 => ⟨S_, .f32⟩
  | 108 => ⟨S_, .f32⟩
  | 109 => ⟨S7, .f32⟩
  | 110 => ⟨S1x7, .f32⟩
  | 111 => ⟨S1x7, .f32⟩
  | 112 => ⟨S1x7, .f32⟩
  | 113 => ⟨S_, .f32⟩
  | 114 => ⟨S_, .i1⟩
  | 115 => ⟨S_, .f32⟩
  | 116 => ⟨S_, .f32⟩
  | 117 => ⟨S1x7, .f32⟩
  | 118 => ⟨S1x7, .f32⟩
  | 119 => ⟨S1x7, .f32⟩
  | 120 => ⟨S_, .f32⟩
  | 121 => ⟨S1x7, .f32⟩
  | 122 => ⟨S1x7, .f32⟩
  | 123 => ⟨S4096x7, .f32⟩
  | 124 => ⟨S4096x7, .f32⟩
  | 125 => ⟨S4096x7, .f32⟩
  | 126 => ⟨S4096x7, .f32⟩
  | 127 => ⟨S4096x307, .f32⟩
  | _ => ⟨S16384x300, .f32⟩

abbrev hbmTy0_1 (i : Nat) : BufTy := match i % 128 with
  | 0 => ⟨S4096x512, .f32⟩
  | 1 => ⟨S1x512, .f32⟩
  | 2 => ⟨S4096x512, .f32⟩
  | 3 => ⟨S4096x512, .f32⟩
  | 4 => ⟨S_, .f32⟩
  | 5 => ⟨S4096x512, .f32⟩
  | 6 => ⟨S4096x512, .f32⟩
  | 7 => ⟨S4096x256, .f32⟩
  | 8 => ⟨S1x256, .f32⟩
  | 9 => ⟨S4096x256, .f32⟩
  | 10 => ⟨S4096x256, .f32⟩
  | 11 => ⟨S4096x256, .f32⟩
  | 12 => ⟨S_, .f32⟩
  | 13 => ⟨S4096, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x256, .f32⟩
  | 20 => ⟨S4096x256, .f32⟩
  | 21 => ⟨S20479, .i32⟩
  | 22 => ⟨S20479, .i32⟩
  | 23 => ⟨S20479, .i1⟩
  | 24 => ⟨S_, .i1⟩
  | 25 => ⟨S1, .i1⟩
  | 26 => ⟨S20480, .i1⟩
  | 27 => ⟨S20480, .i1⟩
  | 28 => ⟨S20480, .i32⟩
  | 29 => ⟨S_, .i32⟩
  | 30 => ⟨S_, .i32⟩
  | 31 => ⟨S20480, .i32⟩
  | 32 => ⟨S_, .i32⟩
  | 33 => ⟨S20480, .i32⟩
  | 34 => ⟨S20480, .i32⟩
  | 35 => ⟨S_, .i32⟩
  | 36 => ⟨S_, .i32⟩
  | 37 => ⟨S_, .i32⟩
  | 38 => ⟨S20480, .i32⟩
  | 39 => ⟨S20480, .i32⟩
  | 40 => ⟨S_, .i32⟩
  | 41 => ⟨S20480, .i32⟩
  | 42 => ⟨S20480, .i32⟩
  | 43 => ⟨S20480x1, .i1⟩
  | 44 => ⟨S_, .i32⟩
  | 45 => ⟨S20480, .i32⟩
  | 46 => ⟨S20480, .i1⟩
  | 47 => ⟨S_, .i32⟩
  | 48 => ⟨S20480, .i32⟩
  | 49 => ⟨S20480, .i32⟩
  | 50 => ⟨S20480, .i32⟩
  | 51 => ⟨S20480x1, .i32⟩
  | 52 => ⟨S20480x256, .f32⟩
  | 53 => ⟨S_, .i32⟩
  | 54 => ⟨S20480, .i32⟩
  | 55 => ⟨S20480, .i1⟩
  | 56 => ⟨S_, .i32⟩
  | 57 => ⟨S20480, .i32⟩
  | 58 => ⟨S20480, .i32⟩
  | 59 => ⟨S20480, .i32⟩
  | 60 => ⟨S20480x1, .i32⟩
  | 61 => ⟨S20480x256, .f32⟩
  | 62 => ⟨S20480x256, .i1⟩
  | 63 => ⟨S20480x256, .f32⟩
  | 64 => ⟨S20480x256, .f32⟩
  | 65 => ⟨S20480x4x64, .f32⟩
  | 66 => ⟨S1x4x64, .f32⟩
  | 67 => ⟨S20480x4x64, .f32⟩
  | 68 => ⟨S20480x4x64, .f32⟩
  | 69 => ⟨S_, .f32⟩
  | 70 => ⟨S20480x4, .f32⟩
  | 71 => ⟨S1x4x64, .f32⟩
  | 72 => ⟨S20480x4x64, .f32⟩
  | 73 => ⟨S20480x4x64, .f32⟩
  | 74 => ⟨S_, .f32⟩
  | 75 => ⟨S20480x4, .f32⟩
  | 76 => ⟨S_, .i32⟩
  | 77 => ⟨S81920, .i32⟩
  | 78 => ⟨S81920, .i1⟩
  | 79 => ⟨S_, .i32⟩
  | 80 => ⟨S81920, .i32⟩
  | 81 => ⟨S81920, .i32⟩
  | 82 => ⟨S81920, .i32⟩
  | 83 => ⟨S81920x1, .i32⟩
  | 84 => ⟨S81920x4, .f32⟩
  | 85 => ⟨S_, .i32⟩
  | 86 => ⟨S81920, .i32⟩
  | 87 => ⟨S81920, .i1⟩
  | 88 => ⟨S_, .i32⟩
  | 89 => ⟨S81920, .i32⟩
  | 90 => ⟨S81920, .i32⟩
  | 91 => ⟨S81920, .i32⟩
  | 92 => ⟨S81920x1, .i32⟩
  | 93 => ⟨S81920x4, .f32⟩
  | 94 => ⟨S81920x4, .f32⟩
  | 95 => ⟨S_, .f32⟩
  | 96 => ⟨S_, .f32⟩
  | 97 => ⟨S81920x4, .f32⟩
  | 98 => ⟨S81920x4, .i1⟩
  | 99 => ⟨S_, .f32⟩
  | 100 => ⟨S81920x4, .f32⟩
  | 101 => ⟨S81920x4, .f32⟩
  | 102 => ⟨S81920x4, .f32⟩
  | 103 => ⟨S1x81920, .i32⟩
  | 104 => ⟨S20480, .i32⟩
  | 105 => ⟨S20480x1, .i32⟩
  | 106 => ⟨S20480x81920, .i32⟩
  | 107 => ⟨S20480x81920, .i32⟩
  | 108 => ⟨S20480x81920, .i1⟩
  | 109 => ⟨S20480x81920x1, .i1⟩
  | 110 => ⟨S1x81920x4, .f32⟩
  | 111 => ⟨S_, .f32⟩
  | 112 => ⟨S_, .f32⟩
  | 113 => ⟨S20480x81920x4, .i1⟩
  | 114 => ⟨S20480x81920x4, .f32⟩
  | 115 => ⟨S20480x81920x4, .f32⟩
  | 116 => ⟨S20480x81920x4, .f32⟩
  | 117 => ⟨S_, .f32⟩
  | 118 => ⟨S20480x4, .f32⟩
  | 119 => ⟨S20480x4, .f32⟩
  | 120 => ⟨S_, .f32⟩
  | 121 => ⟨S20480x4, .f32⟩
  | 122 => ⟨S20480x4, .i1⟩
  | 123 => ⟨S_, .f32⟩
  | 124 => ⟨S_, .f32⟩
  | 125 => ⟨S20480x4, .f32⟩
  | 126 => ⟨S20480x4, .f32⟩
  | 127 => ⟨S_, .i32⟩
  | _ => ⟨S16384x300, .f32⟩

abbrev hbmTy0_2 (i : Nat) : BufTy := match i % 128 with
  | 0 => ⟨S81920, .i32⟩
  | 1 => ⟨S81920, .i1⟩
  | 2 => ⟨S_, .i32⟩
  | 3 => ⟨S81920, .i32⟩
  | 4 => ⟨S81920, .i32⟩
  | 5 => ⟨S81920, .i32⟩
  | 6 => ⟨S81920x1, .i32⟩
  | 7 => ⟨S81920x4, .f32⟩
  | 8 => ⟨S81920x4, .f32⟩
  | 9 => ⟨S81920x4, .f32⟩
  | 10 => ⟨S_, .f32⟩
  | 11 => ⟨S20480x4, .f32⟩
  | 12 => ⟨S81920x1, .i32⟩
  | 13 => ⟨S20480x4, .f32⟩
  | 14 => ⟨S_, .i32⟩
  | 15 => ⟨S81920, .i32⟩
  | 16 => ⟨S81920, .i1⟩
  | 17 => ⟨S_, .i32⟩
  | 18 => ⟨S81920, .i32⟩
  | 19 => ⟨S81920, .i32⟩
  | 20 => ⟨S81920, .i32⟩
  | 21 => ⟨S81920x1, .i32⟩
  | 22 => ⟨S81920x4, .f32⟩
  | 23 => ⟨S_, .f32⟩
  | 24 => ⟨S81920x4, .f32⟩
  | 25 => ⟨S81920x4, .f32⟩
  | 26 => ⟨S81920x4, .f32⟩
  | 27 => ⟨S81920x4x1, .f32⟩
  | 28 => ⟨S_, .i32⟩
  | 29 => ⟨S81920, .i32⟩
  | 30 => ⟨S81920, .i1⟩
  | 31 => ⟨S_, .i32⟩
  | 32 => ⟨S81920, .i32⟩
  | 33 => ⟨S81920, .i32⟩
  | 34 => ⟨S81920, .i32⟩
  | 35 => ⟨S81920x1, .i32⟩
  | 36 => ⟨S81920x4x64, .f32⟩
  | 37 => ⟨S81920x4x64, .f32⟩
  | 38 => ⟨S81920x4x64, .f32⟩
  | 39 => ⟨S_, .f32⟩
  | 40 => ⟨S20480x4x64, .f32⟩
  | 41 => ⟨S81920x1, .i32⟩
  | 42 => ⟨S20480x4x64, .f32⟩
  | 43 => ⟨S20480x256, .f32⟩
  | 44 => ⟨S20480x256, .f32⟩
  | 45 => ⟨S1x256, .f32⟩
  | 46 => ⟨S20480x256, .f32⟩
  | 47 => ⟨S20480x256, .f32⟩
  | 48 => ⟨S20480x256, .f32⟩
  | 49 => ⟨S20480x256, .f32⟩
  | 50 => ⟨S_, .f32⟩
  | 51 => ⟨S20480x256, .f32⟩
  | 52 => ⟨S20480x256, .f32⟩
  | 53 => ⟨S_, .f32⟩
  | 54 => ⟨S20480x256, .f32⟩
  | 55 => ⟨S20480x256, .f32⟩
  | 56 => ⟨S20480x256, .f32⟩
  | 57 => ⟨S_, .f32⟩
  | 58 => ⟨S20480x256, .f32⟩
  | 59 => ⟨S20480x256, .f32⟩
  | 60 => ⟨S20480x256, .f32⟩
  | 61 => ⟨S20480x256, .f32⟩
  | 62 => ⟨S20480x256, .f32⟩
  | 63 => ⟨S_, .f32⟩
  | 64 => ⟨S20480x256, .f32⟩
  | 65 => ⟨S20480x256, .f32⟩
  | 66 => ⟨S_, .f32⟩
  | 67 => ⟨S20480, .f32⟩
  | 68 => ⟨S_, .f32⟩
  | 69 => ⟨S4096, .f32⟩
  | 70 => ⟨S20480x1, .i32⟩
  | 71 => ⟨S4096, .f32⟩
  | 72 => ⟨S_, .f32⟩
  | 73 => ⟨S4096x256, .f32⟩
  | 74 => ⟨S20480x1, .i32⟩
  | 75 => ⟨S4096x256, .f32⟩
  | 76 => ⟨S4096x1, .f32⟩
  | 77 => ⟨S_, .f32⟩
  | 78 => ⟨S4096x1, .f32⟩
  | 79 => ⟨S4096x1, .f32⟩
  | 80 => ⟨S4096x256, .f32⟩
  | 81 => ⟨S4096x256, .f32⟩
  | 82 => ⟨S4096x128, .f32⟩
  | 83 => ⟨S1x128, .f32⟩
  | 84 => ⟨S4096x128, .f32⟩
  | 85 => ⟨S4096x128, .f32⟩
  | 86 => ⟨S_, .f32⟩
  | 87 => ⟨S4096x128, .f32⟩
  | 88 => ⟨S4096x128, .f32⟩
  | 89 => ⟨S4096x128, .f32⟩
  | 90 => ⟨S1x128, .f32⟩
  | 91 => ⟨S4096x128, .f32⟩
  | 92 => ⟨S4096x128, .f32⟩
  | 93 => ⟨S_, .f32⟩
  | 94 => ⟨S4096x128, .f32⟩
  | 95 => ⟨S4096x128, .f32⟩
  | 96 => ⟨S3x128x4096, .f32⟩
  | 97 => ⟨S3x4096x128, .f32⟩
  | 98 => ⟨S3x1x128, .f32⟩
  | 99 => ⟨S3x4096x128, .f32⟩
  | 100 => ⟨S3x4096x128, .f32⟩
  | 101 => ⟨S_, .f32⟩
  | 102 => ⟨S3x4096x128, .f32⟩
  | 103 => ⟨S3x4096x128, .f32⟩
  | 104 => ⟨S3x4096x1, .f32⟩
  | 105 => ⟨S3x1x1, .f32⟩
  | 106 => ⟨S3x4096x1, .f32⟩
  | 107 => ⟨S3x4096x1, .f32⟩
  | 108 => ⟨S3x4096, .f32⟩
  | 109 => ⟨S4096x3, .f32⟩
  | _ => ⟨S16384x300, .f32⟩

abbrev hbmTy (i : Nat) : BufTy := match i / 128 with
  | 0 => hbmTy0_0 i
  | 1 => hbmTy0_1 i
  | 2 => hbmTy0_2 i
  | _ => ⟨S16384x300, .f32⟩

abbrev bufTy : (tb : Table) → Fin (tcTables nBuf tb) → BufTy
  | .hbm, ⟨i, _⟩ => hbmTy i
  | _, _ => ⟨S16384x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_v1 : Ref sig .tc := ⟨.hbm, 31, rfl⟩
abbrev main_cst_0 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_cst_0 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_cst_1 : Ref sig .tc := ⟨.hbm, 46, rfl⟩
abbrev main_call0_call0_v8 : Ref sig .tc := ⟨.hbm, 47, rfl⟩
abbrev main_call0_call0_cst_2 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_cst_3 : Ref sig .tc := ⟨.hbm, 53, rfl⟩
abbrev main_call0_call0_v13 : Ref sig .tc := ⟨.hbm, 54, rfl⟩
abbrev main_call0_call0_cst_4 : Ref sig .tc := ⟨.hbm, 55, rfl⟩
abbrev main_call0_call0_call0_v0 : Ref sig .tc := ⟨.hbm, 56, rfl⟩
abbrev main_call0_call0_call0_v1 : Ref sig .tc := ⟨.hbm, 57, rfl⟩
abbrev main_call0_v0 : Ref sig .tc := ⟨.hbm, 58, rfl⟩
abbrev main_v4 : Ref sig .tc := ⟨.hbm, 59, rfl⟩
abbrev main_cst_1 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_call1_cst : Ref sig .tc := ⟨.hbm, 72, rfl⟩
abbrev main_call1_v0 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_call2_v0 : Ref sig .tc := ⟨.hbm, 79, rfl⟩
abbrev main_call2_cst : Ref sig .tc := ⟨.hbm, 80, rfl⟩
abbrev main_call2_v1 : Ref sig .tc := ⟨.hbm, 81, rfl⟩
abbrev main_call2_v2 : Ref sig .tc := ⟨.hbm, 82, rfl⟩
abbrev main_v21 : Ref sig .tc := ⟨.hbm, 83, rfl⟩
abbrev main_cst_2 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_3 : Ref sig .tc := ⟨.hbm, 89, rfl⟩
abbrev main_v26 : Ref sig .tc := ⟨.hbm, 90, rfl⟩
abbrev main_v27 : Ref sig .tc := ⟨.hbm, 91, rfl⟩
abbrev main_cst_4 : Ref sig .tc := ⟨.hbm, 92, rfl⟩
abbrev main_v28 : Ref sig .tc := ⟨.hbm, 93, rfl⟩
abbrev main_v29 : Ref sig .tc := ⟨.hbm, 94, rfl⟩
abbrev main_c_5 : Ref sig .tc := ⟨.hbm, 95, rfl⟩
abbrev main_call3_call0_cst : Ref sig .tc := ⟨.hbm, 96, rfl⟩
abbrev main_call3_call0_v0 : Ref sig .tc := ⟨.hbm, 97, rfl⟩
abbrev main_call3_call0_v1 : Ref sig .tc := ⟨.hbm, 98, rfl⟩
abbrev main_call3_call0_cst_0 : Ref sig .tc := ⟨.hbm, 99, rfl⟩
abbrev main_call3_call0_v2 : Ref sig .tc := ⟨.hbm, 100, rfl⟩
abbrev main_call3_call0_v3 : Ref sig .tc := ⟨.hbm, 101, rfl⟩
abbrev main_call3_call0_v4 : Ref sig .tc := ⟨.hbm, 102, rfl⟩
abbrev main_call3_call0_v5 : Ref sig .tc := ⟨.hbm, 103, rfl⟩
abbrev main_call3_call0_v6 : Ref sig .tc := ⟨.hbm, 104, rfl⟩
abbrev main_call3_call0_v7 : Ref sig .tc := ⟨.hbm, 105, rfl⟩
abbrev main_call3_call0_cst_1 : Ref sig .tc := ⟨.hbm, 106, rfl⟩
abbrev main_call3_call0_v8 : Ref sig .tc := ⟨.hbm, 107, rfl⟩
abbrev main_call3_call0_cst_2 : Ref sig .tc := ⟨.hbm, 108, rfl⟩
abbrev main_call3_call0_v9 : Ref sig .tc := ⟨.hbm, 109, rfl⟩
abbrev main_call3_call0_v10 : Ref sig .tc := ⟨.hbm, 110, rfl⟩
abbrev main_call3_call0_v11 : Ref sig .tc := ⟨.hbm, 111, rfl⟩
abbrev main_call3_call0_v12 : Ref sig .tc := ⟨.hbm, 112, rfl⟩
abbrev main_call3_call0_cst_3 : Ref sig .tc := ⟨.hbm, 113, rfl⟩
abbrev main_call3_call0_v13 : Ref sig .tc := ⟨.hbm, 114, rfl⟩
abbrev main_call3_call0_cst_4 : Ref sig .tc := ⟨.hbm, 115, rfl⟩
abbrev main_call3_call0_call0_v0 : Ref sig .tc := ⟨.hbm, 116, rfl⟩
abbrev main_call3_call0_call0_v1 : Ref sig .tc := ⟨.hbm, 117, rfl⟩
abbrev main_call3_v0 : Ref sig .tc := ⟨.hbm, 118, rfl⟩
abbrev main_v30 : Ref sig .tc := ⟨.hbm, 119, rfl⟩
abbrev main_cst_6 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_v41 : Ref sig .tc := ⟨.hbm, 131, rfl⟩
abbrev main_call4_cst : Ref sig .tc := ⟨.hbm, 132, rfl⟩
abbrev main_call4_v0 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_call5_v0 : Ref sig .tc := ⟨.hbm, 139, rfl⟩
abbrev main_call5_cst : Ref sig .tc := ⟨.hbm, 140, rfl⟩
abbrev main_call5_v1 : Ref sig .tc := ⟨.hbm, 141, rfl⟩
abbrev main_call5_v2 : Ref sig .tc := ⟨.hbm, 142, rfl⟩
abbrev main_v47 : Ref sig .tc := ⟨.hbm, 143, rfl⟩
abbrev main_cst_7 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_c_8 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_v58 : Ref sig .tc := ⟨.hbm, 156, rfl⟩
abbrev main_call6_call0_c : Ref sig .tc := ⟨.hbm, 157, rfl⟩
abbrev main_call6_call0_v0 : Ref sig .tc := ⟨.hbm, 158, rfl⟩
abbrev main_v59 : Ref sig .tc := ⟨.hbm, 159, rfl⟩
abbrev main_c_9 : Ref sig .tc := ⟨.hbm, 160, rfl⟩
abbrev main_v60 : Ref sig .tc := ⟨.hbm, 161, rfl⟩
abbrev main_v61 : Ref sig .tc := ⟨.hbm, 162, rfl⟩
abbrev main_c_10 : Ref sig .tc := ⟨.hbm, 163, rfl⟩
abbrev main_c_11 : Ref sig .tc := ⟨.hbm, 164, rfl⟩
abbrev main_call7_v0 : Ref sig .tc := ⟨.hbm, 165, rfl⟩
abbrev main_call7_v1 : Ref sig .tc := ⟨.hbm, 166, rfl⟩
abbrev main_call7_v2 : Ref sig .tc := ⟨.hbm, 167, rfl⟩
abbrev main_call7_v3 : Ref sig .tc := ⟨.hbm, 168, rfl⟩
abbrev main_call7_v4 : Ref sig .tc := ⟨.hbm, 169, rfl⟩
abbrev main_v62 : Ref sig .tc := ⟨.hbm, 170, rfl⟩
abbrev main_v63 : Ref sig .tc := ⟨.hbm, 171, rfl⟩
abbrev main_c_12 : Ref sig .tc := ⟨.hbm, 172, rfl⟩
abbrev main_v64 : Ref sig .tc := ⟨.hbm, 173, rfl⟩
abbrev main_v65 : Ref sig .tc := ⟨.hbm, 174, rfl⟩
abbrev main_c_13 : Ref sig .tc := ⟨.hbm, 175, rfl⟩
abbrev main_v66 : Ref sig .tc := ⟨.hbm, 176, rfl⟩
abbrev main_v67 : Ref sig .tc := ⟨.hbm, 177, rfl⟩
abbrev main_v68 : Ref sig .tc := ⟨.hbm, 178, rfl⟩
abbrev main_v69 : Ref sig .tc := ⟨.hbm, 179, rfl⟩
abbrev main_v70 : Ref sig .tc := ⟨.hbm, 180, rfl⟩
abbrev main_c_14 : Ref sig .tc := ⟨.hbm, 181, rfl⟩
abbrev main_v71 : Ref sig .tc := ⟨.hbm, 182, rfl⟩
abbrev main_v72 : Ref sig .tc := ⟨.hbm, 183, rfl⟩
abbrev main_c_15 : Ref sig .tc := ⟨.hbm, 184, rfl⟩
abbrev main_v73 : Ref sig .tc := ⟨.hbm, 185, rfl⟩
abbrev main_v74 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_call8_v0 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_cst_16 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_cst_17 : Ref sig .tc := ⟨.hbm, 202, rfl⟩
abbrev main_v88 : Ref sig .tc := ⟨.hbm, 203, rfl⟩
abbrev main_c_18 : Ref sig .tc := ⟨.hbm, 204, rfl⟩
abbrev main_v89 : Ref sig .tc := ⟨.hbm, 205, rfl⟩
abbrev main_v90 : Ref sig .tc := ⟨.hbm, 206, rfl⟩
abbrev main_c_19 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_c_20 : Ref sig .tc := ⟨.hbm, 213, rfl⟩
abbrev main_v96 : Ref sig .tc := ⟨.hbm, 214, rfl⟩
abbrev main_v97 : Ref sig .tc := ⟨.hbm, 215, rfl⟩
abbrev main_c_21 : Ref sig .tc := ⟨.hbm, 216, rfl⟩
abbrev main_v98 : Ref sig .tc := ⟨.hbm, 217, rfl⟩
abbrev main_v99 : Ref sig .tc := ⟨.hbm, 218, rfl⟩
abbrev main_v100 : Ref sig .tc := ⟨.hbm, 219, rfl⟩
abbrev main_v101 : Ref sig .tc := ⟨.hbm, 220, rfl⟩
abbrev main_v102 : Ref sig .tc := ⟨.hbm, 221, rfl⟩
abbrev main_v103 : Ref sig .tc := ⟨.hbm, 222, rfl⟩
abbrev main_cst_22 : Ref sig .tc := ⟨.hbm, 223, rfl⟩
abbrev main_call9_cst : Ref sig .tc := ⟨.hbm, 224, rfl⟩
abbrev main_call9_v0 : Ref sig .tc := ⟨.hbm, 225, rfl⟩
abbrev main_call9_v1 : Ref sig .tc := ⟨.hbm, 226, rfl⟩
abbrev main_call9_v2 : Ref sig .tc := ⟨.hbm, 227, rfl⟩
abbrev main_call9_v3 : Ref sig .tc := ⟨.hbm, 228, rfl⟩
abbrev main_call9_v4 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_v107 : Ref sig .tc := ⟨.hbm, 233, rfl⟩
abbrev main_v108 : Ref sig .tc := ⟨.hbm, 234, rfl⟩
abbrev main_v109 : Ref sig .tc := ⟨.hbm, 235, rfl⟩
abbrev main_v110 : Ref sig .tc := ⟨.hbm, 236, rfl⟩
abbrev main_v111 : Ref sig .tc := ⟨.hbm, 237, rfl⟩
abbrev main_v112 : Ref sig .tc := ⟨.hbm, 238, rfl⟩
abbrev main_cst_23 : Ref sig .tc := ⟨.hbm, 239, rfl⟩
abbrev main_call10_v0 : Ref sig .tc := ⟨.hbm, 240, rfl⟩
abbrev main_call10_v1 : Ref sig .tc := ⟨.hbm, 241, rfl⟩
abbrev main_call10_v2 : Ref sig .tc := ⟨.hbm, 242, rfl⟩
abbrev main_call10_v3 : Ref sig .tc := ⟨.hbm, 243, rfl⟩
abbrev main_v113 : Ref sig .tc := ⟨.hbm, 244, rfl⟩
abbrev main_cst_24 : Ref sig .tc := ⟨.hbm, 245, rfl⟩
abbrev main_v114 : Ref sig .tc := ⟨.hbm, 246, rfl⟩
abbrev main_v115 : Ref sig .tc := ⟨.hbm, 247, rfl⟩
abbrev main_cst_25 : Ref sig .tc := ⟨.hbm, 248, rfl⟩
abbrev main_v116 : Ref sig .tc := ⟨.hbm, 249, rfl⟩
abbrev main_v117 : Ref sig .tc := ⟨.hbm, 250, rfl⟩
abbrev main_cst_26 : Ref sig .tc := ⟨.hbm, 251, rfl⟩
abbrev main_call11_v0 : Ref sig .tc := ⟨.hbm, 252, rfl⟩
abbrev main_call11_v1 : Ref sig .tc := ⟨.hbm, 253, rfl⟩
abbrev main_v118 : Ref sig .tc := ⟨.hbm, 254, rfl⟩
abbrev main_c_27 : Ref sig .tc := ⟨.hbm, 255, rfl⟩
abbrev main_v119 : Ref sig .tc := ⟨.hbm, 256, rfl⟩
abbrev main_v120 : Ref sig .tc := ⟨.hbm, 257, rfl⟩
abbrev main_c_28 : Ref sig .tc := ⟨.hbm, 258, rfl⟩
abbrev main_v121 : Ref sig .tc := ⟨.hbm, 259, rfl⟩
abbrev main_v122 : Ref sig .tc := ⟨.hbm, 260, rfl⟩
abbrev main_v123 : Ref sig .tc := ⟨.hbm, 261, rfl⟩
abbrev main_v124 : Ref sig .tc := ⟨.hbm, 262, rfl⟩
abbrev main_v125 : Ref sig .tc := ⟨.hbm, 263, rfl⟩
abbrev main_v126 : Ref sig .tc := ⟨.hbm, 264, rfl⟩
abbrev main_v127 : Ref sig .tc := ⟨.hbm, 265, rfl⟩
abbrev main_cst_29 : Ref sig .tc := ⟨.hbm, 266, rfl⟩
abbrev main_v128 : Ref sig .tc := ⟨.hbm, 267, rfl⟩
abbrev main_v129 : Ref sig .tc := ⟨.hbm, 268, rfl⟩
abbrev main_v130 : Ref sig .tc := ⟨.hbm, 269, rfl⟩
abbrev main_c_30 : Ref sig .tc := ⟨.hbm, 270, rfl⟩
abbrev main_v131 : Ref sig .tc := ⟨.hbm, 271, rfl⟩
abbrev main_v132 : Ref sig .tc := ⟨.hbm, 272, rfl⟩
abbrev main_c_31 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_v137 : Ref sig .tc := ⟨.hbm, 278, rfl⟩
abbrev main_cst_32 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩
abbrev main_v141 : Ref sig .tc := ⟨.hbm, 283, rfl⟩
abbrev main_c_33 : Ref sig .tc := ⟨.hbm, 284, rfl⟩
abbrev main_v142 : Ref sig .tc := ⟨.hbm, 285, rfl⟩
abbrev main_v143 : Ref sig .tc := ⟨.hbm, 286, rfl⟩
abbrev main_c_34 : Ref sig .tc := ⟨.hbm, 287, rfl⟩
abbrev main_v144 : Ref sig .tc := ⟨.hbm, 288, rfl⟩
abbrev main_v145 : Ref sig .tc := ⟨.hbm, 289, rfl⟩
abbrev main_v146 : Ref sig .tc := ⟨.hbm, 290, rfl⟩
abbrev main_v147 : Ref sig .tc := ⟨.hbm, 291, rfl⟩
abbrev main_v148 : Ref sig .tc := ⟨.hbm, 292, rfl⟩
abbrev main_v149 : Ref sig .tc := ⟨.hbm, 293, rfl⟩
abbrev main_v150 : Ref sig .tc := ⟨.hbm, 294, rfl⟩
abbrev main_cst_35 : Ref sig .tc := ⟨.hbm, 295, rfl⟩
abbrev main_v151 : Ref sig .tc := ⟨.hbm, 296, rfl⟩
abbrev main_v152 : Ref sig .tc := ⟨.hbm, 297, rfl⟩
abbrev main_v153 : Ref sig .tc := ⟨.hbm, 298, rfl⟩
abbrev main_v154 : Ref sig .tc := ⟨.hbm, 299, rfl⟩
abbrev main_v155 : Ref sig .tc := ⟨.hbm, 300, rfl⟩
abbrev main_v156 : Ref sig .tc := ⟨.hbm, 301, rfl⟩
abbrev main_v157 : Ref sig .tc := ⟨.hbm, 302, rfl⟩
abbrev main_v158 : Ref sig .tc := ⟨.hbm, 303, rfl⟩
abbrev main_v159 : Ref sig .tc := ⟨.hbm, 304, rfl⟩
abbrev main_v160 : Ref sig .tc := ⟨.hbm, 305, rfl⟩
abbrev main_cst_36 : Ref sig .tc := ⟨.hbm, 306, rfl⟩
abbrev main_v161 : Ref sig .tc := ⟨.hbm, 307, rfl⟩
abbrev main_v162 : Ref sig .tc := ⟨.hbm, 308, rfl⟩
abbrev main_cst_37 : Ref sig .tc := ⟨.hbm, 309, rfl⟩
abbrev main_v163 : Ref sig .tc := ⟨.hbm, 310, rfl⟩
abbrev main_v164 : Ref sig .tc := ⟨.hbm, 311, rfl⟩
abbrev main_v165 : Ref sig .tc := ⟨.hbm, 312, rfl⟩
abbrev main_cst_38 : Ref sig .tc := ⟨.hbm, 313, rfl⟩
abbrev main_v166 : Ref sig .tc := ⟨.hbm, 314, rfl⟩
abbrev main_v167 : Ref sig .tc := ⟨.hbm, 315, rfl⟩
abbrev main_v168 : Ref sig .tc := ⟨.hbm, 316, rfl⟩
abbrev main_v169 : Ref sig .tc := ⟨.hbm, 317, rfl⟩
abbrev main_v170 : Ref sig .tc := ⟨.hbm, 318, rfl⟩
abbrev main_call12_cst : Ref sig .tc := ⟨.hbm, 319, rfl⟩
abbrev main_call12_v0 : Ref sig .tc := ⟨.hbm, 320, rfl⟩
abbrev main_v171 : Ref sig .tc := ⟨.hbm, 321, rfl⟩
abbrev main_cst_39 : Ref sig .tc := ⟨.hbm, 322, rfl⟩
abbrev main_v172 : Ref sig .tc := ⟨.hbm, 323, rfl⟩
abbrev main_cst_40 : Ref sig .tc := ⟨.hbm, 324, rfl⟩
abbrev main_v173 : Ref sig .tc := ⟨.hbm, 325, rfl⟩
abbrev main_v174 : Ref sig .tc := ⟨.hbm, 326, rfl⟩
abbrev main_v175 : Ref sig .tc := ⟨.hbm, 327, rfl⟩
abbrev main_cst_41 : Ref sig .tc := ⟨.hbm, 328, rfl⟩
abbrev main_v176 : Ref sig .tc := ⟨.hbm, 329, rfl⟩
abbrev main_v177 : Ref sig .tc := ⟨.hbm, 330, rfl⟩
abbrev main_v178 : Ref sig .tc := ⟨.hbm, 331, rfl⟩
abbrev main_v179 : Ref sig .tc := ⟨.hbm, 332, rfl⟩
abbrev main_cst_42 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_v184 : Ref sig .tc := ⟨.hbm, 338, rfl⟩
abbrev main_v185 : Ref sig .tc := ⟨.hbm, 339, rfl⟩
abbrev main_v186 : Ref sig .tc := ⟨.hbm, 340, rfl⟩
abbrev main_v187 : Ref sig .tc := ⟨.hbm, 341, rfl⟩
abbrev main_call13_cst : Ref sig .tc := ⟨.hbm, 342, rfl⟩
abbrev main_call13_v0 : Ref sig .tc := ⟨.hbm, 343, rfl⟩
abbrev main_v188 : Ref sig .tc := ⟨.hbm, 344, rfl⟩
abbrev main_v189 : Ref sig .tc := ⟨.hbm, 345, rfl⟩
abbrev main_v190 : Ref sig .tc := ⟨.hbm, 346, rfl⟩
abbrev main_v191 : Ref sig .tc := ⟨.hbm, 347, rfl⟩
abbrev main_v192 : Ref sig .tc := ⟨.hbm, 348, rfl⟩
abbrev main_call14_cst : Ref sig .tc := ⟨.hbm, 349, rfl⟩
abbrev main_call14_v0 : Ref sig .tc := ⟨.hbm, 350, rfl⟩
abbrev main_v193 : Ref sig .tc := ⟨.hbm, 351, rfl⟩
abbrev main_v194 : Ref sig .tc := ⟨.hbm, 352, rfl⟩
abbrev main_v195 : Ref sig .tc := ⟨.hbm, 353, rfl⟩
abbrev main_v196 : Ref sig .tc := ⟨.hbm, 354, rfl⟩
abbrev main_v197 : Ref sig .tc := ⟨.hbm, 355, rfl⟩
abbrev main_v198 : Ref sig .tc := ⟨.hbm, 356, rfl⟩
abbrev main_call15_cst : Ref sig .tc := ⟨.hbm, 357, rfl⟩
abbrev main_call15_v0 : Ref sig .tc := ⟨.hbm, 358, rfl⟩
abbrev main_v199 : Ref sig .tc := ⟨.hbm, 359, rfl⟩
abbrev main_v200 : Ref sig .tc := ⟨.hbm, 360, rfl⟩
abbrev main_v201 : Ref sig .tc := ⟨.hbm, 361, rfl⟩
abbrev main_v202 : Ref sig .tc := ⟨.hbm, 362, rfl⟩
abbrev main_v203 : Ref sig .tc := ⟨.hbm, 363, rfl⟩
abbrev main_v204 : Ref sig .tc := ⟨.hbm, 364, rfl⟩
abbrev main_v205 : Ref sig .tc := ⟨.hbm, 365, rfl⟩

abbrev nD : Nat := 1
abbrev τ : Topo := Topo.v7x

variable {F : FTy → Type} [FloatOps F]
-- ==== Proof.Kernel.Run.lean ====
/-
The whole program's run: the buffer contents between its calls, each call as a segment, and the frame.
-/
module

public import proofs.«01_k».proof.Proof.Kernel.Body
public import proofs.«01_k».proof.Proof.Gen.Kernel.Frame.Region0
public import proofs.«01_k».proof.Proof.Gen.Kernel.Frame.Hosts0

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
/-- The arguments at launch. -/
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
/-- The first kernel's arrays at its end. -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- What the first kernel leaves alone. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments after the first kernel. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
/-- The first kernel changes only its windows' arrays. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- The arguments after the first host operations. -/
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- After `hostOps1_1`. -/
abbrev W3 : Dev nD → Valuation τ sig (Elt F) := fun c => StableHlo.after hostOps1_1 (W2 m ρ c)
/-- A reference `hostOps1_1` does not write keeps its contents across it. -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
/-- The arguments after the second host operations. -/
theorem W3_args (c : Dev nD) : ∀ a ∈ argRefs, W3 m ρ c (Proc.devRef .tc a) = m ((c : Thread nD τ).loc a) :=
  fun a ha => (W3_of m ρ c a (hostOps1_1_args a ha)).trans (W2_args m ρ c a ha)
/-- After `hostOps1_2` (region 1's entry). -/
abbrev W4 : Dev nD → Valuation τ sig (Elt F) := fun c => StableHlo.after hostOps1_2 (W3 m ρ c)
/-- A reference `hostOps1_2` does not write keeps its contents across it. -/
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
/-- The arguments after the third host operations. -/
theorem W4_args (c : Dev nD) : ∀ a ∈ argRefs, W4 m ρ c (Proc.devRef .tc a) = m ((c : Thread nD τ).loc a) :=
  fun a ha => (W4_of m ρ c a (hostOps1_2_args a ha)).trans (W3_args m ρ c a ha)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
/-- The second kernel's arrays at its end. -/
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
/-- What the second kernel leaves alone. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments after the second kernel. -/
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
/-- The second kernel changes only its windows' arrays. -/
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_args m ρ c main_arg0 (by decide)),
       (h c _ (mem_uc main_arg1 (by decide))).trans (W5_args m ρ c main_arg1 (by decide)),
       (h c _ (mem_uc main_arg2 (by decide))).trans (W5_args m ρ c main_arg2 (by decide)),
       (h c _ (mem_uc main_arg3 (by decide))).trans (W5_args m ρ c main_arg3 (by decide)),
       (h c _ (mem_uc main_arg4 (by decide))).trans (W5_args m ρ c main_arg4 (by decide)),
       (h c _ (mem_uc main_arg5 (by decide))).trans (W5_args m ρ c main_arg5 (by decide)),
       (h c _ (mem_uc main_arg6 (by decide))).trans (W5_args m ρ c main_arg6 (by decide)),
       (h c _ (mem_uc main_arg7 (by decide))).trans (W5_args m ρ c main_arg7 (by decide)),
       (h c _ (mem_uc main_arg8 (by decide))).trans (W5_args m ρ c main_arg8 (by decide)),
       (h c _ (mem_uc main_arg9 (by decide))).trans (W5_args m ρ c main_arg9 (by decide)),
       (h c _ (mem_uc main_arg10 (by decide))).trans (W5_args m ρ c main_arg10 (by decide)),
       (h c _ (mem_uc main_arg11 (by decide))).trans (W5_args m ρ c main_arg11 (by decide)),
       (h c _ (mem_uc main_arg12 (by decide))).trans (W5_args m ρ c main_arg12 (by decide)),
       (h c _ (mem_uc main_arg13 (by decide))).trans (W5_args m ρ c main_arg13 (by decide)),
       (h c _ (mem_uc main_arg14 (by decide))).trans (W5_args m ρ c main_arg14 (by decide)),
       (h c _ (mem_uc main_arg15 (by decide))).trans (W5_args m ρ c main_arg15 (by decide)),
       (h c _ (mem_uc main_arg16 (by decide))).trans (W5_args m ρ c main_arg16 (by decide)),
       (h c _ (mem_uc main_arg17 (by decide))).trans (W5_args m ρ c main_arg17 (by decide)),
       (h c _ (mem_uc main_arg18 (by decide))).trans (W5_args m ρ c main_arg18 (by decide)),
       (h c _ (mem_uc main_arg19 (by decide))).trans (W5_args m ρ c main_arg19 (by decide)),
       (h c _ (mem_uc main_arg20 (by decide))).trans (W5_args m ρ c main_arg20 (by decide)),
       (h c _ (mem_uc main_arg21 (by decide))).trans (W5_args m ρ c main_arg21 (by decide)),
       (h c _ (mem_uc main_arg22 (by decide))).trans (W5_args m ρ c main_arg22 (by decide)),
       (h c _ (mem_uc main_arg23 (by decide))).trans (W5_args m ρ c main_arg23 (by decide)),
       (h c _ (mem_uc main_arg24 (by decide))).trans (W5_args m ρ c main_arg24 (by decide)),
       (h c _ (mem_uc main_arg25 (by decide))).trans (W5_args m ρ c main_arg25 (by decide)),
       (h c _ (mem_uc main_arg26 (by decide))).trans (W5_args m ρ c main_arg26 (by decide)),
       (h c _ (mem_uc main_arg27 (by decide))).trans (W5_args m ρ c main_arg27 (by decide)),
       (h c _ (mem_uc main_arg28 (by decide))).trans (W5_args m ρ c main_arg28 (by decide))⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h => h.1) (frame m ρ)

end Cert.Kernel.Gen

end
-- ==== Proof.KernelIdeal.Blocks.lean ====
/-
What one grid point of the main kernel computes: the blocks of its 43 input windows (`Blocks`), the values
that its body binds from them, named by their numbers in the printed body, and the block it stores.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes -/

abbrev r1_0 : Rect S2048x300 := Rect.unit (s := S2048x300) ![0, 0] S2048x300.size inb_S2048x300_S2048x300_0_0
abbrev r1_1 : Rect S2048x7 := Rect.unit (s := S2048x7) ![0, 0] S2048x7.size inb_S2048x7_S2048x7_0_0
abbrev r1_2 : Rect S8x7 := Rect.unit (s := S8x7) ![0, 0] S1x7.size inb_S8x7_S1x7_0_0
abbrev r1_3 : Rect S8x7 := Rect.unit (s := S8x7) ![1, 0] S1x7.size inb_S8x7_S1x7_1_0
abbrev r1_4 : Rect S300x512 := Rect.unit (s := S300x512) ![0, 0] S300x512.size inb_S300x512_S300x512_0_0
abbrev r1_5 : Rect S7x512 := Rect.unit (s := S7x512) ![0, 0] S7x512.size inb_S7x512_S7x512_0_0
abbrev r1_6 : Rect S1x512 := Rect.unit (s := S1x512) ![0, 0] S1x512.size inb_S1x512_S1x512_0_0
abbrev r1_7 : Rect S512x256 := Rect.unit (s := S512x256) ![0, 0] S512x256.size inb_S512x256_S512x256_0_0
abbrev r1_8 : Rect S1x256 := Rect.unit (s := S1x256) ![0, 0] S1x256.size inb_S1x256_S1x256_0_0
abbrev r1_9 : Rect S512x300 := Rect.unit (s := S512x300) ![0, 0] S512x300.size inb_S512x300_S512x300_0_0
abbrev r1_10 : Rect S512x7 := Rect.unit (s := S512x7) ![0, 0] S512x7.size inb_S512x7_S512x7_0_0
abbrev r1_11 : Rect S8x7 := Rect.unit (s := S8x7) ![2, 0] S1x7.size inb_S8x7_S1x7_2_0
abbrev r1_12 : Rect S8x7 := Rect.unit (s := S8x7) ![3, 0] S1x7.size inb_S8x7_S1x7_3_0
abbrev r1_13 : Rect S256x256 := Rect.unit (s := S256x256) ![0, 0] S256x256.size inb_S256x256_S256x256_0_0
abbrev r1_14 : Rect S256x4 := Rect.unit (s := S256x4) ![0, 0] S256x4.size inb_S256x4_S256x4_0_0
abbrev r1_15 : Rect S256x128 := Rect.unit (s := S256x128) ![0, 0] S256x128.size inb_S256x128_S256x128_0_0
abbrev r1_16 : Rect S1x128 := Rect.unit (s := S1x128) ![0, 0] S1x128.size inb_S1x128_S1x128_0_0
abbrev r1_17 : Rect S128x128 := Rect.unit (s := S128x128) ![0, 0] S128x128.size inb_S128x128_S128x128_0_0
abbrev r1_18 : Rect S3x128x128 := Rect.unit (s := S3x128x128) ![0, 0, 0] S1x128x128.size inb_S3x128x128_S1x128x128_0_0_0
abbrev r1_19 : Rect S3x128 := Rect.unit (s := S3x128) ![0, 0] S1x128.size inb_S3x128_S1x128_0_0
abbrev r1_20 : Rect S3x128x128 := Rect.unit (s := S3x128x128) ![1, 0, 0] S1x128x128.size inb_S3x128x128_S1x128x128_1_0_0
abbrev r1_21 : Rect S3x128 := Rect.unit (s := S3x128) ![1, 0] S1x128.size inb_S3x128_S1x128_1_0
abbrev r1_22 : Rect S3x128x128 := Rect.unit (s := S3x128x128) ![2, 0, 0] S1x128x128.size inb_S3x128x128_S1x128x128_2_0_0
abbrev r1_23 : Rect S3x128 := Rect.unit (s := S3x128) ![2, 0] S1x128.size inb_S3x128_S1x128_2_0
abbrev r1_24 : Rect S1x3 := Rect.unit (s := S1x3) ![0, 0] S1x3.size inb_S1x3_S1x3_0_0
abbrev r1_25 : Rect S512x3 := Rect.unit (s := S512x3) ![0, 0] S512x3.size inb_S512x3_S512x3_0_0

/-! ## The input blocks of one point -/

/-- The blocks of the 43 input windows at one grid point. -/
structure Blocks (F : FTy → Type) where
  x0 : Vec F S2048x300 .f32
  x1 : Vec F S2048x7 .f32
  x2 : Vec F S512x300 .f32
  x3 : Vec F S512x7 .f32
  x4 : Vec F S8x7 .f32
  x5 : Vec F S300x512 .bf16
  x6 : Vec F S300x512 .bf16
  x7 : Vec F S7x512 .bf16
  x8 : Vec F S7x512 .bf16
  x9 : Vec F S1x512 .f32
  x10 : Vec F S512x256 .bf16
  x11 : Vec F S512x256 .bf16
  x12 : Vec F S1x256 .f32
  x13 : Vec F S300x512 .bf16
  x14 : Vec F S300x512 .bf16
  x15 : Vec F S7x512 .bf16
  x16 : Vec F S7x512 .bf16
  x17 : Vec F S1x512 .f32
  x18 : Vec F S512x256 .bf16
  x19 : Vec F S512x256 .bf16
  x20 : Vec F S1x256 .f32
  x21 : Vec F S256x256 .bf16
  x22 : Vec F S256x256 .bf16
  x23 : Vec F S256x4 .bf16
  x24 : Vec F S256x4 .bf16
  x25 : Vec F S256x4 .bf16
  x26 : Vec F S256x4 .bf16
  x27 : Vec F S256x256 .bf16
  x28 : Vec F S256x256 .bf16
  x29 : Vec F S1x256 .f32
  x30 : Vec F S256x256 .bf16
  x31 : Vec F S256x256 .bf16
  x32 : Vec F S256x128 .bf16
  x33 : Vec F S256x128 .bf16
  x34 : Vec F S1x128 .f32
  x35 : Vec F S128x128 .bf16
  x36 : Vec F S128x128 .bf16
  x37 : Vec F S1x128 .f32
  x38 : Vec F S3x128x128 .bf16
  x39 : Vec F S3x128x128 .bf16
  x40 : Vec F S3x128 .f32
  x41 : Vec F S3x128 .f32
  x42 : Vec F S1x3 .f32

/-! ## The values of the body -/

namespace Blocks

/-- The value `%67` of the printed body. -/
def v67 (X : Blocks F) : FVec F S2048x256 .f32 :=
  k1_pay13 (k1_pay2 (View.ld X.x5 r1_4)) (k1_pay3 (View.ld X.x7 r1_5)) (k1_pay4 (View.ld X.x8 r1_5)) (k1_pay5 (View.ld X.x9 r1_6)) (k1_pay6 (View.ld X.x10 r1_7)) (k1_pay7 (View.ld X.x11 r1_7)) (k1_pay8 (View.ld X.x12 r1_8)) (k1_pay9 (View.ld X.x1 r1_1) (View.ld X.x4 r1_2) (View.ld X.x4 r1_3)) (k1_pay11 (View.ld X.x0 r1_0)) (k1_pay12 (View.ld X.x0 r1_0) (View.ld X.x5 r1_4) (View.ld X.x6 r1_4))
/-- The value `%83` of the printed body. -/
def v83 (X : Blocks F) : FVec F S1x512 .f32 :=
  k1_pay16 (View.ld X.x17 r1_6)
/-- The value `%85` of the printed body. -/
def v85 (X : Blocks F) : FVec F S512x256 .bf16 :=
  k1_pay17 (View.ld X.x18 r1_7)
/-- The value `%87` of the printed body. -/
def v87 (X : Blocks F) : FVec F S512x256 .bf16 :=
  k1_pay18 (View.ld X.x19 r1_7)
/-- The value `%89` of the printed body. -/
def v89 (X : Blocks F) : FVec F S1x256 .f32 :=
  k1_pay19 (View.ld X.x20 r1_8)
/-- The value `%112` of the printed body. -/
def v112 (X : Blocks F) : FVec F S512x512 .f32 :=
  k1_pay20 (View.ld X.x2 r1_9) (View.ld X.x3 r1_10) (k1_pay14 (View.ld X.x4 r1_11)) (k1_pay15 (View.ld X.x4 r1_12)) (View.ld X.x13 r1_4) (View.ld X.x14 r1_4) (View.ld X.x15 r1_5) (View.ld X.x16 r1_5)
/-- The value `%141` of the printed body. -/
def v141 (X : Blocks F) : FVec F S512x256 .bf16 :=
  k1_pay25 X.v83 X.v85 X.v87 X.v89 X.v112
/-- The value `%144` of the printed body. -/
def v144 (X : Blocks F) : FVec F S512x256 .bf16 :=
  k1_pay26 X.v83 X.v85 X.v87 X.v89 X.v112
/-- The value `%145` of the printed body. -/
def v145 (X : Blocks F) : FVec F S512x256 .bf16 :=
  k1_pay27 X.v67
/-- The value `%146` of the printed body. -/
def v146 (X : Blocks F) : FVec F S512x256 .bf16 :=
  k1_pay28 X.v67
/-- The value `%147` of the printed body. -/
def v147 (X : Blocks F) : FVec F S512x256 .bf16 :=
  k1_pay29 X.v67
/-- The value `%148` of the printed body. -/
def v148 (X : Blocks F) : FVec F S512x256 .bf16 :=
  k1_pay30 X.v67
/-- The value `%149` of the printed body. -/
def v149 (X : Blocks F) : FVec F S512x256 .bf16 :=
  k1_pay31 X.v67
/-- The value `%150` of the printed body. -/
def v150 (X : Blocks F) : FVec F S512x256 .bf16 :=
  k1_pay32 X.v67
/-- The value `%151` of the printed body. -/
def v151 (X : Blocks F) : FVec F S512x256 .bf16 :=
  k1_pay33 X.v67
/-- The value `%152` of the printed body. -/
def v152 (X : Blocks F) : FVec F S512x256 .bf16 :=
  k1_pay34 X.v67
/-- The value `%154` of the printed body. -/
def v154 (X : Blocks F) : FVec F S256x256 .bf16 :=
  k1_pay35 (View.ld X.x21 r1_13)
/-- The value `%156` of the printed body. -/
def v156 (X : Blocks F) : FVec F S256x256 .bf16 :=
  k1_pay36 (View.ld X.x22 r1_13)
/-- The value `%158` of the printed body. -/
def v158 (X : Blocks F) : FVec F S256x4 .bf16 :=
  k1_pay37 (View.ld X.x23 r1_14)
/-- The value `%160` of the printed body. -/
def v160 (X : Blocks F) : FVec F S256x4 .bf16 :=
  k1_pay38 (View.ld X.x24 r1_14)
/-- The value `%162` of the printed body. -/
def v162 (X : Blocks F) : FVec F S256x4 .bf16 :=
  k1_pay39 (View.ld X.x25 r1_14)
/-- The value `%164` of the printed body. -/
def v164 (X : Blocks F) : FVec F S256x4 .bf16 :=
  k1_pay40 (View.ld X.x26 r1_14)
/-- The value `%169` of the printed body. -/
def v169 (X : Blocks F) : FVec F S512x256 .f32 :=
  k1_pay41 X.v145 X.v146 X.v154 X.v156
/-- The value `%174` of the printed body. -/
def v174 (X : Blocks F) : FVec F S512x256 .f32 :=
  k1_pay42 X.v147 X.v148 X.v154 X.v156
/-- The value `%179` of the printed body. -/
def v179 (X : Blocks F) : FVec F S512x256 .f32 :=
  k1_pay43 X.v149 X.v150 X.v154 X.v156
/-- The value `%184` of the printed body. -/
def v184 (X : Blocks F) : FVec F S512x256 .f32 :=
  k1_pay44 X.v151 X.v152 X.v154 X.v156
/-- The value `%189` of the printed body. -/
def v189 (X : Blocks F) : FVec F S512x256 .f32 :=
  k1_pay45 X.v141 X.v144 X.v154 X.v156
/-- The value `%190` of the printed body. -/
def v190 (X : Blocks F) : FVec F S512x256 .bf16 :=
  k1_pay46 X.v145 X.v146 X.v154 X.v156
/-- The value `%193` of the printed body. -/
def v193 (X : Blocks F) : FVec F S512x256 .bf16 :=
  k1_pay47 X.v145 X.v146 X.v154 X.v156
/-- The value `%194` of the printed body. -/
def v194 (X : Blocks F) : FVec F S512x256 .bf16 :=
  k1_pay48 X.v147 X.v148 X.v154 X.v156
/-- The value `%197` of the printed body. -/
def v197 (X : Blocks F) : FVec F S512x256 .bf16 :=
  k1_pay49 X.v147 X.v148 X.v154 X.v156
/-- The value `%198` of the printed body. -/
def v198 (X : Blocks F) : FVec F S512x256 .bf16 :=
  k1_pay50 X.v149 X.v150 X.v154 X.v156
/-- The value `%199` of the printed body. -/
def v199 (X : Blocks F) : FVec F S512x256 .f32 :=
  k1_pay51 X.v149 X.v150 X.v154 X.v156
/-- The value `%214` of the printed body. -/
def v214 (X : Blocks F) : FVec F S512x4 .f32 :=
  k1_pay57 X.v158 X.v160 X.v190 X.v193
/-- The value `%219` of the printed body. -/
def v219 (X : Blocks F) : FVec F S512x4 .f32 :=
  k1_pay58 X.v158 X.v160 X.v194 X.v197
/-- The value `%224` of the printed body. -/
def v224 (X : Blocks F) : FVec F S512x4 .f32 :=
  k1_pay59 X.v158 X.v160 X.v179 X.v198 X.v199
/-- The value `%229` of the printed body. -/
def v229 (X : Blocks F) : FVec F S512x4 .f32 :=
  k1_pay60 X.v158 X.v160 X.v184
/-- The value `%234` of the printed body. -/
def v234 (X : Blocks F) : FVec F S512x4 .f32 :=
  k1_pay61 X.v158 X.v160 X.v189
/-- The value `%239` of the printed body. -/
def v239 (X : Blocks F) : FVec F S512x4 .f32 :=
  k1_pay62 X.v162 X.v164 X.v190 X.v193
/-- The value `%244` of the printed body. -/
def v244 (X : Blocks F) : FVec F S512x4 .f32 :=
  k1_pay64 X.v162 X.v164 X.v194 X.v197 (k1_pay63 X.v162 X.v194)
/-- The value `%249` of the printed body. -/
def v249 (X : Blocks F) : FVec F S512x4 .f32 :=
  k1_pay65 X.v162 X.v164 X.v198 (k1_pay52 X.v179 X.v199)
/-- The value `%254` of the printed body. -/
def v254 (X : Blocks F) : FVec F S512x4 .f32 :=
  k1_pay66 X.v162 X.v164 (k1_pay53 X.v184) (k1_pay54 X.v184)
/-- The value `%259` of the printed body. -/
def v259 (X : Blocks F) : FVec F S512x4 .f32 :=
  k1_pay67 X.v162 X.v164 (k1_pay55 X.v189) (k1_pay56 X.v189)
/-- The value `%289` of the printed body. -/
def v289 (X : Blocks F) : FVec F S4x256 .bf16 :=
  k1_pay70 (F := F) (iota .tc S4x256 32 [0] iota_S4x256_d0_w32) k1_pay68 k1_pay69 1#32
/-- The value `%291` of the printed body. -/
def v291 (X : Blocks F) : FVec F S256x256 .bf16 :=
  k1_pay71 (View.ld X.x27 r1_13)
/-- The value `%293` of the printed body. -/
def v293 (X : Blocks F) : FVec F S256x256 .bf16 :=
  k1_pay72 (View.ld X.x28 r1_13)
/-- The value `%295` of the printed body. -/
def v295 (X : Blocks F) : FVec F S256x256 .bf16 :=
  k1_pay73 (View.ld X.x30 r1_13)
/-- The value `%297` of the printed body. -/
def v297 (X : Blocks F) : FVec F S256x256 .bf16 :=
  k1_pay74 (View.ld X.x31 r1_13)
/-- The value `%304` of the printed body. -/
def v304 (X : Blocks F) : FVec F S512x4 .f32 :=
  k1_pay76 X.v219 X.v239
/-- The value `%310` of the printed body. -/
def v310 (X : Blocks F) : FVec F S512x4 .f32 :=
  k1_pay77 X.v224 X.v239
/-- The value `%316` of the printed body. -/
def v316 (X : Blocks F) : FVec F S512x4 .f32 :=
  k1_pay78 X.v229 X.v239
/-- The value `%322` of the printed body. -/
def v322 (X : Blocks F) : FVec F S512x4 .f32 :=
  k1_pay79 X.v234 X.v239
/-- The value `%325` of the printed body. -/
def v325 (X : Blocks F) : FVec F S512x4 .f32 :=
  k1_pay80 X.v219 X.v224 X.v229 X.v234 X.v239
/-- The value `%408` of the printed body. -/
def v408 (X : Blocks F) : FVec F S512x4 .f32 :=
  k1_pay92 X.v214 X.v244
/-- The value `%414` of the printed body. -/
def v414 (X : Blocks F) : FVec F S512x4 .f32 :=
  k1_pay93 X.v224 X.v244
/-- The value `%415` of the printed body. -/
def v415 (X : Blocks F) : FVec F S512x4 .f32 :=
  k1_pay94 X.v229 X.v244
/-- The value `%417` of the printed body. -/
def v417 (X : Blocks F) : IVec S512x4 1 :=
  k1_pay95 X.v229 X.v244
/-- The value `%419` of the printed body. -/
def v419 (X : Blocks F) : FVec F S512x4 .f32 :=
  k1_pay96 X.v229 X.v244
/-- The value `%512` of the printed body. -/
def v512 (X : Blocks F) : FVec F S512x4 .f32 :=
  k1_pay111 X.v214 X.v249
/-- The value `%513` of the printed body. -/
def v513 (X : Blocks F) : FVec F S512x4 .f32 :=
  k1_pay112 X.v219 X.v249
/-- The value `%514` of the printed body. -/
def v514 (X : Blocks F) : FVec F S512x4 .f32 :=
  k1_pay113 (F := F)
/-- The value `%714` of the printed body. -/
def v714 (X : Blocks F) : FVec F S512x256 .f32 :=
  k1_pay148 X.v152 X.v295 (k1_pay129 (k1_pay110 X.v147 X.v148 X.v184 X.v189 X.v289 X.v291 X.v293 X.v295 X.v297 (k1_pay91 X.v145 X.v146 X.v189 X.v289 X.v291 X.v293 X.v295 X.v297 (k1_pay75 (F := F)) (k1_pay86 X.v174 X.v179 X.v184 X.v289 X.v304 X.v310 X.v316 X.v322 X.v325) (k1_pay89 X.v304 X.v310 X.v316 X.v322 X.v325) (k1_pay90 X.v289 X.v304 X.v310 X.v316 X.v322 X.v325) (constant S512x256 .f32 0x00000000#32) (View.ld X.x29 r1_8)) (k1_pay103 X.v234 X.v244 X.v408 X.v414 X.v415 X.v417 X.v419) (k1_pay104 X.v234 X.v244 X.v408 X.v414 X.v415 X.v417 X.v419) (k1_pay105 X.v169 X.v179 X.v234 X.v244 X.v289 X.v408 X.v414 X.v415 X.v417 X.v419) (k1_pay108 X.v234 X.v244 X.v408 X.v414 X.v415 X.v417 X.v419) (k1_pay109 X.v234 X.v244 X.v289 X.v408 X.v414 X.v415 X.v417 X.v419) (constant S512x256 .f32 0x00000000#32) (View.ld X.x29 r1_8)) (k1_pay128 X.v149 X.v150 X.v174 X.v184 X.v189 X.v289 X.v291 X.v293 X.v295 X.v297 (k1_pay120 X.v229 X.v234 X.v249 X.v512 X.v513 X.v514) (k1_pay121 X.v229 X.v234 X.v249 X.v512 X.v513 X.v514) (k1_pay122 X.v229 X.v234 X.v249 X.v512 X.v513 X.v514) (k1_pay123 X.v169 X.v229 X.v234 X.v249 X.v289 X.v512 X.v513 X.v514) (k1_pay126 X.v229 X.v234 X.v249 X.v512 X.v513 X.v514) (k1_pay127 X.v229 X.v234 X.v249 X.v289 X.v512 X.v513 X.v514) (constant S512x256 .f32 0x00000000#32) (View.ld X.x29 r1_8))) (k1_pay145 X.v169 X.v174 X.v179 X.v189 X.v289 (k1_pay136 X.v214 X.v219 X.v224 X.v234 X.v254) (k1_pay137 X.v214 X.v219 X.v224 X.v234 X.v254) (k1_pay138 X.v214 X.v219 X.v224 X.v234 X.v254) (k1_pay139 X.v214 X.v219 X.v224 X.v234 X.v254) (k1_pay140 (F := F)) (k1_pay143 X.v214 X.v219 X.v224 X.v234 X.v254) (k1_pay144 X.v214 X.v219 X.v224 X.v234 X.v254 X.v289) (constant S512x256 .f32 0x00000000#32)) (k1_pay146 X.v151 X.v152 X.v291 X.v293 (View.ld X.x29 r1_8)) (k1_pay147 X.v151 X.v295 X.v297)
/-- The value `%795` of the printed body. -/
def v795 (X : Blocks F) : FVec F S512x256 .f32 :=
  k1_pay159 X.v169 X.v174 X.v179 X.v184 X.v289 (k1_pay154 X.v214 X.v219 X.v224 X.v229 X.v259) (k1_pay155 X.v214 X.v219 X.v224 X.v229 X.v259) (k1_pay156 X.v214 X.v219 X.v224 X.v229 X.v259) (k1_pay157 X.v214 X.v219 X.v224 X.v229 X.v259) (k1_pay158 X.v214 X.v219 X.v224 X.v229 X.v259) (Scalar.ofBits .f32 0x3089705F#32)
/-- The value `%800` of the printed body. -/
def v800 (X : Blocks F) : FVec F S512x256 .f32 :=
  k1_pay160 X.v141 X.v144 X.v291 X.v293
/-- The value `%840` of the printed body. -/
def v840 (X : Blocks F) : FVec F S512x128 .bf16 :=
  k1_pay162 X.v141 X.v144 X.v295 X.v297 X.v714 X.v795 X.v800 (View.ld X.x29 r1_8) (View.ld X.x32 r1_15) (View.ld X.x33 r1_15) (View.ld X.x34 r1_16)
/-- The value `%842` of the printed body. -/
def v842 (X : Blocks F) : FVec F S512x128 .f32 :=
  k1_pay163 X.v141 X.v144 X.v295 X.v297 X.v714 X.v795 X.v800 (View.ld X.x29 r1_8) (View.ld X.x32 r1_15) (View.ld X.x33 r1_15) (View.ld X.x34 r1_16)
/-- The value `%859` of the printed body. -/
def v859 (X : Blocks F) : FVec F S512x128 .bf16 :=
  k1_pay165 X.v840 X.v842 (View.ld X.x35 r1_17) (View.ld X.x36 r1_17) (View.ld X.x37 r1_16)
/-- The value `%862` of the printed body. -/
def v862 (X : Blocks F) : FVec F S512x128 .bf16 :=
  k1_pay166 X.v840 X.v842 (View.ld X.x35 r1_17) (View.ld X.x36 r1_17) (View.ld X.x37 r1_16)

/-- The block that the body stores in the output window. -/
def out (X : Blocks F) : Vec F S512x3 .f32 :=
  View.canon [⟨r1_25, k1_pay1 (k1_pay169 (k1_pay167 X.v840 X.v842 (View.ld X.x35 r1_17) (View.ld X.x36 r1_17) (View.ld X.x37 r1_16) (View.ld X.x38 r1_18) (View.ld X.x39 r1_18) (View.ld X.x40 r1_19)) (k1_pay168 (View.ld X.x41 r1_19))) (k1_pay170 X.v859 X.v862 (View.ld X.x38 r1_20) (View.ld X.x39 r1_20) (View.ld X.x40 r1_21) (View.ld X.x41 r1_21)) (k1_pay171 X.v859 X.v862 (View.ld X.x38 r1_22) (View.ld X.x39 r1_22)) (View.ld X.x40 r1_23) (View.ld X.x41 r1_23) (View.ld X.x42 r1_24)⟩]

end Blocks

end Cert.KernelIdeal.Gen

end
-- ==== Proof.KernelIdeal.Body.lean ====
/-
The main kernel's body at every grid point: it runs from the input blocks to `Blocks.out` of them, and leaves
the inputs in place.
-/
module

public import proofs.«01_k».proof.Proof.KernelIdeal.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The one store covers the output block. -/
theorem cover1_43 (p0 : Vec F S512x3 .f32) (y : S512x3.Idx) :
    ∃ pc ∈ ([⟨r1_25, p0⟩] : List (View.Piece (Elt F) S512x3 .f32)), y ∈ pc.1.set :=
  View.cover_of_tiled [⟨r1_25, p0⟩] S512x3.size (by rfl) y

set_option maxHeartbeats 200000000 in
/-- The body on whole staging memrefs: it ends with the inputs as they were and the output at `Blocks.out` of them. -/
theorem sound_kernel1 (c : Dev nD) (E : Set ℕ) (i : grid1.Coords) (arg1 : Memref sig .tc .vmem S2048x300 .f32) (harg1 : arg1.IsWhole) (arg2 : Memref sig .tc .vmem S2048x7 .f32) (harg2 : arg2.IsWhole) (arg3 : Memref sig .tc .vmem S512x300 .f32) (harg3 : arg3.IsWhole) (arg4 : Memref sig .tc .vmem S512x7 .f32) (harg4 : arg4.IsWhole) (arg5 : Memref sig .tc .vmem S8x7 .f32) (harg5 : arg5.IsWhole) (arg6 : Memref sig .tc .vmem S300x512 .bf16) (harg6 : arg6.IsWhole) (arg7 : Memref sig .tc .vmem S300x512 .bf16) (harg7 : arg7.IsWhole) (arg8 : Memref sig .tc .vmem S7x512 .bf16) (harg8 : arg8.IsWhole) (arg9 : Memref sig .tc .vmem S7x512 .bf16) (harg9 : arg9.IsWhole) (arg10 : Memref sig .tc .vmem S1x512 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S1x256 .f32) (harg13 : arg13.IsWhole) (arg14 : Memref sig .tc .vmem S300x512 .bf16) (harg14 : arg14.IsWhole) (arg15 : Memref sig .tc .vmem S300x512 .bf16) (harg15 : arg15.IsWhole) (arg16 : Memref sig .tc .vmem S7x512 .bf16) (harg16 : arg16.IsWhole) (arg17 : Memref sig .tc .vmem S7x512 .bf16) (harg17 : arg17.IsWhole) (arg18 : Memref sig .tc .vmem S1x512 .f32) (harg18 : arg18.IsWhole) (arg19 : Memref sig .tc .vmem S512x256 .bf16) (harg19 : arg19.IsWhole) (arg20 : Memref sig .tc .vmem S512x256 .bf16) (harg20 : arg20.IsWhole) (arg21 : Memref sig .tc .vmem S1x256 .f32) (harg21 : arg21.IsWhole) (arg22 : Memref sig .tc .vmem S256x256 .bf16) (harg22 : arg22.IsWhole) (arg23 : Memref sig .tc .vmem S256x256 .bf16) (harg23 : arg23.IsWhole) (arg24 : Memref sig .tc .vmem S256x4 .bf16) (harg24 : arg24.IsWhole) (arg25 : Memref sig .tc .vmem S256x4 .bf16) (harg25 : arg25.IsWhole) (arg26 : Memref sig .tc .vmem S256x4 .bf16) (harg26 : arg26.IsWhole) (arg27 : Memref sig .tc .vmem S256x4 .bf16) (harg27 : arg27.IsWhole) (arg28 : Memref sig .tc .vmem S256x256 .bf16) (harg28 : arg28.IsWhole) (arg29 : Memref sig .tc .vmem S256x256 .bf16) (harg29 : arg29.IsWhole) (arg30 : Memref sig .tc .vmem S1x256 .f32) (harg30 : arg30.IsWhole) (arg31 : Memref sig .tc .vmem S256x256 .bf16) (harg31 : arg31.IsWhole) (arg32 : Memref sig .tc .vmem S256x256 .bf16) (harg32 : arg32.IsWhole) (arg33 : Memref sig .tc .vmem S256x128 .bf16) (harg33 : arg33.IsWhole) (arg34 : Memref sig .tc .vmem S256x128 .bf16) (harg34 : arg34.IsWhole) (arg35 : Memref sig .tc .vmem S1x128 .f32) (harg35 : arg35.IsWhole) (arg36 : Memref sig .tc .vmem S128x128 .bf16) (harg36 : arg36.IsWhole) (arg37 : Memref sig .tc .vmem S128x128 .bf16) (harg37 : arg37.IsWhole) (arg38 : Memref sig .tc .vmem S1x128 .f32) (harg38 : arg38.IsWhole) (arg39 : Memref sig .tc .vmem S3x128x128 .bf16) (harg39 : arg39.IsWhole) (arg40 : Memref sig .tc .vmem S3x128x128 .bf16) (harg40 : arg40.IsWhole) (arg41 : Memref sig .tc .vmem S3x128 .f32) (harg41 : arg41.IsWhole) (arg42 : Memref sig .tc .vmem S3x128 .f32) (harg42 : arg42.IsWhole) (arg43 : Memref sig .tc .vmem S1x3 .f32) (harg43 : arg43.IsWhole) (arg44 : Memref sig .tc .vmem S512x3 .f32) (harg44 : arg44.IsWhole)
    (x0 : Vec F S2048x300 .f32) (x1 : Vec F S2048x7 .f32) (x2 : Vec F S512x300 .f32) (x3 : Vec F S512x7 .f32) (x4 : Vec F S8x7 .f32) (x5 : Vec F S300x512 .bf16) (x6 : Vec F S300x512 .bf16) (x7 : Vec F S7x512 .bf16) (x8 : Vec F S7x512 .bf16) (x9 : Vec F S1x512 .f32) (x10 : Vec F S512x256 .bf16) (x11 : Vec F S512x256 .bf16) (x12 : Vec F S1x256 .f32) (x13 : Vec F S300x512 .bf16) (x14 : Vec F S300x512 .bf16) (x15 : Vec F S7x512 .bf16) (x16 : Vec F S7x512 .bf16) (x17 : Vec F S1x512 .f32) (x18 : Vec F S512x256 .bf16) (x19 : Vec F S512x256 .bf16) (x20 : Vec F S1x256 .f32) (x21 : Vec F S256x256 .bf16) (x22 : Vec F S256x256 .bf16) (x23 : Vec F S256x4 .bf16) (x24 : Vec F S256x4 .bf16) (x25 : Vec F S256x4 .bf16) (x26 : Vec F S256x4 .bf16) (x27 : Vec F S256x256 .bf16) (x28 : Vec F S256x256 .bf16) (x29 : Vec F S1x256 .f32) (x30 : Vec F S256x256 .bf16) (x31 : Vec F S256x256 .bf16) (x32 : Vec F S256x128 .bf16) (x33 : Vec F S256x128 .bf16) (x34 : Vec F S1x128 .f32) (x35 : Vec F S128x128 .bf16) (x36 : Vec F S128x128 .bf16) (x37 : Vec F S1x128 .f32) (x38 : Vec F S3x128x128 .bf16) (x39 : Vec F S3x128x128 .bf16) (x40 : Vec F S3x128 .f32) (x41 : Vec F S3x128 .f32) (x42 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare x37 ∗ owns (c : Thread nD τ) arg39 fullShare x38 ∗ owns (c : Thread nD τ) arg40 fullShare x39 ∗ owns (c : Thread nD τ) arg41 fullShare x40 ∗ owns (c : Thread nD τ) arg42 fullShare x41 ∗ owns (c : Thread nD τ) arg43 fullShare x42 ∗ (∃ d, owns (c : Thread nD τ) arg44 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare x37 ∗ owns (c : Thread nD τ) arg39 fullShare x38 ∗ owns (c : Thread nD τ) arg40 fullShare x39 ∗ owns (c : Thread nD τ) arg41 fullShare x40 ∗ owns (c : Thread nD τ) arg42 fullShare x41 ∗ owns (c : Thread nD τ) arg43 fullShare x42 ∗ owns (c : Thread nD τ) arg44 fullShare (Blocks.out ⟨x0, x1, x2, x3, x4, x5, x6, x7, x8, x9, x10, x11, x12, x13, x14, x15, x16, x17, x18, x19, x20, x21, x22, x23, x24, x25, x26, x27, x28, x29, x30, x31, x32, x33, x34, x35, x36, x37, x38, x39, x40, x41, x42⟩)) -∗ K ⟨⟩))
      ⊢ wp frame (wpE (defs₀ (F := F)) Variants.none c none) E (cc1__mega_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K := by
  simp only [cc1__mega_body_eq_skeleton]; unfold cc1__mega_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%d43, %f43, -, H43⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39 hf40 hf41 hf42
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists f42; isplitr; · ipureintro; rfl
    iexact H42
  iexists _; isplitr
  swap; · iexact H43
  ipureintro
  refine (View.read_writes_eq_canon _ _ _ (cover1_43 _)).trans ?_
  dsimp only [Blocks.v67, Blocks.v83, Blocks.v85, Blocks.v87, Blocks.v89, Blocks.v112, Blocks.v141, Blocks.v144,
    Blocks.v145, Blocks.v146, Blocks.v147, Blocks.v148, Blocks.v149, Blocks.v150, Blocks.v151, Blocks.v152,
    Blocks.v154, Blocks.v156, Blocks.v158, Blocks.v160, Blocks.v162, Blocks.v164, Blocks.v169, Blocks.v174,
    Blocks.v179, Blocks.v184, Blocks.v189, Blocks.v190, Blocks.v193, Blocks.v194, Blocks.v197, Blocks.v198,
    Blocks.v199, Blocks.v214, Blocks.v219, Blocks.v224, Blocks.v229, Blocks.v234, Blocks.v239, Blocks.v244,
    Blocks.v249, Blocks.v254, Blocks.v259, Blocks.v289, Blocks.v291, Blocks.v293, Blocks.v295, Blocks.v297,
    Blocks.v304, Blocks.v310, Blocks.v316, Blocks.v322, Blocks.v325, Blocks.v408, Blocks.v414, Blocks.v415,
    Blocks.v417, Blocks.v419, Blocks.v512, Blocks.v513, Blocks.v514, Blocks.v714, Blocks.v795, Blocks.v800,
    Blocks.v840, Blocks.v842, Blocks.v859, Blocks.v862, Blocks.out, r1_0, r1_1, r1_2, r1_3, r1_4, r1_5, r1_6, r1_7,
    r1_8, r1_9, r1_10, r1_11, r1_12, r1_13, r1_14, r1_15, r1_16, r1_17, r1_18, r1_19, r1_20, r1_21, r1_22, r1_23,
    r1_24, r1_25, sound_kernel1.sl.r, sound_kernel1.sl.r_1, sound_kernel1.sl.r_10, sound_kernel1.sl.r_100,
    sound_kernel1.sl.r_101, sound_kernel1.sl.r_102, sound_kernel1.sl.r_103, sound_kernel1.sl.r_104,
    sound_kernel1.sl.r_105, sound_kernel1.sl.r_106, sound_kernel1.sl.r_107, sound_kernel1.sl.r_108,
    sound_kernel1.sl.r_109, sound_kernel1.sl.r_11, sound_kernel1.sl.r_110, sound_kernel1.sl.r_111,
    sound_kernel1.sl.r_112, sound_kernel1.sl.r_113, sound_kernel1.sl.r_114, sound_kernel1.sl.r_115,
    sound_kernel1.sl.r_116, sound_kernel1.sl.r_117, sound_kernel1.sl.r_118, sound_kernel1.sl.r_119,
    sound_kernel1.sl.r_12, sound_kernel1.sl.r_120, sound_kernel1.sl.r_121, sound_kernel1.sl.r_122,
    sound_kernel1.sl.r_123, sound_kernel1.sl.r_13, sound_kernel1.sl.r_14, sound_kernel1.sl.r_15,
    sound_kernel1.sl.r_16, sound_kernel1.sl.r_17, sound_kernel1.sl.r_18, sound_kernel1.sl.r_19, sound_kernel1.sl.r_2,
    sound_kernel1.sl.r_20, sound_kernel1.sl.r_21, sound_kernel1.sl.r_22, sound_kernel1.sl.r_23, sound_kernel1.sl.r_24,
    sound_kernel1.sl.r_25, sound_kernel1.sl.r_26, sound_kernel1.sl.r_27, sound_kernel1.sl.r_28, sound_kernel1.sl.r_29,
    sound_kernel1.sl.r_3, sound_kernel1.sl.r_30, sound_kernel1.sl.r_31, sound_kernel1.sl.r_32, sound_kernel1.sl.r_33,
    sound_kernel1.sl.r_34, sound_kernel1.sl.r_35, sound_kernel1.sl.r_36, sound_kernel1.sl.r_37, sound_kernel1.sl.r_38,
    sound_kernel1.sl.r_39, sound_kernel1.sl.r_4, sound_kernel1.sl.r_40, sound_kernel1.sl.r_41, sound_kernel1.sl.r_42,
    sound_kernel1.sl.r_43, sound_kernel1.sl.r_44, sound_kernel1.sl.r_45, sound_kernel1.sl.r_46, sound_kernel1.sl.r_47,
    sound_kernel1.sl.r_48, sound_kernel1.sl.r_49, sound_kernel1.sl.r_5, sound_kernel1.sl.r_50, sound_kernel1.sl.r_51,
    sound_kernel1.sl.r_52, sound_kernel1.sl.r_53, sound_kernel1.sl.r_54, sound_kernel1.sl.r_55, sound_kernel1.sl.r_56,
    sound_kernel1.sl.r_57, sound_kernel1.sl.r_58, sound_kernel1.sl.r_59, sound_kernel1.sl.r_6, sound_kernel1.sl.r_60,
    sound_kernel1.sl.r_61, sound_kernel1.sl.r_62, sound_kernel1.sl.r_63, sound_kernel1.sl.r_64, sound_kernel1.sl.r_65,
    sound_kernel1.sl.r_66, sound_kernel1.sl.r_67, sound_kernel1.sl.r_68, sound_kernel1.sl.r_69, sound_kernel1.sl.r_7,
    sound_kernel1.sl.r_70, sound_kernel1.sl.r_71, sound_kernel1.sl.r_72, sound_kernel1.sl.r_73, sound_kernel1.sl.r_74,
    sound_kernel1.sl.r_75, sound_kernel1.sl.r_76, sound_kernel1.sl.r_77, sound_kernel1.sl.r_78, sound_kernel1.sl.r_79,
    sound_kernel1.sl.r_8, sound_kernel1.sl.r_80, sound_kernel1.sl.r_81, sound_kernel1.sl.r_82, sound_kernel1.sl.r_83,
    sound_kernel1.sl.r_84, sound_kernel1.sl.r_85, sound_kernel1.sl.r_86, sound_kernel1.sl.r_87, sound_kernel1.sl.r_88,
    sound_kernel1.sl.r_89, sound_kernel1.sl.r_9, sound_kernel1.sl.r_90, sound_kernel1.sl.r_91, sound_kernel1.sl.r_92,
    sound_kernel1.sl.r_93, sound_kernel1.sl.r_94, sound_kernel1.sl.r_95, sound_kernel1.sl.r_96, sound_kernel1.sl.r_97,
    sound_kernel1.sl.r_98, sound_kernel1.sl.r_99]
  rfl

section Regions
-- the contents of the buffers when the region is entered
variable (V : (c : Dev nD) → (b : Ref sig .tc) → Buf (Elt F) ((c : Thread nD τ).loc b))

/-- Window `w`'s block at point `t`, read off its array. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks at point `t`. -/
def blocks1 (c : Dev nD) (t : Fin cfg1.N) : Blocks F :=
  ⟨iblk1 V c 0 t, iblk1 V c 1 t, iblk1 V c 2 t, iblk1 V c 3 t, iblk1 V c 4 t, iblk1 V c 5 t, iblk1 V c 6 t, iblk1 V c 7 t, iblk1 V c 8 t, iblk1 V c 9 t, iblk1 V c 10 t, iblk1 V c 11 t, iblk1 V c 12 t, iblk1 V c 13 t, iblk1 V c 14 t, iblk1 V c 15 t, iblk1 V c 16 t, iblk1 V c 17 t, iblk1 V c 18 t, iblk1 V c 19 t, iblk1 V c 20 t, iblk1 V c 21 t, iblk1 V c 22 t, iblk1 V c 23 t, iblk1 V c 24 t, iblk1 V c 25 t, iblk1 V c 26 t, iblk1 V c 27 t, iblk1 V c 28 t, iblk1 V c 29 t, iblk1 V c 30 t, iblk1 V c 31 t, iblk1 V c 32 t, iblk1 V c 33 t, iblk1 V c 34 t, iblk1 V c 35 t, iblk1 V c 36 t, iblk1 V c 37 t, iblk1 V c 38 t, iblk1 V c 39 t, iblk1 V c 40 t, iblk1 V c 41 t, iblk1 V c 42 t⟩

/-- The proof data of the main pipeline: inputs stay, the output window gets `Blocks.out`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => iblk1 V c 22 t
    | ⟨23, _⟩ => iblk1 V c 23 t
    | ⟨24, _⟩ => iblk1 V c 24 t
    | ⟨25, _⟩ => iblk1 V c 25 t
    | ⟨26, _⟩ => iblk1 V c 26 t
    | ⟨27, _⟩ => iblk1 V c 27 t
    | ⟨28, _⟩ => iblk1 V c 28 t
    | ⟨29, _⟩ => iblk1 V c 29 t
    | ⟨30, _⟩ => iblk1 V c 30 t
    | ⟨31, _⟩ => iblk1 V c 31 t
    | ⟨32, _⟩ => iblk1 V c 32 t
    | ⟨33, _⟩ => iblk1 V c 33 t
    | ⟨34, _⟩ => iblk1 V c 34 t
    | ⟨35, _⟩ => iblk1 V c 35 t
    | ⟨36, _⟩ => iblk1 V c 36 t
    | ⟨37, _⟩ => iblk1 V c 37 t
    | ⟨38, _⟩ => iblk1 V c 38 t
    | ⟨39, _⟩ => iblk1 V c 39 t
    | ⟨40, _⟩ => iblk1 V c 40 t
    | ⟨41, _⟩ => iblk1 V c 41 t
    | ⟨42, _⟩ => iblk1 V c 42 t
    | ⟨43, _⟩ => (blocks1 V c t).out
    | ⟨_ + 44, h⟩ => absurd h (Nat.not_lt.2 (Nat.le_add_left _ _))
  Φ _ := Pipeline.ΦA spec1 c
  q _ := fullShare
  owed _ := 0

/-- The arrays are the contents at entry. -/
theorem A_eq1 (c : Dev nD) (w : Fin cfg1.W) : (dat1 V c).A w = V c (Pipeline.arrRef spec1 w) := by
  dsimp only [dat1]

/-- Window 0 keeps its block. -/
theorem after1_0 (c : Dev nD) (t : Fin cfg1.N) : (dat1 V c).after 0 t = iblk1 V c 0 t := by dsimp only [dat1]
/-- Window 1 keeps its block. -/
theorem after1_1 (c : Dev nD) (t : Fin cfg1.N) : (dat1 V c).after 1 t = iblk1 V c 1 t := by dsimp only [dat1]
/-- Window 2 keeps its block. -/
theorem after1_2 (c : Dev nD) (t : Fin cfg1.N) : (dat1 V c).after 2 t = iblk1 V c 2 t := by dsimp only [dat1]
/-- Window 3 keeps its block. -/
theorem after1_3 (c : Dev nD) (t : Fin cfg1.N) : (dat1 V c).after 3 t = iblk1 V c 3 t := by dsimp only [dat1]
/-- Window 4 keeps its block. -/
theorem after1_4 (c : Dev nD) (t : Fin cfg1.N) : (dat1 V c).after 4 t = iblk1 V c 4 t := by dsimp only [dat1]
/-- Window 5 keeps its block. -/
theorem after1_5 (c : Dev nD) (t : Fin cfg1.N) : (dat1 V c).after 5 t = iblk1 V c 5 t := by dsimp only [dat1]
/-- Window 6 keeps its block. -/
theorem after1_6 (c : Dev nD) (t : Fin cfg1.N) : (dat1 V c).after 6 t = iblk1 V c 6 t := by dsimp only [dat1]
/-- Window 7 keeps its block. -/
theorem after1_7 (c : Dev nD) (t : Fin cfg1.N) : (dat1 V c).after 7 t = iblk1 V c 7 t := by dsimp only [dat1]
/-- Window 8 keeps its block. -/
theorem after1_8 (c : Dev nD) (t : Fin cfg1.N) : (dat1 V c).after 8 t = iblk1 V c 8 t := by dsimp only [dat1]
/-- Window 9 keeps its block. -/
theorem after1_9 (c : Dev nD) (t : Fin cfg1.N) : (dat1 V c).after 9 t = iblk1 V c 9 t := by dsimp only [dat1]
/-- Window 10 keeps its block. -/
theorem after1_10 (c : Dev nD) (t : Fin cfg1.N) : (dat1 V c).after 10 t = iblk1 V c 10 t := by dsimp only [dat1]
/-- Window 11 keeps its block. -/
theorem after1_11 (c : Dev nD) (t : Fin cfg1.N) : (dat1 V c).after 11 t = iblk1 V c 11 t := by dsimp only [dat1]
/-- Window 12 keeps its block. -/
theorem after1_12 (c : Dev nD) (t : Fin cfg1.N) : (dat1 V c).after 12 t = iblk1 V c 12 t := by dsimp only [dat1]
/-- Window 13 keeps its block. -/
theorem after1_13 (c : Dev nD) (t : Fin cfg1.N) : (dat1 V c).after 13 t = iblk1 V c 13 t := by dsimp only [dat1]
/-- Window 14 keeps its block. -/
theorem after1_14 (c : Dev nD) (t : Fin cfg1.N) : (dat1 V c).after 14 t = iblk1 V c 14 t := by dsimp only [dat1]
/-- Window 15 keeps its block. -/
theorem after1_15 (c : Dev nD) (t : Fin cfg1.N) : (dat1 V c).after 15 t = iblk1 V c 15 t := by dsimp only [dat1]
/-- Window 16 keeps its block. -/
theorem after1_16 (c : Dev nD) (t : Fin cfg1.N) : (dat1 V c).after 16 t = iblk1 V c 16 t := by dsimp only [dat1]
/-- Window 17 keeps its block. -/
theorem after1_17 (c : Dev nD) (t : Fin cfg1.N) : (dat1 V c).after 17 t = iblk1 V c 17 t := by dsimp only [dat1]
/-- Window 18 keeps its block. -/
theorem after1_18 (c : Dev nD) (t : Fin cfg1.N) : (dat1 V c).after 18 t = iblk1 V c 18 t := by dsimp only [dat1]
/-- Window 19 keeps its block. -/
theorem after1_19 (c : Dev nD) (t : Fin cfg1.N) : (dat1 V c).after 19 t = iblk1 V c 19 t := by dsimp only [dat1]
/-- Window 20 keeps its block. -/
theorem after1_20 (c : Dev nD) (t : Fin cfg1.N) : (dat1 V c).after 20 t = iblk1 V c 20 t := by dsimp only [dat1]
/-- Window 21 keeps its block. -/
theorem after1_21 (c : Dev nD) (t : Fin cfg1.N) : (dat1 V c).after 21 t = iblk1 V c 21 t := by dsimp only [dat1]
/-- Window 22 keeps its block. -/
theorem after1_22 (c : Dev nD) (t : Fin cfg1.N) : (dat1 V c).after 22 t = iblk1 V c 22 t := by dsimp only [dat1]
/-- Window 23 keeps its block. -/
theorem after1_23 (c : Dev nD) (t : Fin cfg1.N) : (dat1 V c).after 23 t = iblk1 V c 23 t := by dsimp only [dat1]
/-- Window 24 keeps its block. -/
theorem after1_24 (c : Dev nD) (t : Fin cfg1.N) : (dat1 V c).after 24 t = iblk1 V c 24 t := by dsimp only [dat1]
/-- Window 25 keeps its block. -/
theorem after1_25 (c : Dev nD) (t : Fin cfg1.N) : (dat1 V c).after 25 t = iblk1 V c 25 t := by dsimp only [dat1]
/-- Window 26 keeps its block. -/
theorem after1_26 (c : Dev nD) (t : Fin cfg1.N) : (dat1 V c).after 26 t = iblk1 V c 26 t := by dsimp only [dat1]
/-- Window 27 keeps its block. -/
theorem after1_27 (c : Dev nD) (t : Fin cfg1.N) : (dat1 V c).after 27 t = iblk1 V c 27 t := by dsimp only [dat1]
/-- Window 28 keeps its block. -/
theorem after1_28 (c : Dev nD) (t : Fin cfg1.N) : (dat1 V c).after 28 t = iblk1 V c 28 t := by dsimp only [dat1]
/-- Window 29 keeps its block. -/
theorem after1_29 (c : Dev nD) (t : Fin cfg1.N) : (dat1 V c).after 29 t = iblk1 V c 29 t := by dsimp only [dat1]
/-- Window 30 keeps its block. -/
theorem after1_30 (c : Dev nD) (t : Fin cfg1.N) : (dat1 V c).after 30 t = iblk1 V c 30 t := by dsimp only [dat1]
/-- Window 31 keeps its block. -/
theorem after1_31 (c : Dev nD) (t : Fin cfg1.N) : (dat1 V c).after 31 t = iblk1 V c 31 t := by dsimp only [dat1]
/-- Window 32 keeps its block. -/
theorem after1_32 (c : Dev nD) (t : Fin cfg1.N) : (dat1 V c).after 32 t = iblk1 V c 32 t := by dsimp only [dat1]
/-- Window 33 keeps its block. -/
theorem after1_33 (c : Dev nD) (t : Fin cfg1.N) : (dat1 V c).after 33 t = iblk1 V c 33 t := by dsimp only [dat1]
/-- Window 34 keeps its block. -/
theorem after1_34 (c : Dev nD) (t : Fin cfg1.N) : (dat1 V c).after 34 t = iblk1 V c 34 t := by dsimp only [dat1]
/-- Window 35 keeps its block. -/
theorem after1_35 (c : Dev nD) (t : Fin cfg1.N) : (dat1 V c).after 35 t = iblk1 V c 35 t := by dsimp only [dat1]
/-- Window 36 keeps its block. -/
theorem after1_36 (c : Dev nD) (t : Fin cfg1.N) : (dat1 V c).after 36 t = iblk1 V c 36 t := by dsimp only [dat1]
/-- Window 37 keeps its block. -/
theorem after1_37 (c : Dev nD) (t : Fin cfg1.N) : (dat1 V c).after 37 t = iblk1 V c 37 t := by dsimp only [dat1]
/-- Window 38 keeps its block. -/
theorem after1_38 (c : Dev nD) (t : Fin cfg1.N) : (dat1 V c).after 38 t = iblk1 V c 38 t := by dsimp only [dat1]
/-- Window 39 keeps its block. -/
theorem after1_39 (c : Dev nD) (t : Fin cfg1.N) : (dat1 V c).after 39 t = iblk1 V c 39 t := by dsimp only [dat1]
/-- Window 40 keeps its block. -/
theorem after1_40 (c : Dev nD) (t : Fin cfg1.N) : (dat1 V c).after 40 t = iblk1 V c 40 t := by dsimp only [dat1]
/-- Window 41 keeps its block. -/
theorem after1_41 (c : Dev nD) (t : Fin cfg1.N) : (dat1 V c).after 41 t = iblk1 V c 41 t := by dsimp only [dat1]
/-- Window 42 keeps its block. -/
theorem after1_42 (c : Dev nD) (t : Fin cfg1.N) : (dat1 V c).after 42 t = iblk1 V c 42 t := by dsimp only [dat1]
/-- The output window after the body. -/
theorem after1_43 (c : Dev nD) (t : Fin cfg1.N) : (dat1 V c).after 43 t = (blocks1 V c t).out := by dsimp only [dat1]

/-- Window 0 holds, when a grid point starts, its block. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Window 1 holds, when a grid point starts, its block. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Window 2 holds, when a grid point starts, its block. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Window 3 holds, when a grid point starts, its block. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Window 4 holds, when a grid point starts, its block. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Window 5 holds, when a grid point starts, its block. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- Window 6 holds, when a grid point starts, its block. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
/-- Window 7 holds, when a grid point starts, its block. -/
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
/-- Window 8 holds, when a grid point starts, its block. -/
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
/-- Window 9 holds, when a grid point starts, its block. -/
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
/-- Window 10 holds, when a grid point starts, its block. -/
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
/-- Window 11 holds, when a grid point starts, its block. -/
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
/-- Window 12 holds, when a grid point starts, its block. -/
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
/-- Window 13 holds, when a grid point starts, its block. -/
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)
/-- Window 14 holds, when a grid point starts, its block. -/
theorem before1_14 (c : Dev nD) (t : Fin cfg1.N) (d) : (dat1 V c).before 14 t d = iblk1 V c 14 t :=
  ((dat1 V c).before_in_eq_fetched 14 rfl (fun _ => rfl) (fun _ _ _ => rfl) (fun t => by rw [after1_14]; unfold Dat.blockOf iblk1; rw [A_eq1]; try rfl) t d).trans
    (by unfold Dat.fetched Dat.blockOf iblk1; rw [A_eq1]; try rfl)
/-- Window 15 holds, when a grid point starts, its block. -/
theorem before1_15 (c : Dev nD) (t : Fin cfg1.N) (d) : (dat1 V c).before 15 t d = iblk1 V c 15 t :=
  ((dat1 V c).before_in_eq_fetched 15 rfl (fun _ => rfl) (fun _ _ _ => rfl) (fun t => by rw [after1_15]; unfold Dat.blockOf iblk1; rw [A_eq1]; try rfl) t d).trans
    (by unfold Dat.fetched Dat.blockOf iblk1; rw [A_eq1]; try rfl)
/-- Window 16 holds, when a grid point starts, its block. -/
theorem before1_16 (c : Dev nD) (t : Fin cfg1.N) (d) : (dat1 V c).before 16 t d = iblk1 V c 16 t :=
  ((dat1 V c).before_in_eq_fetched 16 rfl (fun _ => rfl) (fun _ _ _ => rfl) (fun t => by rw [after1_16]; unfold Dat.blockOf iblk1; rw [A_eq1]; try rfl) t d).trans
    (by unfold Dat.fetched Dat.blockOf iblk1; rw [A_eq1]; try rfl)
/-- Window 17 holds, when a grid point starts, its block. -/
theorem before1_17 (c : Dev nD) (t : Fin cfg1.N) (d) : (dat1 V c).before 17 t d = iblk1 V c 17 t :=
  ((dat1 V c).before_in_eq_fetched 17 rfl (fun _ => rfl) (fun _ _ _ => rfl) (fun t => by rw [after1_17]; unfold Dat.blockOf iblk1; rw [A_eq1]; try rfl) t d).trans
    (by unfold Dat.fetched Dat.blockOf iblk1; rw [A_eq1]; try rfl)
/-- Window 18 holds, when a grid point starts, its block. -/
theorem before1_18 (c : Dev nD) (t : Fin cfg1.N) (d) : (dat1 V c).before 18 t d = iblk1 V c 18 t :=
  ((dat1 V c).before_in_eq_fetched 18 rfl (fun _ => rfl) (fun _ _ _ => rfl) (fun t => by rw [after1_18]; unfold Dat.blockOf iblk1; rw [A_eq1]; try rfl) t d).trans
    (by unfold Dat.fetched Dat.blockOf iblk1; rw [A_eq1]; try rfl)
/-- Window 19 holds, when a grid point starts, its block. -/
theorem before1_19 (c : Dev nD) (t : Fin cfg1.N) (d) : (dat1 V c).before 19 t d = iblk1 V c 19 t :=
  ((dat1 V c).before_in_eq_fetched 19 rfl (fun _ => rfl) (fun _ _ _ => rfl) (fun t => by rw [after1_19]; unfold Dat.blockOf iblk1; rw [A_eq1]; try rfl) t d).trans
    (by unfold Dat.fetched Dat.blockOf iblk1; rw [A_eq1]; try rfl)
/-- Window 20 holds, when a grid point starts, its block. -/
theorem before1_20 (c : Dev nD) (t : Fin cfg1.N) (d) : (dat1 V c).before 20 t d = iblk1 V c 20 t :=
  ((dat1 V c).before_in_eq_fetched 20 rfl (fun _ => rfl) (fun _ _ _ => rfl) (fun t => by rw [after1_20]; unfold Dat.blockOf iblk1; rw [A_eq1]; try rfl) t d).trans
    (by unfold Dat.fetched Dat.blockOf iblk1; rw [A_eq1]; try rfl)
/-- Window 21 holds, when a grid point starts, its block. -/
theorem before1_21 (c : Dev nD) (t : Fin cfg1.N) (d) : (dat1 V c).before 21 t d = iblk1 V c 21 t :=
  ((dat1 V c).before_in_eq_fetched 21 rfl (fun _ => rfl) (fun _ _ _ => rfl) (fun t => by rw [after1_21]; unfold Dat.blockOf iblk1; rw [A_eq1]; try rfl) t d).trans
    (by unfold Dat.fetched Dat.blockOf iblk1; rw [A_eq1]; try rfl)
/-- Window 22 holds, when a grid point starts, its block. -/
theorem before1_22 (c : Dev nD) (t : Fin cfg1.N) (d) : (dat1 V c).before 22 t d = iblk1 V c 22 t :=
  ((dat1 V c).before_in_eq_fetched 22 rfl (fun _ => rfl) (fun _ _ _ => rfl) (fun t => by rw [after1_22]; unfold Dat.blockOf iblk1; rw [A_eq1]; try rfl) t d).trans
    (by unfold Dat.fetched Dat.blockOf iblk1; rw [A_eq1]; try rfl)
/-- Window 23 holds, when a grid point starts, its block. -/
theorem before1_23 (c : Dev nD) (t : Fin cfg1.N) (d) : (dat1 V c).before 23 t d = iblk1 V c 23 t :=
  ((dat1 V c).before_in_eq_fetched 23 rfl (fun _ => rfl) (fun _ _ _ => rfl) (fun t => by rw [after1_23]; unfold Dat.blockOf iblk1; rw [A_eq1]; try rfl) t d).trans
    (by unfold Dat.fetched Dat.blockOf iblk1; rw [A_eq1]; try rfl)
/-- Window 24 holds, when a grid point starts, its block. -/
theorem before1_24 (c : Dev nD) (t : Fin cfg1.N) (d) : (dat1 V c).before 24 t d = iblk1 V c 24 t :=
  ((dat1 V c).before_in_eq_fetched 24 rfl (fun _ => rfl) (fun _ _ _ => rfl) (fun t => by rw [after1_24]; unfold Dat.blockOf iblk1; rw [A_eq1]; try rfl) t d).trans
    (by unfold Dat.fetched Dat.blockOf iblk1; rw [A_eq1]; try rfl)
/-- Window 25 holds, when a grid point starts, its block. -/
theorem before1_25 (c : Dev nD) (t : Fin cfg1.N) (d) : (dat1 V c).before 25 t d = iblk1 V c 25 t :=
  ((dat1 V c).before_in_eq_fetched 25 rfl (fun _ => rfl) (fun _ _ _ => rfl) (fun t => by rw [after1_25]; unfold Dat.blockOf iblk1; rw [A_eq1]; try rfl) t d).trans
    (by unfold Dat.fetched Dat.blockOf iblk1; rw [A_eq1]; try rfl)
/-- Window 26 holds, when a grid point starts, its block. -/
theorem before1_26 (c : Dev nD) (t : Fin cfg1.N) (d) : (dat1 V c).before 26 t d = iblk1 V c 26 t :=
  ((dat1 V c).before_in_eq_fetched 26 rfl (fun _ => rfl) (fun _ _ _ => rfl) (fun t => by rw [after1_26]; unfold Dat.blockOf iblk1; rw [A_eq1]; try rfl) t d).trans
    (by unfold Dat.fetched Dat.blockOf iblk1; rw [A_eq1]; try rfl)
/-- Window 27 holds, when a grid point starts, its block. -/
theorem before1_27 (c : Dev nD) (t : Fin cfg1.N) (d) : (dat1 V c).before 27 t d = iblk1 V c 27 t :=
  ((dat1 V c).before_in_eq_fetched 27 rfl (fun _ => rfl) (fun _ _ _ => rfl) (fun t => by rw [after1_27]; unfold Dat.blockOf iblk1; rw [A_eq1]; try rfl) t d).trans
    (by unfold Dat.fetched Dat.blockOf iblk1; rw [A_eq1]; try rfl)
/-- Window 28 holds, when a grid point starts, its block. -/
theorem before1_28 (c : Dev nD) (t : Fin cfg1.N) (d) : (dat1 V c).before 28 t d = iblk1 V c 28 t :=
  ((dat1 V c).before_in_eq_fetched 28 rfl (fun _ => rfl) (fun _ _ _ => rfl) (fun t => by rw [after1_28]; unfold Dat.blockOf iblk1; rw [A_eq1]; try rfl) t d).trans
    (by unfold Dat.fetched Dat.blockOf iblk1; rw [A_eq1]; try rfl)
/-- Window 29 holds, when a grid point starts, its block. -/
theorem before1_29 (c : Dev nD) (t : Fin cfg1.N) (d) : (dat1 V c).before 29 t d = iblk1 V c 29 t :=
  ((dat1 V c).before_in_eq_fetched 29 rfl (fun _ => rfl) (fun _ _ _ => rfl) (fun t => by rw [after1_29]; unfold Dat.blockOf iblk1; rw [A_eq1]; try rfl) t d).trans
    (by unfold Dat.fetched Dat.blockOf iblk1; rw [A_eq1]; try rfl)
/-- Window 30 holds, when a grid point starts, its block. -/
theorem before1_30 (c : Dev nD) (t : Fin cfg1.N) (d) : (dat1 V c).before 30 t d = iblk1 V c 30 t :=
  ((dat1 V c).before_in_eq_fetched 30 rfl (fun _ => rfl) (fun _ _ _ => rfl) (fun t => by rw [after1_30]; unfold Dat.blockOf iblk1; rw [A_eq1]; try rfl) t d).trans
    (by unfold Dat.fetched Dat.blockOf iblk1; rw [A_eq1]; try rfl)
/-- Window 31 holds, when a grid point starts, its block. -/
theorem before1_31 (c : Dev nD) (t : Fin cfg1.N) (d) : (dat1 V c).before 31 t d = iblk1 V c 31 t :=
  ((dat1 V c).before_in_eq_fetched 31 rfl (fun _ => rfl) (fun _ _ _ => rfl) (fun t => by rw [after1_31]; unfold Dat.blockOf iblk1; rw [A_eq1]; try rfl) t d).trans
    (by unfold Dat.fetched Dat.blockOf iblk1; rw [A_eq1]; try rfl)
/-- Window 32 holds, when a grid point starts, its block. -/
theorem before1_32 (c : Dev nD) (t : Fin cfg1.N) (d) : (dat1 V c).before 32 t d = iblk1 V c 32 t :=
  ((dat1 V c).before_in_eq_fetched 32 rfl (fun _ => rfl) (fun _ _ _ => rfl) (fun t => by rw [after1_32]; unfold Dat.blockOf iblk1; rw [A_eq1]; try rfl) t d).trans
    (by unfold Dat.fetched Dat.blockOf iblk1; rw [A_eq1]; try rfl)
/-- Window 33 holds, when a grid point starts, its block. -/
theorem before1_33 (c : Dev nD) (t : Fin cfg1.N) (d) : (dat1 V c).before 33 t d = iblk1 V c 33 t :=
  ((dat1 V c).before_in_eq_fetched 33 rfl (fun _ => rfl) (fun _ _ _ => rfl) (fun t => by rw [after1_33]; unfold Dat.blockOf iblk1; rw [A_eq1]; try rfl) t d).trans
    (by unfold Dat.fetched Dat.blockOf iblk1; rw [A_eq1]; try rfl)
/-- Window 34 holds, when a grid point starts, its block. -/
theorem before1_34 (c : Dev nD) (t : Fin cfg1.N) (d) : (dat1 V c).before 34 t d = iblk1 V c 34 t :=
  ((dat1 V c).before_in_eq_fetched 34 rfl (fun _ => rfl) (fun _ _ _ => rfl) (fun t => by rw [after1_34]; unfold Dat.blockOf iblk1; rw [A_eq1]; try rfl) t d).trans
    (by unfold Dat.fetched Dat.blockOf iblk1; rw [A_eq1]; try rfl)
/-- Window 35 holds, when a grid point starts, its block. -/
theorem before1_35 (c : Dev nD) (t : Fin cfg1.N) (d) : (dat1 V c).before 35 t d = iblk1 V c 35 t :=
  ((dat1 V c).before_in_eq_fetched 35 rfl (fun _ => rfl) (fun _ _ _ => rfl) (fun t => by rw [after1_35]; unfold Dat.blockOf iblk1; rw [A_eq1]; try rfl) t d).trans
    (by unfold Dat.fetched Dat.blockOf iblk1; rw [A_eq1]; try rfl)
/-- Window 36 holds, when a grid point starts, its block. -/
theorem before1_36 (c : Dev nD) (t : Fin cfg1.N) (d) : (dat1 V c).before 36 t d = iblk1 V c 36 t :=
  ((dat1 V c).before_in_eq_fetched 36 rfl (fun _ => rfl) (fun _ _ _ => rfl) (fun t => by rw [after1_36]; unfold Dat.blockOf iblk1; rw [A_eq1]; try rfl) t d).trans
    (by unfold Dat.fetched Dat.blockOf iblk1; rw [A_eq1]; try rfl)
/-- Window 37 holds, when a grid point starts, its block. -/
theorem before1_37 (c : Dev nD) (t : Fin cfg1.N) (d) : (dat1 V c).before 37 t d = iblk1 V c 37 t :=
  ((dat1 V c).before_in_eq_fetched 37 rfl (fun _ => rfl) (fun _ _ _ => rfl) (fun t => by rw [after1_37]; unfold Dat.blockOf iblk1; rw [A_eq1]; try rfl) t d).trans
    (by unfold Dat.fetched Dat.blockOf iblk1; rw [A_eq1]; try rfl)
/-- Window 38 holds, when a grid point starts, its block. -/
theorem before1_38 (c : Dev nD) (t : Fin cfg1.N) (d) : (dat1 V c).before 38 t d = iblk1 V c 38 t :=
  ((dat1 V c).before_in_eq_fetched 38 rfl (fun _ => rfl) (fun _ _ _ => rfl) (fun t => by rw [after1_38]; unfold Dat.blockOf iblk1; rw [A_eq1]; try rfl) t d).trans
    (by unfold Dat.fetched Dat.blockOf iblk1; rw [A_eq1]; try rfl)
/-- Window 39 holds, when a grid point starts, its block. -/
theorem before1_39 (c : Dev nD) (t : Fin cfg1.N) (d) : (dat1 V c).before 39 t d = iblk1 V c 39 t :=
  ((dat1 V c).before_in_eq_fetched 39 rfl (fun _ => rfl) (fun _ _ _ => rfl) (fun t => by rw [after1_39]; unfold Dat.blockOf iblk1; rw [A_eq1]; try rfl) t d).trans
    (by unfold Dat.fetched Dat.blockOf iblk1; rw [A_eq1]; try rfl)
/-- Window 40 holds, when a grid point starts, its block. -/
theorem before1_40 (c : Dev nD) (t : Fin cfg1.N) (d) : (dat1 V c).before 40 t d = iblk1 V c 40 t :=
  ((dat1 V c).before_in_eq_fetched 40 rfl (fun _ => rfl) (fun _ _ _ => rfl) (fun t => by rw [after1_40]; unfold Dat.blockOf iblk1; rw [A_eq1]; try rfl) t d).trans
    (by unfold Dat.fetched Dat.blockOf iblk1; rw [A_eq1]; try rfl)
/-- Window 41 holds, when a grid point starts, its block. -/
theorem before1_41 (c : Dev nD) (t : Fin cfg1.N) (d) : (dat1 V c).before 41 t d = iblk1 V c 41 t :=
  ((dat1 V c).before_in_eq_fetched 41 rfl (fun _ => rfl) (fun _ _ _ => rfl) (fun t => by rw [after1_41]; unfold Dat.blockOf iblk1; rw [A_eq1]; try rfl) t d).trans
    (by unfold Dat.fetched Dat.blockOf iblk1; rw [A_eq1]; try rfl)
/-- Window 42 holds, when a grid point starts, its block. -/
theorem before1_42 (c : Dev nD) (t : Fin cfg1.N) (d) : (dat1 V c).before 42 t d = iblk1 V c 42 t :=
  ((dat1 V c).before_in_eq_fetched 42 rfl (fun _ => rfl) (fun _ _ _ => rfl) (fun t => by rw [after1_42]; unfold Dat.blockOf iblk1; rw [A_eq1]; try rfl) t d).trans
    (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d))
    ∗ (∃ d, owns (c : Thread nD τ) (st1_25 t) fullShare ((dat1 V c).before 25 t d))
    ∗ (∃ d, owns (c : Thread nD τ) (st1_26 t) fullShare ((dat1 V c).before 26 t d))
    ∗ (∃ d, owns (c : Thread nD τ) (st1_27 t) fullShare ((dat1 V c).before 27 t d))
    ∗ (∃ d, owns (c : Thread nD τ) (st1_28 t) fullShare ((dat1 V c).before 28 t d))
    ∗ (∃ d, owns (c : Thread nD τ) (st1_29 t) fullShare ((dat1 V c).before 29 t d))
    ∗ (∃ d, owns (c : Thread nD τ) (st1_30 t) fullShare ((dat1 V c).before 30 t d))
    ∗ (∃ d, owns (c : Thread nD τ) (st1_31 t) fullShare ((dat1 V c).before 31 t d))
    ∗ (∃ d, owns (c : Thread nD τ) (st1_32 t) fullShare ((dat1 V c).before 32 t d))
    ∗ (∃ d, owns (c : Thread nD τ) (st1_33 t) fullShare ((dat1 V c).before 33 t d))
    ∗ (∃ d, owns (c : Thread nD τ) (st1_34 t) fullShare ((dat1 V c).before 34 t d))
    ∗ (∃ d, owns (c : Thread nD τ) (st1_35 t) fullShare ((dat1 V c).before 35 t d))
    ∗ (∃ d, owns (c : Thread nD τ) (st1_36 t) fullShare ((dat1 V c).before 36 t d))
    ∗ (∃ d, owns (c : Thread nD τ) (st1_37 t) fullShare ((dat1 V c).before 37 t d))
    ∗ (∃ d, owns (c : Thread nD τ) (st1_38 t) fullShare ((dat1 V c).before 38 t d))
    ∗ (∃ d, owns (c : Thread nD τ) (st1_39 t) fullShare ((dat1 V c).before 39 t d))
    ∗ (∃ d, owns (c : Thread nD τ) (st1_40 t) fullShare ((dat1 V c).before 40 t d))
    ∗ (∃ d, owns (c : Thread nD τ) (st1_41 t) fullShare ((dat1 V c).before 41 t d))
    ∗ (∃ d, owns (c : Thread nD τ) (st1_42 t) fullShare ((dat1 V c).before 42 t d))
    ∗ (∃ d, owns (c : Thread nD τ) (st1_43 t) fullShare ((dat1 V c).before 43 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ owns (c : Thread nD τ) (st1_22 t) fullShare ((dat1 V c).after 22 t)
    ∗ owns (c : Thread nD τ) (st1_23 t) fullShare ((dat1 V c).after 23 t)
    ∗ owns (c : Thread nD τ) (st1_24 t) fullShare ((dat1 V c).after 24 t)
    ∗ owns (c : Thread nD τ) (st1_25 t) fullShare ((dat1 V c).after 25 t)
    ∗ owns (c : Thread nD τ) (st1_26 t) fullShare ((dat1 V c).after 26 t)
    ∗ owns (c : Thread nD τ) (st1_27 t) fullShare ((dat1 V c).after 27 t)
    ∗ owns (c : Thread nD τ) (st1_28 t) fullShare ((dat1 V c).after 28 t)
    ∗ owns (c : Thread nD τ) (st1_29 t) fullShare ((dat1 V c).after 29 t)
    ∗ owns (c : Thread nD τ) (st1_30 t) fullShare ((dat1 V c).after 30 t)
    ∗ owns (c : Thread nD τ) (st1_31 t) fullShare ((dat1 V c).after 31 t)
    ∗ owns (c : Thread nD τ) (st1_32 t) fullShare ((dat1 V c).after 32 t)
    ∗ owns (c : Thread nD τ) (st1_33 t) fullShare ((dat1 V c).after 33 t)
    ∗ owns (c : Thread nD τ) (st1_34 t) fullShare ((dat1 V c).after 34 t)
    ∗ owns (c : Thread nD τ) (st1_35 t) fullShare ((dat1 V c).after 35 t)
    ∗ owns (c : Thread nD τ) (st1_36 t) fullShare ((dat1 V c).after 36 t)
    ∗ owns (c : Thread nD τ) (st1_37 t) fullShare ((dat1 V c).after 37 t)
    ∗ owns (c : Thread nD τ) (st1_38 t) fullShare ((dat1 V c).after 38 t)
    ∗ owns (c : Thread nD τ) (st1_39 t) fullShare ((dat1 V c).after 39 t)
    ∗ owns (c : Thread nD τ) (st1_40 t) fullShare ((dat1 V c).after 40 t)
    ∗ owns (c : Thread nD τ) (st1_41 t) fullShare ((dat1 V c).after 41 t)
    ∗ owns (c : Thread nD τ) (st1_42 t) fullShare ((dat1 V c).after 42 t)
    ∗ owns (c : Thread nD τ) (st1_43 t) fullShare ((dat1 V c).after 43 t))

set_option maxHeartbeats 200000000 in
/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21, before1_22, before1_23, before1_24, before1_25, before1_26, before1_27, before1_28, before1_29, before1_30, before1_31, before1_32, before1_33, before1_34, before1_35, before1_36, before1_37, before1_38, before1_39, before1_40, before1_41, before1_42]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_22, after1_23, after1_24, after1_25, after1_26, after1_27, after1_28, after1_29, after1_30, after1_31, after1_32, after1_33, after1_34, after1_35, after1_36, after1_37, after1_38, after1_39, after1_40, after1_41, after1_42, after1_43]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩⟩
  iapply (sound_kernel1 c Set.univ (grid1.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (iblk1 V c 19 t) (iblk1 V c 20 t) (iblk1 V c 21 t) (iblk1 V c 22 t) (iblk1 V c 23 t) (iblk1 V c 24 t) (iblk1 V c 25 t) (iblk1 V c 26 t) (iblk1 V c 27 t) (iblk1 V c 28 t) (iblk1 V c 29 t) (iblk1 V c 30 t) (iblk1 V c 31 t) (iblk1 V c 32 t) (iblk1 V c 33 t) (iblk1 V c 34 t) (iblk1 V c 35 t) (iblk1 V c 36 t) (iblk1 V c 37 t) (iblk1 V c 38 t) (iblk1 V c 39 t) (iblk1 V c 40 t) (iblk1 V c 41 t) (iblk1 V c 42 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexists _; iexact H43
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  iexact H43

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 200000000 in
/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.KernelIdeal.Run.lean ====
/-
The whole program's run: the buffer contents between its calls, each call as a segment, and the frame.
-/
module

public import proofs.«01_k».proof.Proof.KernelIdeal.Body
public import proofs.«01_k».proof.Proof.Gen.KernelIdeal.Frame.Region0
public import proofs.«01_k».proof.Proof.Gen.KernelIdeal.Frame.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
/-- The arguments at launch. -/
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered (Lib/Pipeline/FrameSuffix.lean `withArrays`). -/
def W1 (c : Dev nD) : Valuation τ sig (Elt F) :=
  Pipeline.withArrays spec0 c (W0 m ρ c) fun w => (dat0 (V0 m ρ) c).arrAt w cfg0.N
/-- The first kernel's arrays at its end. -/
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
/-- What the first kernel leaves alone. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments after the first kernel. -/
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
/-- The first kernel changes only its windows' arrays. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After `hostOps1`. -/
abbrev W2 : Dev nD → Valuation τ sig (Elt F) := fun c => StableHlo.after hostOps1 (W1 m ρ c)
/-- A reference `hostOps1` does not write keeps its contents across it. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
/-- The arguments after the first host operations. -/
theorem W2_args (c : Dev nD) : ∀ a ∈ argRefs, W2 m ρ c (Proc.devRef .tc a) = m ((c : Thread nD τ).loc a) :=
  fun a ha => (W2_of m ρ c a (hostOps1_args a ha)).trans (W1_args m ρ c a ha)
/-- After `hostOps1_1`. -/
abbrev W3 : Dev nD → Valuation τ sig (Elt F) := fun c => StableHlo.after hostOps1_1 (W2 m ρ c)
/-- A reference `hostOps1_1` does not write keeps its contents across it. -/
theorem W3_of (c : Dev nD) (r : Ref sig .tc) (h : r ∉ hostOps1_1_W) : W3 m ρ c (Proc.devRef .tc r) = W2 m ρ c (Proc.devRef .tc r) :=
  StableHlo.after_of_writes_sub hostOps1_1 _ hostOps1_1_writes h
/-- The arguments after the second host operations. -/
theorem W3_args (c : Dev nD) : ∀ a ∈ argRefs, W3 m ρ c (Proc.devRef .tc a) = m ((c : Thread nD τ).loc a) :=
  fun a ha => (W3_of m ρ c a (hostOps1_1_args a ha)).trans (W2_args m ρ c a ha)
/-- After `hostOps1_2` (region 1's entry). -/
abbrev W4 : Dev nD → Valuation τ sig (Elt F) := fun c => StableHlo.after hostOps1_2 (W3 m ρ c)
/-- A reference `hostOps1_2` does not write keeps its contents across it. -/
theorem W4_of (c : Dev nD) (r : Ref sig .tc) (h : r ∉ hostOps1_2_W) : W4 m ρ c (Proc.devRef .tc r) = W3 m ρ c (Proc.devRef .tc r) :=
  StableHlo.after_of_writes_sub hostOps1_2 _ hostOps1_2_writes h
/-- The arguments after the third host operations. -/
theorem W4_args (c : Dev nD) : ∀ a ∈ argRefs, W4 m ρ c (Proc.devRef .tc a) = m ((c : Thread nD τ).loc a) :=
  fun a ha => (W4_of m ρ c a (hostOps1_2_args a ha)).trans (W3_args m ρ c a ha)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
/-- The second kernel's arrays at its end. -/
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
/-- What the second kernel leaves alone. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments after the second kernel. -/
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
/-- The second kernel changes only its windows' arrays. -/
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-! ### The arguments end as launched: no host stretch writes one and no region may change one (a region reads it
    through an input window or bypasses it) -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run from any launch: every array outside the kernels ends as the run's valuations say, and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- Arrays that end as the run's valuations say: the arguments end as launched. -/
theorem kept (mem : (ℓ : Loc nD τ sig) → Buf (Elt F) ℓ) (c : Dev nD) (h : ∀ b ∈ Pipeline.ucRefs τ sig, mem (((c : Thread nD τ)).1, b) = W5 m ρ c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19)
      ∧ mem ((c.tc : Thread nD τ).loc main_arg20) = m ((c.tc : Thread nD τ).loc main_arg20)
      ∧ mem ((c.tc : Thread nD τ).loc main_arg21) = m ((c.tc : Thread nD τ).loc main_arg21)
      ∧ mem ((c.tc : Thread nD τ).loc main_arg22) = m ((c.tc : Thread nD τ).loc main_arg22)
      ∧ mem ((c.tc : Thread nD τ).loc main_arg23) = m ((c.tc : Thread nD τ).loc main_arg23)
      ∧ mem ((c.tc : Thread nD τ).loc main_arg24) = m ((c.tc : Thread nD τ).loc main_arg24)
      ∧ mem ((c.tc : Thread nD τ).loc main_arg25) = m ((c.tc : Thread nD τ).loc main_arg25)
      ∧ mem ((c.tc : Thread nD τ).loc main_arg26) = m ((c.tc : Thread nD τ).loc main_arg26)
      ∧ mem ((c.tc : Thread nD τ).loc main_arg27) = m ((c.tc : Thread nD τ).loc main_arg27)
      ∧ mem ((c.tc : Thread nD τ).loc main_arg28) = m ((c.tc : Thread nD τ).loc main_arg28) :=
      ⟨(h _ (mem_uc main_arg0 (by decide))).trans (W5_args m ρ c main_arg0 (by decide)),
       (h _ (mem_uc main_arg1 (by decide))).trans (W5_args m ρ c main_arg1 (by decide)),
       (h _ (mem_uc main_arg2 (by decide))).trans (W5_args m ρ c main_arg2 (by decide)),
       (h _ (mem_uc main_arg3 (by decide))).trans (W5_args m ρ c main_arg3 (by decide)),
       (h _ (mem_uc main_arg4 (by decide))).trans (W5_args m ρ c main_arg4 (by decide)),
       (h _ (mem_uc main_arg5 (by decide))).trans (W5_args m ρ c main_arg5 (by decide)),
       (h _ (mem_uc main_arg6 (by decide))).trans (W5_args m ρ c main_arg6 (by decide)),
       (h _ (mem_uc main_arg7 (by decide))).trans (W5_args m ρ c main_arg7 (by decide)),
       (h _ (mem_uc main_arg8 (by decide))).trans (W5_args m ρ c main_arg8 (by decide)),
       (h _ (mem_uc main_arg9 (by decide))).trans (W5_args m ρ c main_arg9 (by decide)),
       (h _ (mem_uc main_arg10 (by decide))).trans (W5_args m ρ c main_arg10 (by decide)),
       (h _ (mem_uc main_arg11 (by decide))).trans (W5_args m ρ c main_arg11 (by decide)),
       (h _ (mem_uc main_arg12 (by decide))).trans (W5_args m ρ c main_arg12 (by decide)),
       (h _ (mem_uc main_arg13 (by decide))).trans (W5_args m ρ c main_arg13 (by decide)),
       (h _ (mem_uc main_arg14 (by decide))).trans (W5_args m ρ c main_arg14 (by decide)),
       (h _ (mem_uc main_arg15 (by decide))).trans (W5_args m ρ c main_arg15 (by decide)),
       (h _ (mem_uc main_arg16 (by decide))).trans (W5_args m ρ c main_arg16 (by decide)),
       (h _ (mem_uc main_arg17 (by decide))).trans (W5_args m ρ c main_arg17 (by decide)),
       (h _ (mem_uc main_arg18 (by decide))).trans (W5_args m ρ c main_arg18 (by decide)),
       (h _ (mem_uc main_arg19 (by decide))).trans (W5_args m ρ c main_arg19 (by decide)),
       (h _ (mem_uc main_arg20 (by decide))).trans (W5_args m ρ c main_arg20 (by decide)),
       (h _ (mem_uc main_arg21 (by decide))).trans (W5_args m ρ c main_arg21 (by decide)),
       (h _ (mem_uc main_arg22 (by decide))).trans (W5_args m ρ c main_arg22 (by decide)),
       (h _ (mem_uc main_arg23 (by decide))).trans (W5_args m ρ c main_arg23 (by decide)),
       (h _ (mem_uc main_arg24 (by decide))).trans (W5_args m ρ c main_arg24 (by decide)),
       (h _ (mem_uc main_arg25 (by decide))).trans (W5_args m ρ c main_arg25 (by decide)),
       (h _ (mem_uc main_arg26 (by decide))).trans (W5_args m ρ c main_arg26 (by decide)),
       (h _ (mem_uc main_arg27 (by decide))).trans (W5_args m ρ c main_arg27 (by decide)),
       (h _ (mem_uc main_arg28 (by decide))).trans (W5_args m ρ c main_arg28 (by decide))⟩

/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  (θ_run defs _ _).mono (fun r hr => ⟨fun c => kept m ρ r.2.mem c (hr.1 c), hr.2⟩) (run_all m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun _ h => h.1) (frame m ρ)

end Cert.KernelIdeal.Gen

end
-- ==== Proof.Value.Lift.lean ====
/-
Arrays of real numbers read as arrays of the ideal instance: `L1` and `L2` lift a real vector or matrix, and each
operation of a kernel body on lifted arrays is the lift of the real operation.
-/
module

public import Idealize.ShloMosaic.Lib.Pointwise
public import Idealize.ShloMosaic.Lib.MatmulPlain
public import Idealize.ShloMosaic.Lib.IdealHost
public import Idealize.ShloMosaic.Lib.Pipeline.Value
public import Idealize.ShloMosaic.PureOps.Ideal

@[expose] public section

set_option maxRecDepth 16384

noncomputable section

namespace Cert.Lift

open Idealize.ShloMosaic
open scoped BigOperators

/-- The first coordinate of a vector's index. -/
def at0 {n : ℕ} (i : Shape.Idx ⟨1, ![n]⟩) : Fin n := i 0
/-- The row of a matrix's index. -/
def row {n m : ℕ} (i : Shape.Idx ⟨2, ![n, m]⟩) : Fin n := i 0
/-- The column of a matrix's index. -/
def col {n m : ℕ} (i : Shape.Idx ⟨2, ![n, m]⟩) : Fin m := i 1
/-- A real vector as an ideal array. -/
def L1 (φ : FTy) {n : ℕ} (f : Fin n → ℝ) : FVec Ideal ⟨1, ![n]⟩ φ := fun i => ((f (at0 i) : ℝ) : EReal)
/-- A real matrix as an ideal array. -/
def L2 (φ : FTy) {n m : ℕ} (f : Fin n → Fin m → ℝ) : FVec Ideal ⟨2, ![n, m]⟩ φ := fun i => ((f (row i) (col i) : ℝ) : EReal)

/-- The real number that a float word stands for. -/
def cst (b : BitVec 32) : ℝ := (Ideal.ofBits .f32 b).toReal
/-- The constant matrix. -/
def kc {n m : ℕ} (c : ℝ) : Fin n → Fin m → ℝ := fun _ _ => c
/-- The product of two real matrices. -/
def mm {n k m : ℕ} (f : Fin n → Fin k → ℝ) (g : Fin k → Fin m → ℝ) : Fin n → Fin m → ℝ := fun i j => ∑ l, f i l * g l j
/-- A row repeated. -/
def bR {n m : ℕ} (f : Fin 1 → Fin m → ℝ) : Fin n → Fin m → ℝ := fun _ j => f 0 j
/-- A column repeated. -/
def bC {n m : ℕ} (f : Fin n → Fin 1 → ℝ) : Fin n → Fin m → ℝ := fun i _ => f i 0
/-- The row sums, as a column. -/
def rs {n m : ℕ} (f : Fin n → Fin m → ℝ) : Fin n → Fin 1 → ℝ := fun i _ => ∑ j, f i j
/-- The exponential of every entry. -/
def exA {n m : ℕ} (f : Fin n → Fin m → ℝ) : Fin n → Fin m → ℝ := fun i j => Real.exp (f i j)
/-- The square root of every entry. -/
def sqA {n m : ℕ} (f : Fin n → Fin m → ℝ) : Fin n → Fin m → ℝ := fun i j => √(f i j)
/-- The logistic function of every entry. -/
def lgA {n m : ℕ} (f : Fin n → Fin m → ℝ) : Fin n → Fin m → ℝ := fun i j => (1 + Real.exp (-f i j))⁻¹
/-- The leaky rectifier with slope `c`. -/
def lk (c x : ℝ) : ℝ := if 0 ≤ x then x else c * x
/-- The leaky rectifier of every entry. -/
def lkA {n m : ℕ} (c : ℝ) (f : Fin n → Fin m → ℝ) : Fin n → Fin m → ℝ := fun i j => lk c (f i j)

/-- A row of extended reals repeated. -/
def bRX {n m : ℕ} (f : Fin 1 → Fin m → EReal) : Fin n → Fin m → EReal := fun _ j => f 0 j
/-- The product of two matrices of extended reals. -/
def mmX {n k m : ℕ} (f : Fin n → Fin k → EReal) (g : Fin k → Fin m → EReal) : Fin n → Fin m → EReal := fun i j => ∑ l, f i l * g l j
/-- A column of extended reals repeated. -/
def bCX {n m : ℕ} (f : Fin n → Fin 1 → EReal) : Fin n → Fin m → EReal := fun i _ => f i 0
/-- The row sums of extended reals, as a column. -/
def rsX {n m : ℕ} (f : Fin n → Fin m → EReal) : Fin n → Fin 1 → EReal := fun i _ => ∑ j, f i j
/-- Real numbers and extended reals, added. -/
def adX {n m : ℕ} (f : Fin n → Fin m → ℝ) (g : Fin n → Fin m → EReal) : Fin n → Fin m → EReal := fun i j => (f i j : EReal) + g i j
/-- The larger of an extended real and a real number. -/
def mxX {n m : ℕ} (f : Fin n → Fin m → EReal) (g : Fin n → Fin m → ℝ) : Fin n → Fin m → EReal := fun i j => max (f i j) (g i j : EReal)
/-- The logistic function of an extended real: 0 and 1 at the infinities. -/
def lgE (x : EReal) : ℝ := (Ideal.logistic x).toReal
/-- The logistic function of every entry. -/
def lgX {n m : ℕ} (f : Fin n → Fin m → EReal) : Fin n → Fin m → ℝ := fun i j => lgE (f i j)

/-- Every entry is positive. -/
class Pos {n m : ℕ} (f : Fin n → Fin m → ℝ) : Prop where
  pos : ∀ i j, 0 < f i j
/-- Every entry is nonnegative. -/
class NN {n m : ℕ} (f : Fin n → Fin m → ℝ) : Prop where
  nn : ∀ i j, 0 ≤ f i j

section
variable {n m k : ℕ}

instance (f : Fin n → Fin m → ℝ) : Pos (exA f) := ⟨fun _ _ => Real.exp_pos _⟩
instance (f g : Fin n → Fin m → ℝ) [Pos f] [Pos g] : Pos (f + g) := ⟨fun i j => add_pos (Pos.pos i j) (Pos.pos i j)⟩
instance posAddNN (f g : Fin n → Fin m → ℝ) [NN f] [Pos g] : Pos (f + g) := ⟨fun i j => add_pos_of_nonneg_of_pos (NN.nn i j) (Pos.pos i j)⟩
instance (f : Fin n → Fin 1 → ℝ) [Pos f] : Pos (bC f : Fin n → Fin m → ℝ) := ⟨fun i _ => Pos.pos i 0⟩
instance (f : Fin n → Fin m → ℝ) : NN (sqA f) := ⟨fun _ _ => Real.sqrt_nonneg _⟩
instance (f : Fin n → Fin m → ℝ) : NN (f * f) := ⟨fun _ _ => mul_self_nonneg _⟩
instance (f : Fin n → Fin m → ℝ) [NN f] : NN (rs f) := ⟨fun i _ => Finset.sum_nonneg fun j _ => NN.nn i j⟩

/-- A product with a zero right factor. -/
@[simp] theorem mm_zero (f : Fin n → Fin k → ℝ) : mm f (0 : Fin k → Fin m → ℝ) = 0 := by
  funext i j; simp [mm]
/-- A product with a zero left factor. -/
@[simp] theorem zero_mm (g : Fin k → Fin m → ℝ) : mm (0 : Fin n → Fin k → ℝ) g = 0 := by
  funext i j; simp [mm]

variable {φ ψ : FTy}

/-- A sum of lifts. -/
theorem addf_L2 (f g : Fin n → Fin m → ℝ) : addf (L2 φ f) (L2 φ g) = L2 φ (f + g) := by
  funext i; exact (EReal.coe_add _ _).symm
/-- A difference of lifts. -/
theorem subf_L2 (f g : Fin n → Fin m → ℝ) : subf (L2 φ f) (L2 φ g) = L2 φ (f - g) := by
  funext i; exact (EReal.coe_sub _ _).symm
/-- An entrywise product of lifts. -/
theorem mulf_L2 (f g : Fin n → Fin m → ℝ) : mulf (L2 φ f) (L2 φ g) = L2 φ (f * g) := by
  funext i; exact (EReal.coe_mul _ _).symm
/-- An entrywise larger of two lifts. -/
theorem maximumf_L2 (f g : Fin n → Fin m → ℝ) : maximumf (L2 φ f) (L2 φ g) = L2 φ (f ⊔ g) := by
  funext i; exact (EReal.coe_strictMono.monotone.map_max (a := f (row i) (col i)) (b := g (row i) (col i))).symm
/-- A quotient by positive numbers. -/
theorem divf_L2 (f g : Fin n → Fin m → ℝ) [hg : Pos g] : divf (L2 φ f) (L2 φ g) = L2 φ (f / g) := by
  funext i
  refine (Ideal.div_coe (hg.pos (row i) (col i)).ne' _).trans ?_
  exact (EReal.coe_mul _ _).symm.trans (congrArg _ (mul_one_div _ _))
/-- A narrower format holds the same real numbers. -/
theorem truncf_L2 (f : Fin n → Fin m → ℝ) (h : ψ.bits < φ.bits) : truncf ψ (L2 φ f) h = L2 ψ f := rfl
/-- A wider format holds the same real numbers. -/
theorem extf_L2 (f : Fin n → Fin m → ℝ) (h : φ.bits < ψ.bits) : extf ψ (L2 φ f) h = L2 ψ f := rfl
/-- An exponential of a lift. -/
theorem exp_L2 (f : Fin n → Fin m → ℝ) : exp (L2 φ f) = L2 φ (exA f) := by
  rfl
/-- A logistic of a lift. -/
theorem logistic_L2 (f : Fin n → Fin m → ℝ) : logistic (L2 φ f) = L2 φ (lgA f) := by
  funext i; exact Ideal.logistic_coe _
/-- A square root of numbers not below zero. -/
theorem sqrt_L2 (f : Fin n → Fin m → ℝ) [hf : NN f] : sqrt (L2 φ f) = L2 φ (sqA f) := by
  funext i
  exact (Ideal.sqrt_coe _).trans (if_neg (not_lt.2 (hf.nn (row i) (col i))))
/-- A cast to the same shape changes nothing. -/
theorem shapeCast_L2_self (f : Fin n → Fin m → ℝ) (h : Shape.ShapeCasts ⟨2, ![n, m]⟩ ⟨2, ![n, m]⟩) :
    shapeCast ⟨2, ![n, m]⟩ (L2 φ f) h = L2 φ f := by
  funext i
  unfold shapeCast
  congr 1
  simp [Shape.reshapeEquiv]
/-- A constant spread over a matrix. -/
theorem broadcast_L2 (b : BitVec 32) (hb : Ideal.ofBits .f32 b = ((cst b : ℝ) : EReal)) :
    (broadcast ⟨2, ![n, m]⟩ (Scalar.ofBits .f32 b : Ideal .f32)) = L2 .f32 (kc (cst b) : Fin n → Fin m → ℝ) := by
  funext i; exact hb
/-- A row spread over all rows. -/
theorem broadcastTo_row (f : Fin 1 → Fin m → ℝ) (h : Shape.Broadcasts ⟨2, ![1, m]⟩ ⟨2, ![n, m]⟩) :
    broadcastTo ⟨2, ![n, m]⟩ (L2 φ f) h = L2 φ (bR f) := by
  funext i
  have h0 : row (n := 1) (m := m) (fun a => if h1 : (⟨2, ![1, m]⟩ : Shape).size a = 1 then ⟨0, by omega⟩
      else ⟨(i ⟨a.val + 0, a.isLt⟩).val, by
        have := (i ⟨a.val + 0, a.isLt⟩).isLt
        fin_cases a
        · exact absurd rfl h1
        · exact this⟩) = 0 := Subsingleton.elim _ _
  have h1 := h.2
  by_cases hm : m = 1
  · subst hm
    exact congrArg (fun x : ℝ => (x : EReal)) (congrArg₂ f (Subsingleton.elim _ _) (Subsingleton.elim _ _))
  · refine congrArg (fun x : ℝ => (x : EReal)) (congrArg₂ f (Subsingleton.elim _ _) ?_)
    exact Fin.ext (by simp [col, hm])
/-- A column spread over all columns. -/
theorem broadcastTo_col (f : Fin n → Fin 1 → ℝ) (h : Shape.Broadcasts ⟨2, ![n, 1]⟩ ⟨2, ![n, m]⟩) :
    broadcastTo ⟨2, ![n, m]⟩ (L2 φ f) h = L2 φ (bC f) := by
  funext i
  by_cases hm : n = 1
  · subst hm
    exact congrArg (fun x : ℝ => (x : EReal)) (congrArg₂ f (Subsingleton.elim _ _) (Subsingleton.elim _ _))
  · refine congrArg (fun x : ℝ => (x : EReal)) (congrArg₂ f ?_ (Subsingleton.elim _ _))
    exact Fin.ext (by simp [row, hm])
/-- The lift of a finite sum. -/
theorem coe_sum {ι : Type*} (t : Finset ι) (f : ι → ℝ) : ((∑ i ∈ t, f i : ℝ) : EReal) = ∑ i ∈ t, (f i : EReal) := by
  classical
  induction t using Finset.induction_on with
  | empty => rfl
  | insert a t ha ih => rw [Finset.sum_insert ha, Finset.sum_insert ha, EReal.coe_add, ih]
/-- A product with dimension numbers of a plain matrix product, from an accumulator of zeros. -/
theorem matmul_L2 {M K N : ℕ} (f : Fin M → Fin K → ℝ) (g : Fin K → Fin N → ℝ) (p) :
    FloatOps.matmul (F := Ideal) (DotDims.plain M K N) p (L2 φ f) (L2 ψ g) (constant ⟨2, ![M, N]⟩ .f32 0x00000000#32) = L2 .f32 (mm f g) := by
  funext i
  rw [ValueIdx.eq_ix2 i]
  refine (Ideal.matmul_plain_apply p _ _ _ _ _).trans ?_
  have h0 : (constant ⟨2, ![M, N]⟩ .f32 0x00000000#32 : FVec Ideal ⟨2, ![M, N]⟩ .f32) (ValueIdx.ix2 (i 0) (i 1)) = 0 := Ideal.ofBits_zero_f32
  rw [h0, zero_add]
  exact (Finset.sum_congr rfl fun k _ => (EReal.coe_mul _ _).symm).trans (coe_sum _ _).symm
/-- The sum along the rows, as a column. -/
theorem rowSum_L2 (f : Fin n → Fin m → ℝ) (a) (h : Shape.Reduces ⟨2, ![n, m]⟩ [1] ⟨1, ![n]⟩) (h2) (h3)
    (h4 : Shape.ShapeCasts ⟨1, ![n]⟩ ⟨2, ![n, 1]⟩) :
    shapeCast ⟨2, ![n, 1]⟩ (multiReduction .add [1] ⟨1, ![n]⟩ (L2 .f32 f) a h h2 h3) h4 = L2 .f32 (rs f) := by
  funext i
  refine (shapeCast_apply _ h4 i (ValueIdx.ix1 (i 0)) (by
    have h1 : (i 1).val < 1 := (i 1).isLt
    rw [Shape.rowMajor_val_two, Shape.rowMajor_val_one]
    show (i 0).val = (i 0).val * 1 + (i 1).val
    omega)).trans ?_
  exact (Ideal.reduceAdd_r2_a1 h _ _).trans (coe_sum _ _).symm
/-- The sum along the columns, as a row. -/
theorem colSum_L2 (f : Fin n → Fin m → ℝ) (a) (h : Shape.Reduces ⟨2, ![n, m]⟩ [0] ⟨1, ![m]⟩) (h2) (h3)
    (h4 : Shape.ShapeCasts ⟨1, ![m]⟩ ⟨2, ![1, m]⟩) :
    shapeCast ⟨2, ![1, m]⟩ (multiReduction .add [0] ⟨1, ![m]⟩ (L2 .f32 f) a h h2 h3) h4 = L2 .f32 (fun _ j => ∑ i, f i j) := by
  funext i
  refine (shapeCast_apply _ h4 i (ValueIdx.ix1 (i 1)) (by
    have h1 : (i 0).val < 1 := (i 0).isLt
    rw [Shape.rowMajor_val_two, Shape.rowMajor_val_one]
    show (i 1).val = (i 0).val * m + (i 1).val
    rw [Nat.lt_one_iff.1 h1]
    simp)).trans ?_
  exact (Ideal.reduceAdd_r2_a0 h _ _).trans (coe_sum _ _).symm
/-- The leaky rectifier as the body writes it. -/
theorem leaky_L2 (b : BitVec 32) (f : Fin n → Fin m → ℝ) :
    select (cmpf .oge (L2 .f32 f) (L2 .f32 (kc 0))) (L2 .f32 f) (L2 .f32 (kc (cst b) * f)) = L2 .f32 (lkA (cst b) f) := by
  funext i
  show Scalar.select (Ideal.cmp .oge ((f (row i) (col i) : ℝ) : EReal) ((0 : ℝ) : EReal)) _ _ = _
  by_cases h : 0 ≤ f (row i) (col i)
  · simp [Ideal.cmp, h, L2, lkA, lk, Scalar.select]
  · simp [Ideal.cmp, h, L2, lkA, lk, Scalar.select, kc]

/-- The real number of a constant. -/
theorem cst_of {b : BitVec 32} {r : ℝ} (h : Ideal.ofBits .f32 b = (r : EReal)) : cst b = r := by simp [cst, h]
/-- A constant's word decodes to its real number. -/
theorem cst_lift {b : BitVec 32} {r : ℝ} (h : Ideal.ofBits .f32 b = (r : EReal)) : Ideal.ofBits .f32 b = ((cst b : ℝ) : EReal) := by
  rw [cst_of h, h]
/-- The word of zero. -/
theorem val_zero : Ideal.ofBits .f32 0x00000000#32 = ((0 : ℝ) : EReal) := Ideal.ofBits_zero_f32
/-- The word of one. -/
theorem val_one : Ideal.ofBits .f32 0x3F800000#32 = ((1 : ℝ) : EReal) := Ideal.ofBits_one_f32
/-- The word of the slope below zero, nearly 0.2. -/
theorem val_slope : Ideal.ofBits .f32 0x3E4CCCCD#32 = ((13421773 * (2 ^ 26)⁻¹ : ℝ) : EReal) := by
  simp [Ideal.ofBits, Ideal.ieee]
/-- The word of nearly 1e-9. -/
theorem val_eps9 : Ideal.ofBits .f32 0x3089705F#32 = ((9007199 * (2 ^ 53)⁻¹ : ℝ) : EReal) := by
  simp [Ideal.ofBits, Ideal.ieee]
/-- The word of nearly 1e-8. -/
theorem val_eps8 : Ideal.ofBits .f32 0x322BCC77#32 = ((11258999 * (2 ^ 50)⁻¹ : ℝ) : EReal) := by
  simp [Ideal.ofBits, Ideal.ieee]
/-- The word of nearly 1e-6. -/
theorem val_eps6 : Ideal.ofBits .f32 0x358637BD#32 = ((8796093 * (2 ^ 43)⁻¹ : ℝ) : EReal) := by
  simp [Ideal.ofBits, Ideal.ieee]
/-- The word of 16384. -/
theorem val_16384 : Ideal.ofBits .f32 0x46800000#32 = ((8388608 * (2 ^ 9)⁻¹ : ℝ) : EReal) := by
  simp [Ideal.ofBits, Ideal.ieee]
/-- The word of 4096. -/
theorem val_4096 : Ideal.ofBits .f32 0x45800000#32 = ((8388608 * (2 ^ 11)⁻¹ : ℝ) : EReal) := by
  simp [Ideal.ofBits, Ideal.ieee]
/-- The constants the programs add to a denominator, and the slope, are positive numbers. -/
theorem cst_eps9_pos : 0 < cst 0x3089705F#32 := by rw [cst_of val_eps9]; positivity
/-- Nearly 1e-8 is positive. -/
theorem cst_eps8_pos : 0 < cst 0x322BCC77#32 := by rw [cst_of val_eps8]; positivity
/-- Nearly 1e-6 is positive. -/
theorem cst_eps6_pos : 0 < cst 0x358637BD#32 := by rw [cst_of val_eps6]; positivity
instance : NN (kc (cst 0x3089705F#32) : Fin n → Fin m → ℝ) := ⟨fun _ _ => cst_eps9_pos.le⟩
instance : Pos (kc (cst 0x322BCC77#32) : Fin n → Fin m → ℝ) := ⟨fun _ _ => cst_eps8_pos⟩
instance : Pos (kc (cst 0x358637BD#32) : Fin n → Fin m → ℝ) := ⟨fun _ _ => cst_eps6_pos⟩
instance posPosNN (f g : Fin n → Fin m → ℝ) [Pos f] [NN g] : Pos (f + g) := ⟨fun i j => add_pos_of_pos_of_nonneg (Pos.pos i j) (NN.nn i j)⟩
instance : Pos (kc (cst 0x46800000#32) : Fin n → Fin m → ℝ) := ⟨fun _ _ => by rw [kc, cst_of val_16384]; positivity⟩
instance : Pos (kc (cst 0x45800000#32) : Fin n → Fin m → ℝ) := ⟨fun _ _ => by rw [kc, cst_of val_4096]; positivity⟩
/-- A constant of known value spread over a matrix. -/
theorem bc (b : BitVec 32) {r : ℝ} (h : Ideal.ofBits .f32 b = (r : EReal)) :
    (broadcast ⟨2, ![n, m]⟩ (Scalar.ofBits .f32 b : Ideal .f32)) = L2 .f32 (kc (cst b) : Fin n → Fin m → ℝ) :=
  broadcast_L2 b (cst_lift h)
end

end Cert.Lift

end
-- ==== Proof.Value.HLift.lean ====
/-
Host operations on lifted arrays of real numbers: each is the lift of the real operation.
-/
module

public import proofs.«01_k».proof.Proof.Value.Lift
public import Idealize.ShloMosaic.Lib.StackMember
public import Idealize.ShloMosaic.Lib.Routing.Ops
public import Idealize.ShloMosaic.Lib.Routing.OpsPair

@[expose] public section

set_option maxRecDepth 16384

noncomputable section

namespace Cert.Lift

open Idealize.ShloMosaic Idealize.ShloMosaic.Routing
open scoped BigOperators

/-- A real array of three axes as an ideal array. -/
def L3 (φ : FTy) {n m k : ℕ} (f : Fin n → Fin m → Fin k → ℝ) : FVec Ideal ⟨3, ![n, m, k]⟩ φ :=
  fun i => ((f (i 0) (i 1) (i 2) : ℝ) : EReal)

section
variable {n m k : ℕ} {φ ψ : FTy}

/-- An array with the entries of a real matrix is its lift. -/
theorem ext2 {f : FVec Ideal ⟨2, ![n, m]⟩ φ} {g : Fin n → Fin m → ℝ} (h : ∀ a b, f (ValueIdx.ix2 a b) = ((g a b : ℝ) : EReal)) :
    f = L2 φ g := by
  funext i; rw [ValueIdx.eq_ix2 i]; exact h _ _

/-- A host product of lifts is the matrix product's lift. -/
theorem hdot_L2 {M K N : ℕ} (p) (f : Fin M → Fin K → ℝ) (g : Fin K → Fin N → ℝ) :
    Host.dotGeneral (DotDims.plain M K N) p (L2 φ f) (L2 ψ g) = L2 .f32 (mm f g) := by
  refine ext2 fun a b => ?_
  refine (StackMember.dotGeneral_plain_apply p _ _ a b).trans ?_
  exact (Finset.sum_congr rfl fun k _ => (EReal.coe_mul _ _).symm).trans (coe_sum _ _).symm
/-- A host quotient by positive numbers. -/
theorem hdivf_L2 (f g : Fin n → Fin m → ℝ) [hg : Pos g] : Host.divf (L2 φ f) (L2 φ g) = L2 φ (f / g) := divf_L2 f g
/-- A host exponential. -/
theorem hexp_L2 (f : Fin n → Fin m → ℝ) : Host.exp (L2 φ f) = L2 φ (exA f) := rfl
/-- A host square root of numbers not below zero. -/
theorem hsqrt_L2 (f : Fin n → Fin m → ℝ) [NN f] : Host.sqrt (L2 φ f) = L2 φ (sqA f) := sqrt_L2 f
/-- A host negation. -/
theorem hnegf_L2 (f : Fin n → Fin m → ℝ) : Host.negf (L2 φ f) = L2 φ (-f) := by
  funext i; exact (EReal.coe_neg _).symm
/-- A constant spread over a matrix. -/
theorem bid_cst (b : BitVec 32) {r : ℝ} (hb : Ideal.ofBits .f32 b = (r : EReal)) (h : (⟨0, ![]⟩ : Shape).BroadcastsInDim ⟨2, ![n, m]⟩ ![]) :
    broadcastInDim ⟨2, ![n, m]⟩ ![] h (constant ⟨0, ![]⟩ .f32 b : FVec Ideal ⟨0, ![]⟩ .f32) = L2 .f32 (kc (cst b) : Fin n → Fin m → ℝ) := by
  funext i; exact cst_lift hb
/-- A row repeated. -/
theorem bid_row (f : Fin 1 → Fin m → ℝ) (h : Shape.BroadcastsInDim ⟨2, ![1, m]⟩ ⟨2, ![n, m]⟩ ![0, 1]) :
    broadcastInDim ⟨2, ![n, m]⟩ ![0, 1] h (L2 φ f) = L2 φ (bR f) := by
  refine ext2 fun a b => ?_
  refine (broadcastInDim_apply _ _ _ _ (ValueIdx.ix2 0 b) fun c => ?_).trans rfl
  fin_cases c
  · rfl
  · by_cases hm : m = 1
    · subst hm; simp
    · simp [hm]; rfl
/-- A column repeated. -/
theorem bid_col (f : Fin n → Fin 1 → ℝ) (h : Shape.BroadcastsInDim ⟨2, ![n, 1]⟩ ⟨2, ![n, m]⟩ ![0, 1]) :
    broadcastInDim ⟨2, ![n, m]⟩ ![0, 1] h (L2 φ f) = L2 φ (bC f) := by
  refine ext2 fun a b => ?_
  refine (broadcastInDim_apply _ _ _ _ (ValueIdx.ix2 a 0) fun c => ?_).trans rfl
  fin_cases c
  · by_cases hm : n = 1
    · subst hm; simp
    · simp [hm]; rfl
  · rfl
/-- A vector as a row. -/
theorem bid_asRow (f : Fin m → ℝ) (h : Shape.BroadcastsInDim ⟨1, ![m]⟩ ⟨2, ![1, m]⟩ ![1]) :
    broadcastInDim ⟨2, ![1, m]⟩ ![1] h (L1 φ f) = L2 φ (fun _ => f) := by
  refine ext2 fun a b => ?_
  refine (broadcastInDim_apply _ _ _ _ (ValueIdx.ix1 b) fun c => ?_).trans rfl
  fin_cases c
  by_cases hm : m = 1
  · subst hm; simp
  · simp [hm]; rfl
/-- A vector as a column. -/
theorem bid_asCol (f : Fin n → ℝ) (h : Shape.BroadcastsInDim ⟨1, ![n]⟩ ⟨2, ![n, 1]⟩ ![0]) :
    broadcastInDim ⟨2, ![n, 1]⟩ ![0] h (L1 φ f) = L2 φ (fun i _ => f i) := by
  refine ext2 fun a b => ?_
  refine (broadcastInDim_apply _ _ _ _ (ValueIdx.ix1 a) fun c => ?_).trans rfl
  fin_cases c
  by_cases hm : n = 1
  · subst hm; simp
  · simp [hm]; rfl
/-- The sum along the columns. -/
theorem hred0_L2 (f : Fin n → Fin m → ℝ) (h : Shape.ReducesTo ⟨2, ![n, m]⟩ [0] ⟨1, ![m]⟩) (hu) :
    Host.reduceAdd (L2 .f32 f) (constant ⟨0, ![]⟩ .f32 0x00000000#32 : FVec Ideal ⟨0, ![]⟩ .f32) h hu = L1 .f32 (fun j => ∑ i, f i j) := by
  funext i
  refine (Ideal.hostReduceAdd_r2_a0 h _ _ _).trans ?_
  have h0 : (constant ⟨0, ![]⟩ .f32 0x00000000#32 : FVec Ideal ⟨0, ![]⟩ .f32) (Shape.Idx.first hu) = 0 := Ideal.ofBits_zero_f32
  rw [h0, zero_add]
  exact (coe_sum _ _).symm
/-- The sum along the rows. -/
theorem hred1_L2 (f : Fin n → Fin m → ℝ) (h : Shape.ReducesTo ⟨2, ![n, m]⟩ [1] ⟨1, ![n]⟩) (hu) :
    Host.reduceAdd (L2 .f32 f) (constant ⟨0, ![]⟩ .f32 0x00000000#32 : FVec Ideal ⟨0, ![]⟩ .f32) h hu = L1 .f32 (fun i => ∑ j, f i j) := by
  funext i
  refine (Ideal.hostReduceAdd_r2_a1 h _ _ _).trans ?_
  have h0 : (constant ⟨0, ![]⟩ .f32 0x00000000#32 : FVec Ideal ⟨0, ![]⟩ .f32) (Shape.Idx.first hu) = 0 := Ideal.ofBits_zero_f32
  rw [h0, zero_add]
  exact (coe_sum _ _).symm
/-- Two matrices side by side. -/
def catC {a b c : ℕ} (f : Fin n → Fin a → ℝ) (g : Fin n → Fin b → ℝ) (hc : c = a + b) : Fin n → Fin c → ℝ :=
  fun i j => if h : j.val < a then f i ⟨j.val, h⟩ else g i ⟨j.val - a, by omega⟩
/-- Two matrices side by side. -/
theorem cat_L2 {a b c : ℕ} (f : Fin n → Fin a → ℝ) (g : Fin n → Fin b → ℝ) (hc : c = a + b)
    (h : Shape.Concatenates [⟨2, ![n, a]⟩, ⟨2, ![n, b]⟩] ⟨2, ![n, c]⟩ 1) :
    concatenate ⟨2, ![n, c]⟩ 1 [⟨⟨2, ![n, a]⟩, L2 φ f⟩, ⟨⟨2, ![n, b]⟩, L2 φ g⟩] h = L2 φ (catC f g hc) := by
  refine ext2 fun i j => ?_
  by_cases hj : j.val < a
  · refine (concatenate_pair_apply_left 1 _ _ h _ rfl (ValueIdx.ix2 i ⟨j.val, hj⟩) fun b => by fin_cases b <;> rfl).trans ?_
    simp only [catC, dif_pos hj]; rfl
  · refine (concatenate_pair_apply_right 1 _ _ h _ rfl rfl (ValueIdx.ix2 i ⟨j.val - a, by omega⟩) (fun b hb => ?_) ?_).trans ?_
    · fin_cases b
      · rfl
      · exact absurd rfl hb
    · show j.val - a + a = j.val; omega
    · simp only [catC, dif_neg hj]; rfl
/-- The product of two matrices side by side is the sum of the two products. -/
theorem mm_cat {a b c : ℕ} (f : Fin n → Fin a → ℝ) (g : Fin n → Fin b → ℝ) (hc : c = a + b) (w : Fin c → Fin m → ℝ) :
    mm (catC f g hc) w = mm f (fun i j => w ⟨i.val, by omega⟩ j) + mm g (fun i j => w ⟨i.val + a, by omega⟩ j) := by
  subst hc
  funext i j
  simp only [mm, Pi.add_apply]
  rw [Fin.sum_univ_add]
  refine congrArg₂ _ (Finset.sum_congr rfl fun l _ => ?_) (Finset.sum_congr rfl fun l _ => ?_)
  · simp [catC]
    exact Or.inl rfl
  · simp [catC]
    exact Or.inl (congrArg (fun q => w q j) (Fin.ext (Nat.add_comm _ _)))
/-- Rows of a matrix picked by a column of row numbers. -/
theorem gather_L2 {nb B N : ℕ} (d : GatherDims (shape2 nb B) (shape2 N 1) (shape2 N B)) (hoff : d.offsetDims = [1])
    (hcoll : d.collapsedSliceDims = [0]) (hob : d.operandBatchingDims = []) (hsim : d.startIndexMap = [0]) (hivd : d.indexVectorDim = 1)
    (f : Fin nb → Fin B → ℝ) (idx : IVec (shape2 N 1) 32) (s : Fin N → Fin nb)
    (hs : ∀ c, idx (ValueIdx.ix2 c 0) = BitVec.ofNat 32 (s c).val) (hnb : nb < 2 ^ 31) :
    Host.gather d (L2 φ f) idx = L2 φ (fun c => f (s c)) := by
  funext i
  rw [eq_ix2 i]
  exact (gather_row d hoff hcoll hob hsim hivd _ idx _ _ (s (i 0)) ((congrArg idx (by funext a; match a with | ⟨0, _⟩ => rfl | ⟨1, _⟩ => rfl)).trans (hs (i 0))) hnb).trans rfl
end

end Cert.Lift

end
-- ==== Proof.Value.Seg.lean ====
/-
Segment sums, row gathers of three axes, and the greatest of a masked axis, on lifted arrays.
-/
module

public import proofs.«01_k».proof.Proof.Value.HLift

@[expose] public section

set_option maxRecDepth 16384

noncomputable section

namespace Cert.Lift

open Idealize.ShloMosaic Idealize.ShloMosaic.Routing
open scoped BigOperators

/-- The dimension numbers of a segment sum of rows. -/
abbrev segDims (N C U : ℕ) (wf : ScatterDims.WF ⟨2, ![N, C]⟩ ⟨2, ![U, 1]⟩ ⟨2, ![U, C]⟩ [1] [0] [0] 1) :
    ScatterDims ⟨2, ![N, C]⟩ ⟨2, ![U, 1]⟩ ⟨2, ![U, C]⟩ := ⟨[1], [0], [0], 1, wf⟩
/-- The dimension numbers of a segment sum of matrices. -/
abbrev segDims3 (N C D U : ℕ) (wf : ScatterDims.WF ⟨3, ![N, C, D]⟩ ⟨2, ![U, 1]⟩ ⟨3, ![U, C, D]⟩ [1, 2] [0] [0] 1) :
    ScatterDims ⟨3, ![N, C, D]⟩ ⟨2, ![U, 1]⟩ ⟨3, ![U, C, D]⟩ := ⟨[1, 2], [0], [0], 1, wf⟩
/-- The dimension numbers of a segment sum of numbers. -/
abbrev segDims1 (N U : ℕ) (wf : ScatterDims.WF ⟨1, ![N]⟩ ⟨2, ![U, 1]⟩ ⟨1, ![U]⟩ [] [0] [0] 1) :
    ScatterDims ⟨1, ![N]⟩ ⟨2, ![U, 1]⟩ ⟨1, ![U]⟩ := ⟨[], [0], [0], 1, wf⟩

section
variable {N C D U : ℕ}

/-- A row's update lands at the row that its index names, in its own column. -/
theorem seg_lands (wf) (idx : IVec ⟨2, ![U, 1]⟩ 32) (e : Fin U) (b : Fin C) (r : Fin N) (c : Fin C) :
    (segDims N C U wf).resultIdx? (ValueIdx.ix2 e b) idx = some (ValueIdx.ix2 r c) ↔ (idx (ValueIdx.ix2 e 0)).toInt = r.val ∧ b = c := by
  rw [resultIdx?_ix2]
  have hs : (segDims N C U wf).siIdx (ValueIdx.ix2 e b) ⟨0, Nat.one_pos⟩ = ValueIdx.ix2 e 0 := by
    funext b'; refine Fin.ext ?_
    match b' with
    | ⟨0, _⟩ => rfl
    | ⟨1, _⟩ => rfl
  have h0 : (segDims N C U wf).start (ValueIdx.ix2 e b) idx 0 = (idx (ValueIdx.ix2 e 0)).toInt := by
    unfold ScatterDims.start
    rw [dif_pos (show (0 : Fin 2) ∈ (segDims N C U wf).scatterDimsToOperandDims from List.mem_singleton.mpr rfl)]
    exact congrArg (fun i => (idx i).toInt) hs
  have h1 : (segDims N C U wf).start (ValueIdx.ix2 e b) idx 1 = 0 := rfl
  have w0 : (segDims N C U wf).window (ValueIdx.ix2 e b) 0 = 0 := rfl
  have w1 : (segDims N C U wf).window (ValueIdx.ix2 e b) 1 = b.val := rfl
  rw [h0, h1, w0, w1, Fin.ext_iff]
  omega
/-- Where an update of a stack by rows lands. -/
theorem seg3_lands (wf) (idx : IVec ⟨2, ![U, 1]⟩ 32) (e : Fin U) (b : Fin C) (b2 : Fin D) (r : Fin N) (c : Fin C) (c2 : Fin D) :
    (segDims3 N C D U wf).resultIdx? (ValueIdx.ix3 e b b2) idx = some (ValueIdx.ix3 r c c2) ↔ (idx (ValueIdx.ix2 e 0)).toInt = r.val ∧ b = c ∧ b2 = c2 := by
  rw [resultIdx?_eq_some]
  have hs : (segDims3 N C D U wf).siIdx (ValueIdx.ix3 e b b2) ⟨0, Nat.one_pos⟩ = ValueIdx.ix2 e 0 := by
    funext b'; refine Fin.ext ?_
    match b' with
    | ⟨0, _⟩ => rfl
    | ⟨1, _⟩ => rfl
  have h0 : (segDims3 N C D U wf).start (ValueIdx.ix3 e b b2) idx 0 = (idx (ValueIdx.ix2 e 0)).toInt := by
    unfold ScatterDims.start
    rw [dif_pos (show (0 : Fin 3) ∈ (segDims3 N C D U wf).scatterDimsToOperandDims from List.mem_singleton.mpr rfl)]
    exact congrArg (fun i => (idx i).toInt) hs
  have h1 : (segDims3 N C D U wf).start (ValueIdx.ix3 e b b2) idx 1 = 0 := rfl
  have h2 : (segDims3 N C D U wf).start (ValueIdx.ix3 e b b2) idx 2 = 0 := rfl
  have w0 : (segDims3 N C D U wf).window (ValueIdx.ix3 e b b2) 0 = 0 := rfl
  have w1 : (segDims3 N C D U wf).window (ValueIdx.ix3 e b b2) 1 = b.val := rfl
  have w2 : (segDims3 N C D U wf).window (ValueIdx.ix3 e b b2) 2 = b2.val := rfl
  constructor
  · intro h
    have q0 := h 0; have q1 := h 1; have q2 := h 2
    rw [h0, w0] at q0; rw [h1, w1] at q1; rw [h2, w2] at q2
    change _ = (r.val : ℤ) at q0; change _ = (c.val : ℤ) at q1; change _ = (c2.val : ℤ) at q2
    exact ⟨by omega, Fin.ext (by omega), Fin.ext (by omega)⟩
  · rintro ⟨q, rfl, rfl⟩ a
    match a with
    | ⟨0, _⟩ => refine (congrArg₂ (fun x y => x + ((y : ℕ) : ℤ)) h0 w0).trans ?_; rw [q]; exact add_zero _
    | ⟨1, _⟩ => refine (congrArg₂ (fun x y => x + ((y : ℕ) : ℤ)) h1 w1).trans ?_; exact zero_add _
    | ⟨2, _⟩ => refine (congrArg₂ (fun x y => x + ((y : ℕ) : ℤ)) h2 w2).trans ?_; exact zero_add _
/-- Where an update of a vector lands. -/
theorem seg1_lands (wf) (idx : IVec ⟨2, ![U, 1]⟩ 32) (e : Fin U) (r : Fin N) :
    (segDims1 N U wf).resultIdx? (ValueIdx.ix1 e) idx = some (ValueIdx.ix1 r) ↔ (idx (ValueIdx.ix2 e 0)).toInt = r.val := by
  rw [resultIdx?_eq_some]
  have hs : (segDims1 N U wf).siIdx (ValueIdx.ix1 e) ⟨0, Nat.one_pos⟩ = ValueIdx.ix2 e 0 := by
    funext b'; refine Fin.ext ?_
    match b' with
    | ⟨0, _⟩ => rfl
    | ⟨1, _⟩ => rfl
  have h0 : (segDims1 N U wf).start (ValueIdx.ix1 e) idx 0 = (idx (ValueIdx.ix2 e 0)).toInt := by
    unfold ScatterDims.start
    rw [dif_pos (show (0 : Fin 1) ∈ (segDims1 N U wf).scatterDimsToOperandDims from List.mem_singleton.mpr rfl)]
    exact congrArg (fun i => (idx i).toInt) hs
  have w0 : (segDims1 N U wf).window (ValueIdx.ix1 e) 0 = 0 := rfl
  constructor
  · intro h
    have q0 := h 0
    rw [h0, w0] at q0
    change _ = (r.val : ℤ) at q0
    omega
  · intro q a
    match a with
    | ⟨0, _⟩ => refine (congrArg₂ (fun x y => x + ((y : ℕ) : ℤ)) h0 w0).trans ?_; rw [q]; exact add_zero _

/-- A sum over the positions of a list, by its one coordinate. -/
theorem sum1 {n : ℕ} (F : (⟨1, ![n]⟩ : Shape).Idx → EReal) : ∑ i, F i = ∑ a, F (ValueIdx.ix1 a) := by
  refine (sum_idx1 F).trans (Finset.sum_congr rfl fun a _ => congrArg F ?_)
  funext d
  match d with
  | ⟨0, _⟩ => rfl
/-- A sum over the positions of a stack of matrices, by its three coordinates. -/
theorem sum3 {n m k : ℕ} (F : (⟨3, ![n, m, k]⟩ : Shape).Idx → EReal) : ∑ i, F i = ∑ a, ∑ b, ∑ c, F (ValueIdx.ix3 a b c) := by
  refine (sum_idx3 F).trans (Finset.sum_congr rfl fun a _ => Finset.sum_congr rfl fun b _ => Finset.sum_congr rfl fun c _ => congrArg F ?_)
  funext d
  match d with
  | ⟨0, _⟩ => rfl
  | ⟨1, _⟩ => rfl
  | ⟨2, _⟩ => rfl

/-- A column of row numbers. -/
def Names (idx : IVec ⟨2, ![U, 1]⟩ 32) (s : Fin U → Fin N) : Prop := ∀ e, idx (ValueIdx.ix2 e 0) = BitVec.ofNat 32 (s e).val

/-- The row that an index names, as an integer. -/
theorem Names.int {idx : IVec ⟨2, ![U, 1]⟩ 32} {s : Fin U → Fin N} (h : Names idx s) (hN : N < 2 ^ 31) (e : Fin U) (r : Fin N) :
    (idx (ValueIdx.ix2 e 0)).toInt = r.val ↔ s e = r := by
  have := (s e).isLt
  rw [h e, StableHlo.Predicate.toInt_ofNat_small _ (by omega), Fin.ext_iff]
  omega

/-- Rows added up by the row that each names. -/
theorem scatter_L2 (wf) (idx : IVec ⟨2, ![U, 1]⟩ 32) (s : Fin U → Fin N) (hs : Names idx s) (hN : N < 2 ^ 31) (f : Fin U → Fin C → ℝ) :
    Host.scatterAdd (segDims N C U wf) (L2 .f32 (kc 0)) idx (L2 .f32 f) = L2 .f32 (fun n c => ∑ e ∈ Finset.univ.filter (fun e => s e = n), f e c) := by
  funext i
  obtain ⟨r, c, rfl⟩ : ∃ (r : Fin N) (c : Fin C), i = ValueIdx.ix2 r c := ⟨_, _, ValueIdx.eq_ix2 i⟩
  show ((0 : ℝ) : EReal) + ∑ j ∈ Finset.univ.filter (fun j => (segDims N C U wf).resultIdx? j idx = some (ValueIdx.ix2 r c)), L2 .f32 f j = _
  rw [EReal.coe_zero, zero_add, Finset.sum_filter, ValueIdx.sum_idx2]
  simp only [seg_lands, hs.int hN]
  refine Eq.trans ?_ (coe_sum _ _).symm
  rw [Finset.sum_filter]
  show _ = ∑ e, if s e = r then ((f e c : ℝ) : EReal) else 0
  refine Finset.sum_congr rfl fun e _ => ?_
  by_cases he : s e = r
  · simp only [he, true_and, if_true]
    refine (Finset.sum_eq_single c (fun b _ hb => ?_) (fun h => absurd (Finset.mem_univ _) h)).trans ?_
    · simp [hb]
    · simp only [if_true]; rfl
  · rw [if_neg he]
    exact Finset.sum_eq_zero fun b _ => if_neg fun h => he h.1
/-- Stacked rows added up by the row that each names. -/
theorem scatter_L3 (wf) (idx : IVec ⟨2, ![U, 1]⟩ 32) (s : Fin U → Fin N) (hs : Names idx s) (hN : N < 2 ^ 31) (f : Fin U → Fin C → Fin D → ℝ) :
    Host.scatterAdd (segDims3 N C D U wf) (L3 .f32 (fun _ _ _ => 0)) idx (L3 .f32 f)
      = L3 .f32 (fun n c d => ∑ e ∈ Finset.univ.filter (fun e => s e = n), f e c d) := by
  funext i
  obtain ⟨r, c, c2, rfl⟩ : ∃ (r : Fin N) (c : Fin C) (c2 : Fin D), i = ValueIdx.ix3 r c c2 := ⟨_, _, _, ValueIdx.eq_ix3 i⟩
  show ((0 : ℝ) : EReal) + ∑ j ∈ Finset.univ.filter (fun j => (segDims3 N C D U wf).resultIdx? j idx = some (ValueIdx.ix3 r c c2)), L3 .f32 f j = _
  rw [EReal.coe_zero, zero_add, Finset.sum_filter, sum3]
  simp only [seg3_lands, hs.int hN]
  refine Eq.trans ?_ (coe_sum _ _).symm
  rw [Finset.sum_filter]
  show _ = ∑ e, if s e = r then ((f e c c2 : ℝ) : EReal) else 0
  refine Finset.sum_congr rfl fun e _ => ?_
  by_cases he : s e = r
  · simp only [he, true_and, if_true]
    refine (Finset.sum_eq_single c (fun b _ hb => ?_) (fun h => absurd (Finset.mem_univ _) h)).trans ?_
    · simp [hb]
    · refine (Finset.sum_eq_single c2 (fun b _ hb => ?_) (fun h => absurd (Finset.mem_univ _) h)).trans ?_
      · simp [hb]
      · simp only [and_self, if_true]; rfl
  · simp [he]
/-- Numbers added up by the place that each names. -/
theorem scatter_L1 (wf) (idx : IVec ⟨2, ![U, 1]⟩ 32) (s : Fin U → Fin N) (hs : Names idx s) (hN : N < 2 ^ 31) (f : Fin U → ℝ) :
    Host.scatterAdd (segDims1 N U wf) (L1 .f32 (fun _ => 0)) idx (L1 .f32 f) = L1 .f32 (fun n => ∑ e ∈ Finset.univ.filter (fun e => s e = n), f e) := by
  funext i
  obtain ⟨r, rfl⟩ : ∃ (r : Fin N), i = ValueIdx.ix1 r := ⟨_, ValueIdx.eq_ix1 i⟩
  show ((0 : ℝ) : EReal) + ∑ j ∈ Finset.univ.filter (fun j => (segDims1 N U wf).resultIdx? j idx = some (ValueIdx.ix1 r)), L1 .f32 f j = _
  rw [EReal.coe_zero, zero_add, Finset.sum_filter, sum1]
  simp only [seg1_lands, hs.int hN]
  refine Eq.trans ?_ (coe_sum _ _).symm
  rw [Finset.sum_filter]
  rfl

/-- The dimension numbers of a gather of matrices by row number. -/
abbrev takeDims3 (N C D U : ℕ) (wf : GatherDims.WF ⟨3, ![N, C, D]⟩ ⟨2, ![U, 1]⟩ ⟨3, ![U, C, D]⟩ [1, 2] [0] [] [0] [] 1 ![1, C, D]) :
    GatherDims ⟨3, ![N, C, D]⟩ ⟨2, ![U, 1]⟩ ⟨3, ![U, C, D]⟩ where
  offsetDims := [1, 2]
  collapsedSliceDims := [0]
  operandBatchingDims := []
  startIndicesBatchingDims := []
  startIndexMap := [0]
  indexVectorDim := 1
  sliceSizes := ![1, C, D]
  wf := wf
/-- Stacked rows taken by the row that each names. -/
theorem gather_L3 (wf) (idx : IVec ⟨2, ![U, 1]⟩ 32) (s : Fin U → Fin N) (hs : Names idx s) (hN : N < 2 ^ 31) (f : Fin N → Fin C → Fin D → ℝ) :
    Host.gather (takeDims3 N C D U wf) (L3 .f32 f) idx = L3 .f32 (fun e => f (s e)) := by
  funext i
  obtain ⟨e, c, c2, rfl⟩ : ∃ (e : Fin U) (c : Fin C) (c2 : Fin D), i = ValueIdx.ix3 e c c2 := ⟨_, _, _, ValueIdx.eq_ix3 i⟩
  have hb := (s e).isLt
  refine (congrArg (L3 .f32 f) (show (takeDims3 N C D U wf).operandIdx (ValueIdx.ix3 e c c2) idx = ValueIdx.ix3 (s e) c c2 from ?_)).trans rfl
  have h0 : (takeDims3 N C D U wf).start (ValueIdx.ix3 e c c2) idx 0 = (s e).val := by
    unfold GatherDims.start
    rw [dif_pos (show (0 : Fin 3) ∈ (takeDims3 N C D U wf).startIndexMap from List.mem_singleton.mpr rfl)]
    have hsi : (takeDims3 N C D U wf).siIdx (ValueIdx.ix3 e c c2) ⟨List.idxOf (0 : Fin 3) (takeDims3 N C D U wf).startIndexMap,
        List.idxOf_lt_length_iff.2 (List.mem_singleton.mpr rfl)⟩ = ValueIdx.ix2 e 0 := by
      funext b; refine Fin.ext ?_
      match b with
      | ⟨0, _⟩ => rfl
      | ⟨1, _⟩ => rfl
    rw [hsi, hs e, StableHlo.Predicate.toInt_ofNat_small _ (by omega)]
    show min ((s e).val : Int).toNat (N - 1) = (s e).val
    omega
  have o0 : (takeDims3 N C D U wf).offCoord (ValueIdx.ix3 e c c2) 0 = 0 :=
    GatherDims.offCoord_eq_zero _ _ _ (fun h => ((GatherDims.mem_sKept _ _).mp h).1 (List.mem_singleton.mpr rfl))
  have hbN : ∀ a', (takeDims3 N C D U wf).batchCoord (ValueIdx.ix3 e c c2) a' = 0 :=
    fun a' => GatherDims.batchCoord_eq_zero _ _ _ List.not_mem_nil
  funext a
  refine Fin.ext ?_
  show (takeDims3 N C D U wf).start (ValueIdx.ix3 e c c2) idx a + (takeDims3 N C D U wf).batchCoord (ValueIdx.ix3 e c c2) a + (takeDims3 N C D U wf).offCoord (ValueIdx.ix3 e c c2) a = _
  rw [hbN a]
  match a with
  | ⟨0, _⟩ => exact (congrArg₂ (fun x y => x + 0 + y) h0 o0)
  | ⟨1, _⟩ => exact (congrArg₂ (fun x y => x + 0 + y) (show _ = 0 from rfl) (show _ = c.val from rfl)).trans (by simp)
  | ⟨2, _⟩ => exact (congrArg₂ (fun x y => x + 0 + y) (show _ = 0 from rfl) (show _ = c2.val from rfl)).trans (by simp)

/-- A bound of a running maximum. -/
theorem foldl_max_le {ι : Type} (l : List ι) (f : ι → EReal) (b0 b : EReal) :
    l.foldl (fun r n => max r (f n)) b0 ≤ b ↔ b0 ≤ b ∧ ∀ n ∈ l, f n ≤ b := by
  induction l generalizing b0 with
  | nil => simp
  | cons a l ih => simp [ih, and_assoc]
/-- A bound of a maximum along the middle one of three axes. -/
theorem reduce_max_le (x : FVec Ideal ⟨3, ![N, C, D]⟩ .f32) (h : Shape.ReducesTo ⟨3, ![N, C, D]⟩ [1] ⟨2, ![N, D]⟩) (hu) (r : Fin N) (c : Fin D) (b : EReal) :
    Host.reduce FloatOps.maximumf x (constant ⟨0, ![]⟩ .f32 0xFF800000#32 : FVec Ideal ⟨0, ![]⟩ .f32) h hu (ValueIdx.ix2 r c) ≤ b
      ↔ ∀ e : Fin C, x (ValueIdx.ix3 r e c) ≤ b := by
  refine (foldl_max_le _ (fun n => x ((⟨3, ![N, C, D]⟩ : Shape).rowMajor.symm n)) _ _).trans ?_
  have h0 : (constant ⟨0, ![]⟩ .f32 0xFF800000#32 : FVec Ideal ⟨0, ![]⟩ .f32) (Shape.Idx.first hu) = ⊥ := by
    show Ideal.ofBits .f32 0xFF800000#32 = ⊥
    simp [Ideal.ofBits, Ideal.ieee]
  rw [h0]
  simp only [bot_le, true_and, List.mem_filter, List.mem_finRange, decide_eq_true_eq]
  constructor
  · intro q e
    have := q ((⟨3, ![N, C, D]⟩ : Shape).rowMajor (ValueIdx.ix3 r e c))
    rw [Equiv.symm_apply_apply] at this
    refine this ?_
    funext a
    refine Fin.ext ?_
    match a with
    | ⟨0, _⟩ => rfl
    | ⟨1, _⟩ => rfl
  · intro q n hn
    obtain ⟨a0, a1, a2, ha⟩ : ∃ (r : Fin N) (c : Fin C) (c2 : Fin D), (⟨3, ![N, C, D]⟩ : Shape).rowMajor.symm n = ValueIdx.ix3 r c c2 := ⟨_, _, _, ValueIdx.eq_ix3 _⟩
    rw [ha] at hn ⊢
    have e0 : a0 = r := congrFun hn 0
    have e1 : a2 = c := congrFun hn 1
    rw [e0, e1]
    exact q a1
end

end Cert.Lift

end
-- ==== Proof.Value.HLift3.lean ====
/-
Host operations on lifted stacks of matrices and on columns of row numbers.
-/
module

public import proofs.«01_k».proof.Proof.Value.Seg

@[expose] public section

set_option maxRecDepth 16384

noncomputable section

namespace Cert.Lift

open Idealize.ShloMosaic Idealize.ShloMosaic.Routing
open scoped BigOperators

section
variable {n m k : ℕ} {φ ψ : FTy}

/-- An array that holds a real number at every position of three axes is a lift. -/
theorem ext3 {f : FVec Ideal ⟨3, ![n, m, k]⟩ φ} {g : Fin n → Fin m → Fin k → ℝ}
    (h : ∀ a b c, f (ValueIdx.ix3 a b c) = ((g a b c : ℝ) : EReal)) : f = L3 φ g := by
  funext i; rw [ValueIdx.eq_ix3 i]; exact h _ _ _
/-- A product of stacks, entry by entry. -/
theorem mulf_L3 (f g : Fin n → Fin m → Fin k → ℝ) : mulf (L3 φ f) (L3 φ g) = L3 φ (fun a b c => f a b c * g a b c) := by
  funext i; exact (EReal.coe_mul _ _).symm
/-- A sum of stacks, entry by entry. -/
theorem addf_L3 (f g : Fin n → Fin m → Fin k → ℝ) : addf (L3 φ f) (L3 φ g) = L3 φ (fun a b c => f a b c + g a b c) := by
  funext i; exact (EReal.coe_add _ _).symm
/-- A larger of two stacks, entry by entry. -/
theorem maximumf_L3 (f g : Fin n → Fin m → Fin k → ℝ) : maximumf (L3 φ f) (L3 φ g) = L3 φ (fun a b c => max (f a b c) (g a b c)) := by
  funext i; exact (EReal.coe_strictMono.monotone.map_max (a := f (i 0) (i 1) (i 2)) (b := g (i 0) (i 1) (i 2))).symm
/-- A constant spread over a stack. -/
theorem bid_cst3 (b : BitVec 32) {r : ℝ} (hb : Ideal.ofBits .f32 b = (r : EReal)) (h : (⟨0, ![]⟩ : Shape).BroadcastsInDim ⟨3, ![n, m, k]⟩ ![]) :
    broadcastInDim ⟨3, ![n, m, k]⟩ ![] h (constant ⟨0, ![]⟩ .f32 b : FVec Ideal ⟨0, ![]⟩ .f32) = L3 .f32 (fun _ _ _ => cst b) := by
  funext i; exact cst_lift hb
/-- A constant spread over a vector. -/
theorem bid_cst1 (b : BitVec 32) {r : ℝ} (hb : Ideal.ofBits .f32 b = (r : EReal)) (h : (⟨0, ![]⟩ : Shape).BroadcastsInDim ⟨1, ![n]⟩ ![]) :
    broadcastInDim ⟨1, ![n]⟩ ![] h (constant ⟨0, ![]⟩ .f32 b : FVec Ideal ⟨0, ![]⟩ .f32) = L1 .f32 (fun _ => cst b) := by
  funext i; exact cst_lift hb
/-- Rows of `m * k` columns, split into `m` runs of `k`. -/
theorem split_L2 {mk : ℕ} (hmk : mk = m * k) (f : Fin n → Fin mk → ℝ) (h : Shape.ShapeCasts ⟨2, ![n, mk]⟩ ⟨3, ![n, m, k]⟩) :
    shapeCast ⟨3, ![n, m, k]⟩ (L2 φ f) h = L3 φ (fun a b c => f a ⟨k * b.val + c.val, by
      have := b.isLt; have := c.isLt; subst hmk; nlinarith⟩) := by
  refine ext3 fun a b c => ?_
  refine (shapeCast_apply _ h _ (ValueIdx.ix2 a ⟨k * b.val + c.val, by have := b.isLt; have := c.isLt; subst hmk; nlinarith⟩) ?_).trans rfl
  rw [Shape.rowMajor_val_two, Shape.rowMajor_val_three]
  show a.val * mk + (k * b.val + c.val) = (a.val * m + b.val) * k + c.val
  subst hmk; ring
/-- Runs of `k` columns laid end to end. -/
theorem join_L3 {mk : ℕ} (hk : 0 < k) (hmk : mk = m * k) (f : Fin n → Fin m → Fin k → ℝ) (h : Shape.ShapeCasts ⟨3, ![n, m, k]⟩ ⟨2, ![n, mk]⟩) :
    shapeCast ⟨2, ![n, mk]⟩ (L3 φ f) h = L2 φ (fun a b => f a ⟨b.val / k, by
      have := b.isLt; rw [Nat.div_lt_iff_lt_mul hk]; omega⟩ ⟨b.val % k, Nat.mod_lt _ hk⟩) := by
  refine ext2 fun a b => ?_
  refine (shapeCast_apply _ h _ (ValueIdx.ix3 a ⟨b.val / k, by have := b.isLt; rw [Nat.div_lt_iff_lt_mul hk]; omega⟩ ⟨b.val % k, Nat.mod_lt _ hk⟩) ?_).trans rfl
  rw [Shape.rowMajor_val_two, Shape.rowMajor_val_three]
  show (a.val * m + b.val / k) * k + b.val % k = a.val * mk + b.val
  subst hmk
  have := Nat.div_add_mod b.val k
  nlinarith
/-- A matrix read as the one member of a stack, repeated. -/
theorem bid_stack (f : Fin m → Fin k → ℝ) (h1 : Shape.BroadcastsInDim ⟨2, ![m, k]⟩ ⟨3, ![1, m, k]⟩ ![1, 2])
    (h2 : Shape.BroadcastsInDim ⟨3, ![1, m, k]⟩ ⟨3, ![n, m, k]⟩ ![0, 1, 2]) :
    broadcastInDim ⟨3, ![n, m, k]⟩ ![0, 1, 2] h2 (broadcastInDim ⟨3, ![1, m, k]⟩ ![1, 2] h1 (L2 φ f)) = L3 φ (fun _ b c => f b c) := by
  refine ext3 fun a b c => ?_
  refine (broadcastInDim_apply _ _ _ _ (ValueIdx.ix3 0 b c) fun q => ?_).trans ?_
  · fin_cases q
    · rfl
    · by_cases hm : m = 1
      · subst hm; simp
      · simp [hm]; rfl
    · by_cases hm : k = 1
      · subst hm; simp
      · simp [hm]; rfl
  · refine (broadcastInDim_apply _ _ _ _ (ValueIdx.ix2 b c) fun q => ?_).trans rfl
    fin_cases q
    · by_cases hm : m = 1
      · subst hm; simp
      · simp [hm]; rfl
    · by_cases hm : k = 1
      · subst hm; simp
      · simp [hm]; rfl
/-- A matrix whose entries are each repeated along a new last axis. -/
theorem bid_last (f : Fin n → Fin m → ℝ) (h1 : Shape.BroadcastsInDim ⟨2, ![n, m]⟩ ⟨3, ![n, m, 1]⟩ ![0, 1])
    (h2 : Shape.BroadcastsInDim ⟨3, ![n, m, 1]⟩ ⟨3, ![n, m, k]⟩ ![0, 1, 2]) :
    broadcastInDim ⟨3, ![n, m, k]⟩ ![0, 1, 2] h2 (broadcastInDim ⟨3, ![n, m, 1]⟩ ![0, 1] h1 (L2 φ f)) = L3 φ (fun a b _ => f a b) := by
  refine ext3 fun a b c => ?_
  refine (broadcastInDim_apply _ _ _ _ (ValueIdx.ix3 a b 0) fun q => ?_).trans ?_
  · fin_cases q
    · by_cases hm : n = 1
      · subst hm; simp
      · simp [hm]; rfl
    · by_cases hm : m = 1
      · subst hm; simp
      · simp [hm]; rfl
    · rfl
  · refine (broadcastInDim_apply _ _ _ _ (ValueIdx.ix2 a b) fun q => ?_).trans rfl
    fin_cases q
    · by_cases hm : n = 1
      · subst hm; simp
      · simp [hm]; rfl
    · by_cases hm : m = 1
      · subst hm; simp
      · simp [hm]; rfl
/-- One row for each member of a stack, repeated. -/
theorem bid_mid (f : Fin n → Fin k → ℝ) (h1 : Shape.BroadcastsInDim ⟨2, ![n, k]⟩ ⟨3, ![n, 1, k]⟩ ![0, 2])
    (h2 : Shape.BroadcastsInDim ⟨3, ![n, 1, k]⟩ ⟨3, ![n, m, k]⟩ ![0, 1, 2]) :
    broadcastInDim ⟨3, ![n, m, k]⟩ ![0, 1, 2] h2 (broadcastInDim ⟨3, ![n, 1, k]⟩ ![0, 2] h1 (L2 φ f)) = L3 φ (fun a _ c => f a c) := by
  refine ext3 fun a b c => ?_
  refine (broadcastInDim_apply _ _ _ _ (ValueIdx.ix3 a 0 c) fun q => ?_).trans ?_
  · fin_cases q
    · by_cases hm : n = 1
      · subst hm; simp
      · simp [hm]; rfl
    · rfl
    · by_cases hm : k = 1
      · subst hm; simp
      · simp [hm]; rfl
  · refine (broadcastInDim_apply _ _ _ _ (ValueIdx.ix2 a c) fun q => ?_).trans rfl
    fin_cases q
    · by_cases hm : n = 1
      · subst hm; simp
      · simp [hm]; rfl
    · by_cases hm : k = 1
      · subst hm; simp
      · simp [hm]; rfl
/-- The sum along the last of three axes. -/
theorem hred2_L3 (f : Fin n → Fin m → Fin k → ℝ) (h : Shape.ReducesTo ⟨3, ![n, m, k]⟩ [2] ⟨2, ![n, m]⟩) (hu) :
    Host.reduceAdd (L3 .f32 f) (constant ⟨0, ![]⟩ .f32 0x00000000#32 : FVec Ideal ⟨0, ![]⟩ .f32) h hu = L2 .f32 (fun a b => ∑ c, f a b c) := by
  funext i
  refine (Ideal.hostReduceAdd_r3_a2 h _ _ _).trans ?_
  have h0 : (constant ⟨0, ![]⟩ .f32 0x00000000#32 : FVec Ideal ⟨0, ![]⟩ .f32) (Shape.Idx.first hu) = 0 := Ideal.ofBits_zero_f32
  rw [h0, zero_add]
  exact (coe_sum _ _).symm
/-- A column of row numbers, as a reference writes it, when none of them is negative. -/
theorem names_wrap {N : ℕ} (hN : N < 2 ^ 31) (s : Fin n → Fin N) (c : BitVec 32) (x : IVec ⟨1, ![n]⟩ 32) (hx : x = fun i => BitVec.ofNat 32 (s (at0 i)).val)
    (h1 : Shape.BroadcastsInDim ⟨1, ![n]⟩ ⟨2, ![n, 1]⟩ ![0]) (h2 h3 : (⟨0, ![]⟩ : Shape).BroadcastsInDim ⟨1, ![n]⟩ ![]) :
    Names (broadcastInDim ⟨2, ![n, 1]⟩ ![0] h1 (select (cmpi .slt x (broadcastInDim ⟨1, ![n]⟩ ![] h2 (constantI ⟨0, ![]⟩ 32 0#32)))
      (addi x (broadcastInDim ⟨1, ![n]⟩ ![] h3 (constantI ⟨0, ![]⟩ 32 c))) x)) s := by
  subst hx
  intro e
  have := (s e).isLt
  refine (broadcastInDim_apply _ _ _ _ (ValueIdx.ix1 e) fun q => ?_).trans ?_
  · fin_cases q
    by_cases hm : n = 1
    · subst hm; simp
    · simp [hm]; rfl
  · exact wrap_of_lt _ _ (by rw [BitVec.toNat_ofNat, Nat.mod_eq_of_lt (by omega)]; simp only [at0]; omega)
/-- A column of row numbers. -/
theorem names_raw {N : ℕ} (s : Fin n → Fin N) (x : IVec ⟨1, ![n]⟩ 32) (hx : x = fun i => BitVec.ofNat 32 (s (at0 i)).val)
    (h1 : Shape.BroadcastsInDim ⟨1, ![n]⟩ ⟨2, ![n, 1]⟩ ![0]) : Names (broadcastInDim ⟨2, ![n, 1]⟩ ![0] h1 x) s := by
  subst hx
  intro e
  refine (broadcastInDim_apply _ _ _ _ (ValueIdx.ix1 e) fun q => ?_).trans rfl
  fin_cases q
  by_cases hm : n = 1
  · subst hm; simp
  · simp [hm]; rfl
/-- The product of two stacks, matrix by matrix. -/
theorem hdotB_L3 {G M K N : ℕ} (w : DotDims.WF ⟨3, ![G, M, K]⟩ ⟨3, ![G, K, N]⟩ ⟨3, ![G, M, N]⟩ [2] [1] [1] [2] [0] [0]) (p)
    (f : Fin G → Fin M → Fin K → ℝ) (g : Fin G → Fin K → Fin N → ℝ) :
    Host.dotGeneral (⟨[2], [1], [1], [2], [0], [0], w⟩ : DotDims _ _ _) p (L3 φ f) (L3 ψ g) = L3 .f32 (fun t => mm (f t) (g t)) := by
  refine ext3 fun t a b => ?_
  refine (StackMember.dotGeneral_stack_apply w p _ _ t a b).trans ?_
  exact (Finset.sum_congr rfl fun k _ => (EReal.coe_mul _ _).symm).trans (coe_sum _ _).symm
/-- A stack's products with the rows of one matrix: the middle axis of the stack against the matrix's columns. -/
theorem hdotS_L3 {G K M N : ℕ} (w : DotDims.WF ⟨3, ![G, K, M]⟩ ⟨2, ![N, K]⟩ ⟨3, ![G, M, N]⟩ [1] [1] [0, 2] [0] [] []) (p)
    (f : Fin G → Fin K → Fin M → ℝ) (g : Fin N → Fin K → ℝ) :
    Host.dotGeneral (⟨[1], [1], [0, 2], [0], [], [], w⟩ : DotDims _ _ _) p (L3 φ f) (L2 ψ g) = L3 .f32 (fun t a b => ∑ c, f t c a * g b c) := by
  refine ext3 fun t a b => ?_
  show FloatOps.dotGeneral _ p _ _ _ (ValueIdx.ix3 t a b) = _
  rw [Ideal.dotGeneral_apply, ← Equiv.sum_comp (ValueIdx.contrEquiv1 (⟨[1], [1], [0, 2], [0], [], [], w⟩ : DotDims _ _ _) K rfl rfl).symm]
  refine Eq.trans (Finset.sum_congr rfl fun c _ => ?_) (coe_sum _ _).symm
  have c3 := ValueIdx.contrEquiv1_symm_val (⟨[1], [1], [0, 2], [0], [], [], w⟩ : DotDims ⟨3, ![G, K, M]⟩ ⟨2, ![N, K]⟩ ⟨3, ![G, M, N]⟩) K rfl rfl c
  have l3 : (⟨[1], [1], [0, 2], [0], [], [], w⟩ : DotDims ⟨3, ![G, K, M]⟩ ⟨2, ![N, K]⟩ ⟨3, ![G, M, N]⟩).lhsIdx (ValueIdx.ix3 t a b)
      ((ValueIdx.contrEquiv1 _ K rfl rfl).symm c) = ValueIdx.ix3 t c a := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [0, 2], [0], [], [], w⟩ : DotDims ⟨3, ![G, K, M]⟩ ⟨2, ![N, K]⟩ ⟨3, ![G, M, N]⟩).rhsIdx (ValueIdx.ix3 t a b)
      ((ValueIdx.contrEquiv1 _ K rfl rfl).symm c) = ValueIdx.ix2 b c := by
    funext ax; apply Fin.ext
    match ax with
    | ⟨0, _⟩ => simp [DotDims.rhsIdx]; rfl
    | ⟨1, _⟩ => simp [DotDims.rhsIdx]; exact c3
  rw [l3, r3]
  exact (EReal.coe_mul _ _).symm
/-- The last two axes exchanged. -/
theorem transp_L3 (f : Fin n → Fin m → Fin k → ℝ) (h : Shape.Transposes ⟨3, ![n, m, k]⟩ [0, 2, 1] ⟨3, ![n, k, m]⟩) :
    transpose ⟨3, ![n, k, m]⟩ [0, 2, 1] (L3 φ f) h = L3 φ (fun a b c => f a c b) := by
  refine ext3 fun a b c => ?_
  refine (transpose_apply _ _ h _ (ValueIdx.ix3 a c b) fun q => ?_).trans rfl
  fin_cases q <;> rfl
/-- The last axis, of one entry, dropped and the other two exchanged. -/
theorem last_L3 (f : Fin n → Fin m → Fin 1 → ℝ) (h1 : Shape.ShapeCasts ⟨3, ![n, m, 1]⟩ ⟨2, ![n, m]⟩) (h : Shape.Transposes ⟨2, ![n, m]⟩ [1, 0] ⟨2, ![m, n]⟩) :
    transpose ⟨2, ![m, n]⟩ [1, 0] (shapeCast ⟨2, ![n, m]⟩ (L3 φ f) h1) h = L2 φ (fun a b => f b a 0) := by
  refine ext2 fun a b => ?_
  refine (transpose_apply _ _ h _ (ValueIdx.ix2 b a) fun q => ?_).trans ?_
  · fin_cases q <;> rfl
  · refine (shapeCast_apply _ h1 _ (ValueIdx.ix3 b a 0) ?_).trans rfl
    rw [Shape.rowMajor_val_two, Shape.rowMajor_val_three]
    show (b.val * m + a.val) * 1 + 0 = b.val * m + a.val
    omega
/-- A real number's size is below infinity, so the test for it picks the number. -/
theorem finite_L2 (f : Fin n → Fin m → ℝ) (y : FVec Ideal ⟨2, ![n, m]⟩ .f32) (h : (⟨0, ![]⟩ : Shape).BroadcastsInDim ⟨2, ![n, m]⟩ ![]) :
    select (cmpf .olt (Host.absf (L2 .f32 f)) (broadcastInDim ⟨2, ![n, m]⟩ ![] h (constant ⟨0, ![]⟩ .f32 0x7F800000#32 : FVec Ideal ⟨0, ![]⟩ .f32)))
      (L2 .f32 f) y = L2 .f32 f := by
  funext i
  show Scalar.select (Ideal.cmp .olt (max ((f (row i) (col i) : ℝ) : EReal) (-((f (row i) (col i) : ℝ) : EReal))) (Ideal.ofBits .f32 0x7F800000#32)) _ _ = _
  have hi : Ideal.ofBits .f32 0x7F800000#32 = ⊤ := by simp [Ideal.ofBits, Ideal.ieee]
  rw [hi]
  have : max ((f (row i) (col i) : ℝ) : EReal) (-((f (row i) (col i) : ℝ) : EReal)) < ⊤ := max_lt (EReal.coe_lt_top _) (by
    rw [← EReal.coe_neg]; exact EReal.coe_lt_top _)
  simp [Ideal.cmp, Scalar.select, this]
end

end Cert.Lift

end
-- ==== Proof.Value.XLift.lean ====
/-
Arrays of extended real numbers, for the arguments that need not be finite: `X1`, `X2` and `X3` read a function of the
coordinates as an array of the ideal instance, and the operations that meet such an argument are the entrywise ones.
-/
module

public import proofs.«01_k».proof.Proof.Value.HLift3

@[expose] public section

set_option maxRecDepth 16384

noncomputable section

namespace Cert.Lift

open Idealize.ShloMosaic Idealize.ShloMosaic.Routing
open scoped BigOperators

/-- A vector of extended reals as an ideal array. -/
def X1 (φ : FTy) {n : ℕ} (f : Fin n → EReal) : FVec Ideal ⟨1, ![n]⟩ φ := fun i => f (at0 i)
/-- A matrix of extended reals as an ideal array. -/
def X2 (φ : FTy) {n m : ℕ} (f : Fin n → Fin m → EReal) : FVec Ideal ⟨2, ![n, m]⟩ φ := fun i => f (row i) (col i)
/-- A stack of matrices of extended reals as an ideal array. -/
def X3 (φ : FTy) {n m k : ℕ} (f : Fin n → Fin m → Fin k → EReal) : FVec Ideal ⟨3, ![n, m, k]⟩ φ := fun i => f (i 0) (i 1) (i 2)

section
variable {n m k : ℕ} {φ ψ : FTy}

/-- An array with these entries is the array of its entries. -/
theorem xext2 {f : FVec Ideal ⟨2, ![n, m]⟩ φ} {g : Fin n → Fin m → EReal} (h : ∀ a b, f (ValueIdx.ix2 a b) = g a b) : f = X2 φ g := by
  funext i; rw [ValueIdx.eq_ix2 i]; exact h _ _
/-- An array of three axes with these entries is the array of its entries. -/
theorem xext3 {f : FVec Ideal ⟨3, ![n, m, k]⟩ φ} {g : Fin n → Fin m → Fin k → EReal} (h : ∀ a b c, f (ValueIdx.ix3 a b c) = g a b c) : f = X3 φ g := by
  funext i; rw [ValueIdx.eq_ix3 i]; exact h _ _ _

/-- A real matrix and a matrix of extended reals, added. -/
theorem addf_LX (f : Fin n → Fin m → ℝ) (g : Fin n → Fin m → EReal) : addf (L2 φ f) (X2 φ g) = X2 φ (adX f g) := rfl
/-- Two matrices of extended reals, added. -/
theorem addf_XX (f g : Fin n → Fin m → EReal) : addf (X2 φ f) (X2 φ g) = X2 φ (f + g) := rfl
/-- Two matrices of extended reals, subtracted. -/
theorem subf_XX (f g : Fin n → Fin m → EReal) : subf (X2 φ f) (X2 φ g) = X2 φ (f - g) := rfl
/-- Two matrices of extended reals, multiplied entry by entry. -/
theorem mulf_XX (f g : Fin n → Fin m → EReal) : mulf (X2 φ f) (X2 φ g) = X2 φ (f * g) := rfl
/-- A matrix of extended reals and a real matrix, added. -/
theorem addf_XL (f : Fin n → Fin m → EReal) (g : Fin n → Fin m → ℝ) : addf (X2 φ f) (L2 φ g) = X2 φ (fun i j => f i j + (g i j : EReal)) := rfl
/-- A matrix of extended reals over a real matrix, on the host. -/
theorem hdivf_XL (f : Fin n → Fin m → EReal) (g : Fin n → Fin m → ℝ) : Host.divf (X2 φ f) (L2 φ g) = X2 φ (fun i j => Ideal.div (f i j) (g i j : EReal)) := rfl
/-- A matrix of extended reals over another, on the host. -/
theorem hdivf_XX (f g : Fin n → Fin m → EReal) : Host.divf (X2 φ f) (X2 φ g) = X2 φ (fun i j => Ideal.div (f i j) (g i j)) := rfl
/-- The square root, entry by entry, on the host. -/
theorem hsqrt_X2 (f : Fin n → Fin m → EReal) : Host.sqrt (X2 φ f) = X2 φ (fun i j => Ideal.sqrt (f i j)) := rfl
/-- The larger of an extended real and a real number, entry by entry. -/
theorem maximumf_XL (f : Fin n → Fin m → EReal) (g : Fin n → Fin m → ℝ) : maximumf (X2 φ f) (L2 φ g) = X2 φ (mxX f g) := rfl
/-- The logistic function of an extended real is a real number. -/
theorem logistic_real (x : EReal) : Ideal.logistic x = ((lgE x : ℝ) : EReal) := by
  unfold lgE
  induction x using EReal.rec with
  | bot => rw [Ideal.logistic_bot]; rfl
  | coe r => rw [Ideal.logistic_coe]; rfl
  | top => rw [Ideal.logistic_top]; rfl
/-- The logistic function, entry by entry. -/
theorem logistic_X2 (f : Fin n → Fin m → EReal) : logistic (X2 φ f) = L2 φ (lgX f) := by
  funext i; exact logistic_real _
/-- The logistic function as a reference writes it. -/
theorem hlogistic_X2 (f : Fin n → Fin m → EReal) : Host.divf (L2 .f32 (kc 1 : Fin n → Fin m → ℝ)) (addf (L2 .f32 (kc 1)) (Host.exp (Host.negf (X2 .f32 f)))) = L2 .f32 (lgX f) := by
  funext i; exact logistic_real _
/-- A cast to the same shape changes nothing. -/
theorem shapeCast_X2_self (f : Fin n → Fin m → EReal) (h : Shape.ShapeCasts ⟨2, ![n, m]⟩ ⟨2, ![n, m]⟩) :
    shapeCast ⟨2, ![n, m]⟩ (X2 φ f) h = X2 φ f := by
  funext i
  unfold shapeCast
  congr 1
  simp [Shape.reshapeEquiv]
/-- A row spread over all rows. -/
theorem broadcastTo_rowX (f : Fin 1 → Fin m → EReal) (h : Shape.Broadcasts ⟨2, ![1, m]⟩ ⟨2, ![n, m]⟩) :
    broadcastTo ⟨2, ![n, m]⟩ (X2 φ f) h = X2 φ (bRX f) := by
  funext i
  by_cases hm : m = 1
  · subst hm
    exact congrArg₂ f (Subsingleton.elim _ _) (Subsingleton.elim _ _)
  · refine congrArg₂ f (Subsingleton.elim _ _) ?_
    exact Fin.ext (by simp [col, hm])
/-- The sum along the rows, as a column. -/
theorem rowSum_X2 (f : Fin n → Fin m → EReal) (a) (h : Shape.Reduces ⟨2, ![n, m]⟩ [1] ⟨1, ![n]⟩) (h2) (h3)
    (h4 : Shape.ShapeCasts ⟨1, ![n]⟩ ⟨2, ![n, 1]⟩) :
    shapeCast ⟨2, ![n, 1]⟩ (multiReduction .add [1] ⟨1, ![n]⟩ (X2 .f32 f) a h h2 h3) h4 = X2 .f32 (rsX f) := by
  funext i
  refine (shapeCast_apply _ h4 i (ValueIdx.ix1 (i 0)) (by
    have h1 : (i 1).val < 1 := (i 1).isLt
    rw [Shape.rowMajor_val_two, Shape.rowMajor_val_one]
    show (i 0).val = (i 0).val * 1 + (i 1).val
    omega)).trans ?_
  exact Ideal.reduceAdd_r2_a1 h _ _
/-- The sum along the columns, as a row. -/
theorem colSum_X2 (f : Fin n → Fin m → EReal) (a) (h : Shape.Reduces ⟨2, ![n, m]⟩ [0] ⟨1, ![m]⟩) (h2) (h3)
    (h4 : Shape.ShapeCasts ⟨1, ![m]⟩ ⟨2, ![1, m]⟩) :
    shapeCast ⟨2, ![1, m]⟩ (multiReduction .add [0] ⟨1, ![m]⟩ (X2 .f32 f) a h h2 h3) h4 = X2 .f32 (fun _ j => ∑ i, f i j) := by
  funext i
  refine (shapeCast_apply _ h4 i (ValueIdx.ix1 (i 1)) (by
    have h1 : (i 0).val < 1 := (i 0).isLt
    rw [Shape.rowMajor_val_two, Shape.rowMajor_val_one]
    show (i 1).val = (i 0).val * m + (i 1).val
    rw [Nat.lt_one_iff.1 h1]
    simp)).trans ?_
  exact Ideal.reduceAdd_r2_a0 h _ _
/-- The sum along the columns, on the host. -/
theorem hred0_X2 (f : Fin n → Fin m → EReal) (h : Shape.ReducesTo ⟨2, ![n, m]⟩ [0] ⟨1, ![m]⟩) (hu) :
    Host.reduceAdd (X2 .f32 f) (constant ⟨0, ![]⟩ .f32 0x00000000#32 : FVec Ideal ⟨0, ![]⟩ .f32) h hu = X1 .f32 (fun j => ∑ i, f i j) := by
  funext i
  refine (Ideal.hostReduceAdd_r2_a0 h _ _ _).trans ?_
  have h0 : (constant ⟨0, ![]⟩ .f32 0x00000000#32 : FVec Ideal ⟨0, ![]⟩ .f32) (Shape.Idx.first hu) = 0 := Ideal.ofBits_zero_f32
  rw [h0, zero_add]
  rfl
/-- A column spread over all columns. -/
theorem broadcastTo_colX (f : Fin n → Fin 1 → EReal) (h : Shape.Broadcasts ⟨2, ![n, 1]⟩ ⟨2, ![n, m]⟩) :
    broadcastTo ⟨2, ![n, m]⟩ (X2 φ f) h = X2 φ (bCX f) := by
  funext i
  by_cases hm : n = 1
  · subst hm
    exact congrArg₂ f (Subsingleton.elim _ _) (Subsingleton.elim _ _)
  · refine congrArg₂ f ?_ (Subsingleton.elim _ _)
    exact Fin.ext (by simp [row, hm])
/-- A narrower format holds the same numbers. -/
theorem truncf_X2 (f : Fin n → Fin m → EReal) (h : ψ.bits < φ.bits) : truncf ψ (X2 φ f) h = X2 ψ f := rfl
/-- A wider format holds the same numbers. -/
theorem extf_X2 (f : Fin n → Fin m → EReal) (h : φ.bits < ψ.bits) : extf ψ (X2 φ f) h = X2 ψ f := rfl
/-- The low half of a matrix of extended reals. -/
theorem lo_X2 (f : Fin n → Fin m → EReal) (h : FTy.bf16.bits < FTy.f32.bits) :
    truncf .bf16 (subf (X2 .f32 f) (extf .f32 (truncf .bf16 (X2 .f32 f) h) h)) h = X2 .bf16 (f - f) := rfl
/-- The product of two matrices of extended reals. -/
theorem matmul_XX {M K N : ℕ} (f : Fin M → Fin K → EReal) (g : Fin K → Fin N → EReal) (p) :
    FloatOps.matmul (F := Ideal) (DotDims.plain M K N) p (X2 φ f) (X2 ψ g) (constant ⟨2, ![M, N]⟩ .f32 0x00000000#32) = X2 .f32 (mmX f g) := by
  funext i
  rw [ValueIdx.eq_ix2 i]
  refine (Ideal.matmul_plain_apply p _ _ _ _ _).trans ?_
  have h0 : (constant ⟨2, ![M, N]⟩ .f32 0x00000000#32 : FVec Ideal ⟨2, ![M, N]⟩ .f32) (ValueIdx.ix2 (i 0) (i 1)) = 0 := Ideal.ofBits_zero_f32
  rw [h0, zero_add]
  rfl
/-- The product of two matrices of extended reals, on the host. -/
theorem hdot_XX {M K N : ℕ} (p) (f : Fin M → Fin K → EReal) (g : Fin K → Fin N → EReal) :
    Host.dotGeneral (DotDims.plain M K N) p (X2 φ f) (X2 ψ g) = X2 .f32 (mmX f g) := by
  refine xext2 fun a b => ?_
  exact StackMember.dotGeneral_plain_apply p _ _ a b
/-- A matrix of extended reals over another. -/
theorem divf_XX (f g : Fin n → Fin m → EReal) : divf (X2 φ f) (X2 φ g) = X2 φ (fun i j => Ideal.div (f i j) (g i j)) := rfl
/-- The square root, entry by entry. -/
theorem sqrt_X2 (f : Fin n → Fin m → EReal) : sqrt (X2 φ f) = X2 φ (fun i j => Ideal.sqrt (f i j)) := rfl
/-- A vector as a column, on the host. -/
theorem bid_asColX (f : Fin n → EReal) (h : Shape.BroadcastsInDim ⟨1, ![n]⟩ ⟨2, ![n, 1]⟩ ![0]) :
    broadcastInDim ⟨2, ![n, 1]⟩ ![0] h (X1 φ f) = X2 φ (fun i _ => f i) := by
  refine xext2 fun a b => ?_
  refine (broadcastInDim_apply _ _ _ _ (ValueIdx.ix1 a) fun c => ?_).trans rfl
  fin_cases c
  by_cases hm : n = 1
  · subst hm; simp
  · simp [hm]; rfl
/-- A column repeated, on the host. -/
theorem bid_colX (f : Fin n → Fin 1 → EReal) (h : Shape.BroadcastsInDim ⟨2, ![n, 1]⟩ ⟨2, ![n, m]⟩ ![0, 1]) :
    broadcastInDim ⟨2, ![n, m]⟩ ![0, 1] h (X2 φ f) = X2 φ (bCX f) := by
  refine xext2 fun a b => ?_
  refine (broadcastInDim_apply _ _ _ _ (ValueIdx.ix2 a 0) fun c => ?_).trans rfl
  fin_cases c
  · by_cases hm : n = 1
    · subst hm; simp
    · simp [hm]; rfl
  · rfl
/-- The sum along the rows, on the host. -/
theorem hred1_X2 (f : Fin n → Fin m → EReal) (h : Shape.ReducesTo ⟨2, ![n, m]⟩ [1] ⟨1, ![n]⟩) (hu) :
    Host.reduceAdd (X2 .f32 f) (constant ⟨0, ![]⟩ .f32 0x00000000#32 : FVec Ideal ⟨0, ![]⟩ .f32) h hu = X1 .f32 (fun i => ∑ j, f i j) := by
  funext i
  refine (Ideal.hostReduceAdd_r2_a1 h _ _ _).trans ?_
  have h0 : (constant ⟨0, ![]⟩ .f32 0x00000000#32 : FVec Ideal ⟨0, ![]⟩ .f32) (Shape.Idx.first hu) = 0 := Ideal.ofBits_zero_f32
  rw [h0, zero_add]
  rfl
/-- A flat row, as one row. -/
theorem asRow_X1 (f : Fin m → EReal) (h : Shape.ShapeCasts ⟨1, ![m]⟩ ⟨2, ![1, m]⟩) :
    shapeCast ⟨2, ![1, m]⟩ (X1 φ f) h = X2 φ (fun (_ : Fin 1) => f) := by
  refine xext2 fun a b => ?_
  refine (shapeCast_apply _ h _ (ValueIdx.ix1 b) ?_).trans rfl
  rw [Shape.rowMajor_val_two, Shape.rowMajor_val_one]
  show b.val = a.val * m + b.val
  have := a.isLt
  simp [show a.val = 0 by omega]
/-- Dropping a last axis of length one. -/
theorem dropLast_X3 (f : Fin n → Fin m → Fin 1 → EReal) (h : Shape.ShapeCasts ⟨3, ![n, m, 1]⟩ ⟨2, ![n, m]⟩) :
    shapeCast ⟨2, ![n, m]⟩ (X3 φ f) h = X2 φ (fun a b => f a b 0) := by
  refine xext2 fun a b => ?_
  refine (shapeCast_apply _ h _ (ValueIdx.ix3 a b 0) ?_).trans rfl
  rw [Shape.rowMajor_val_two, Shape.rowMajor_val_three]
  show (a.val * m + b.val) * 1 + 0 = a.val * m + b.val
  omega
/-- A column, as a row. -/
theorem colRow_X2 (f : Fin m → Fin 1 → EReal) (h : Shape.ShapeCasts ⟨2, ![m, 1]⟩ ⟨2, ![1, m]⟩) :
    shapeCast ⟨2, ![1, m]⟩ (X2 φ f) h = X2 φ (fun (_ : Fin 1) t => f t 0) := by
  refine xext2 fun a b => ?_
  refine (shapeCast_apply _ h _ (ValueIdx.ix2 b 0) ?_).trans rfl
  rw [Shape.rowMajor_val_two, Shape.rowMajor_val_two]
  show b.val * 1 + 0 = a.val * m + b.val
  have := a.isLt
  simp [show a.val = 0 by omega]
/-- A row repeated, on the host. -/
theorem bid_rowX (f : Fin 1 → Fin m → EReal) (h : Shape.BroadcastsInDim ⟨2, ![1, m]⟩ ⟨2, ![n, m]⟩ ![0, 1]) :
    broadcastInDim ⟨2, ![n, m]⟩ ![0, 1] h (X2 φ f) = X2 φ (bRX f) := by
  refine xext2 fun a b => ?_
  refine (broadcastInDim_apply _ _ _ _ (ValueIdx.ix2 0 b) fun c => ?_).trans rfl
  fin_cases c
  · rfl
  · by_cases hm : m = 1
    · subst hm; simp
    · simp [hm]; rfl
/-- A vector as a row, on the host. -/
theorem bid_asRowX (f : Fin m → EReal) (h : Shape.BroadcastsInDim ⟨1, ![m]⟩ ⟨2, ![1, m]⟩ ![1]) :
    broadcastInDim ⟨2, ![1, m]⟩ ![1] h (X1 φ f) = X2 φ (fun _ => f) := by
  refine xext2 fun a b => ?_
  refine (broadcastInDim_apply _ _ _ _ (ValueIdx.ix1 b) fun c => ?_).trans rfl
  fin_cases c
  by_cases hm : m = 1
  · subst hm; simp
  · simp [hm]; rfl
/-- One row for each member of a stack, repeated. -/
theorem bid_midX (f : Fin n → Fin k → EReal) (h1 : Shape.BroadcastsInDim ⟨2, ![n, k]⟩ ⟨3, ![n, 1, k]⟩ ![0, 2])
    (h2 : Shape.BroadcastsInDim ⟨3, ![n, 1, k]⟩ ⟨3, ![n, m, k]⟩ ![0, 1, 2]) :
    broadcastInDim ⟨3, ![n, m, k]⟩ ![0, 1, 2] h2 (broadcastInDim ⟨3, ![n, 1, k]⟩ ![0, 2] h1 (X2 φ f)) = X3 φ (fun a _ c => f a c) := by
  refine xext3 fun a b c => ?_
  refine (broadcastInDim_apply _ _ _ _ (ValueIdx.ix3 a 0 c) fun q => ?_).trans ?_
  · fin_cases q
    · by_cases hm : n = 1
      · subst hm; simp
      · simp [hm]; rfl
    · rfl
    · by_cases hm : k = 1
      · subst hm; simp
      · simp [hm]; rfl
  · refine (broadcastInDim_apply _ _ _ _ (ValueIdx.ix2 a c) fun q => ?_).trans rfl
    fin_cases q
    · by_cases hm : n = 1
      · subst hm; simp
      · simp [hm]; rfl
    · by_cases hm : k = 1
      · subst hm; simp
      · simp [hm]; rfl
/-- A real stack and a stack of extended reals, added. -/
theorem addf_LX3 (f : Fin n → Fin m → Fin k → ℝ) (g : Fin n → Fin m → Fin k → EReal) :
    addf (L3 φ f) (X3 φ g) = X3 φ (fun a b c => (f a b c : EReal) + g a b c) := rfl
/-- Two stacks of extended reals, added. -/
theorem addf_XX3 (f g : Fin n → Fin m → Fin k → EReal) : addf (X3 φ f) (X3 φ g) = X3 φ (fun a b c => f a b c + g a b c) := rfl
/-- The larger of an extended real and a real number, entry by entry. -/
theorem maximumf_XL3 (f : Fin n → Fin m → Fin k → EReal) (g : Fin n → Fin m → Fin k → ℝ) :
    maximumf (X3 φ f) (L3 φ g) = X3 φ (fun a b c => max (f a b c) (g a b c : EReal)) := rfl
/-- The product of two stacks, matrix by matrix. -/
theorem hdotB_X3 {G M K N : ℕ} (w : DotDims.WF ⟨3, ![G, M, K]⟩ ⟨3, ![G, K, N]⟩ ⟨3, ![G, M, N]⟩ [2] [1] [1] [2] [0] [0]) (p)
    (f : Fin G → Fin M → Fin K → EReal) (g : Fin G → Fin K → Fin N → EReal) :
    Host.dotGeneral (⟨[2], [1], [1], [2], [0], [0], w⟩ : DotDims _ _ _) p (X3 φ f) (X3 ψ g) = X3 .f32 (fun t a b => ∑ l, f t a l * g t l b) := by
  refine xext3 fun t a b => ?_
  exact StackMember.dotGeneral_stack_apply w p _ _ t a b
/-- The last axis, of one entry, dropped and the other two exchanged. -/
theorem last_X3 (f : Fin n → Fin m → Fin 1 → EReal) (h1 : Shape.ShapeCasts ⟨3, ![n, m, 1]⟩ ⟨2, ![n, m]⟩) (h : Shape.Transposes ⟨2, ![n, m]⟩ [1, 0] ⟨2, ![m, n]⟩) :
    transpose ⟨2, ![m, n]⟩ [1, 0] (shapeCast ⟨2, ![n, m]⟩ (X3 φ f) h1) h = X2 φ (fun a b => f b a 0) := by
  refine xext2 fun a b => ?_
  refine (transpose_apply _ _ h _ (ValueIdx.ix2 b a) fun q => ?_).trans ?_
  · fin_cases q <;> rfl
  · refine (shapeCast_apply _ h1 _ (ValueIdx.ix3 b a 0) ?_).trans rfl
    rw [Shape.rowMajor_val_two, Shape.rowMajor_val_three]
    show (b.val * m + a.val) * 1 + 0 = b.val * m + a.val
    omega
end

end Cert.Lift

end
-- ==== Proof.Value.Model.lean ====
/-
The model of what one grid point of the main kernel computes, as functions of arrays with any number of rows.
-/
module

public import proofs.«01_k».proof.Proof.Value.Lift

@[expose] public section

noncomputable section

namespace Cert.Model

open Idealize.ShloMosaic
open Cert.Lift
open scoped BigOperators

/-- The weights of one feature encoder, with the mean and the reciprocal deviation of its seven descriptors. Those that are
applied to the descriptors and features are real, the others may be infinite. -/
structure Mlp where
  W3 : Fin 300 → Fin 512 → ℝ
  W7 : Fin 7 → Fin 512 → ℝ
  b1 : Fin 1 → Fin 512 → EReal
  W2 : Fin 512 → Fin 256 → EReal
  b2 : Fin 1 → Fin 256 → EReal
  mu : Fin 1 → Fin 7 → EReal
  inv : Fin 1 → Fin 7 → EReal

/-- The weights after the encoders: real numbers, except four that may be infinite. -/
structure Par where
  Wg : Fin 256 → Fin 256 → ℝ
  As : Fin 256 → Fin 4 → ℝ
  Ad : Fin 256 → Fin 4 → ℝ
  Wgate : Fin 256 → Fin 256 → ℝ
  bgate : Fin 1 → Fin 256 → EReal
  Wskip : Fin 256 → Fin 256 → ℝ
  Wout : Fin 256 → Fin 128 → ℝ
  bout : Fin 1 → Fin 128 → ℝ
  Ws : Fin 128 → Fin 128 → ℝ
  bs : Fin 1 → Fin 128 → ℝ
  Wt1 : Fin 3 → Fin 128 → Fin 128 → ℝ
  bt1 : Fin 3 → Fin 1 → Fin 128 → EReal
  wt2 : Fin 3 → Fin 1 → Fin 128 → EReal
  bt2 : Fin 1 → Fin 3 → EReal

variable {n : ℕ}

/-- The descriptors less their means, times one over their deviations. -/
def nrm (x mu inv : Fin n → Fin 7 → EReal) : Fin n → Fin 7 → ℝ := fun i j => ((x i j - mu i j) * inv i j).toReal
/-- The encoder's hidden layer. -/
def Mlp.hid (A : Mlp) (x3 : Fin n → Fin 300 → ℝ) (x7 : Fin n → Fin 7 → EReal) : Fin n → Fin 512 → EReal :=
  mxX (adX (mm x3 A.W3 + mm (nrm x7 (bRX A.mu) (bRX A.inv)) A.W7) (bRX A.b1)) (kc 0)
/-- The encoder's output before it is normalised. -/
def Mlp.z (A : Mlp) (x3 : Fin n → Fin 300 → ℝ) (x7 : Fin n → Fin 7 → EReal) : Fin n → Fin 256 → EReal :=
  mmX (A.hid x3 x7) A.W2 + bRX A.b2
/-- A row's length and a small number. -/
def len (z : Fin n → Fin 256 → EReal) (i : Fin n) : EReal := Ideal.sqrt (∑ j, z i j * z i j) + (cst 0x322BCC77#32 : EReal)
/-- A row divided by its length and a small number. -/
def unit (z : Fin n → Fin 256 → EReal) : Fin n → Fin 256 → ℝ := fun i j => (Ideal.div (z i j) (len z i)).toReal
/-- The encoder. -/
def Mlp.emb (A : Mlp) (x3 : Fin n → Fin 300 → ℝ) (x7 : Fin n → Fin 7 → EReal) : Fin n → Fin 256 → ℝ := unit (A.z x3 x7)

/-- The slope of the leaky rectifier. -/
def slope : ℝ := cst 0x3E4CCCCD#32
/-- The matrix that spreads one number per head over the head's 64 columns. -/
def E : Fin 4 → Fin 256 → ℝ := fun h l => if l.val / 64 = h.val then 1 else 0

/-- The largest of four. -/
def mx4 (e : Fin 4 → Fin n → Fin 4 → ℝ) : Fin n → Fin 4 → ℝ := (e 0 ⊔ e 1) ⊔ (e 2 ⊔ e 3)
/-- The sum of the four exponentials and a small number. -/
def den4 (e : Fin 4 → Fin n → Fin 4 → ℝ) : Fin n → Fin 4 → ℝ :=
  exA (e 0 - mx4 e) + exA (e 1 - mx4 e) + exA (e 2 - mx4 e) + exA (e 3 - mx4 e) + kc (cst 0x3089705F#32)
/-- The message of one source. -/
def msg1 (e : Fin 4 → Fin n → Fin 4 → ℝ) (h : Fin 4 → Fin n → Fin 256 → ℝ) (k : Fin 4) : Fin n → Fin 256 → ℝ :=
  mm (exA (e k - mx4 e) / den4 e) E * h k
/-- The message of four sources. -/
def msg4 (e : Fin 4 → Fin n → Fin 4 → ℝ) (h : Fin 4 → Fin n → Fin 256 → ℝ) : Fin n → Fin 256 → ℝ :=
  kc 0 + msg1 e h 0 + msg1 e h 1 + msg1 e h 2 + msg1 e h 3

namespace Par
variable (P : Par)

/-- The gate of a node. -/
def gate (v : Fin n → Fin 256 → ℝ) : Fin n → Fin 256 → ℝ := lgX (adX (mm v P.Wgate) (bRX P.bgate))
/-- A node's new value from its message. -/
def comb (v g : Fin n → Fin 256 → ℝ) : Fin n → Fin 256 → ℝ :=
  (P.gate v * g + (kc 1 - P.gate v) * mm v P.Wskip) ⊔ kc 0
/-- The projection of a node. -/
def h (v : Fin n → Fin 256 → ℝ) : Fin n → Fin 256 → ℝ := mm v P.Wg
/-- The score of the edge between two nodes. -/
def e (s d : Fin n → Fin 256 → ℝ) : Fin n → Fin 4 → ℝ := lkA slope (mm (P.h s) P.As + mm (P.h d) P.Ad)
/-- A node's new value. -/
def node (v : Fin 5 → Fin n → Fin 256 → ℝ) (d : Fin 5) : Fin n → Fin 256 → ℝ :=
  P.comb (v d) (msg4 (fun k => P.e (v (d.succAbove k)) (v d)) (fun k => P.h (v (d.succAbove k))))
/-- The mean of the five nodes. -/
def pool (five : ℝ) (v : Fin 5 → Fin n → Fin 256 → ℝ) : Fin n → Fin 256 → ℝ :=
  (kc 0 + P.node v 0 + P.node v 1 + P.node v 2 + P.node v 3 + P.node v 4) / kc five
/-- The polymer's vector. -/
def poly (five : ℝ) (v : Fin 5 → Fin n → Fin 256 → ℝ) : Fin n → Fin 128 → ℝ :=
  (mm (P.pool five v) P.Wout + bR P.bout) ⊔ kc 0
/-- The shared layer. -/
def shared (p : Fin n → Fin 128 → ℝ) : Fin n → Fin 128 → ℝ := (mm p P.Ws + bR P.bs) ⊔ kc 0
/-- One task's number, before its bias. -/
def task (t : Fin 3) (s : Fin n → Fin 128 → ℝ) : Fin n → Fin 1 → EReal :=
  rsX (mxX (adX (mm s (P.Wt1 t)) (bRX (P.bt1 t))) (kc 0) * bRX (P.wt2 t))
/-- The three numbers of each polymer. -/
def out (five : ℝ) (v : Fin 5 → Fin n → Fin 256 → ℝ) : Fin n → Fin 3 → EReal :=
  (fun i t => P.task t (P.shared (P.poly five v)) i 0) + bRX P.bt2

end Par

/-- Row by row, the model is the model of one row. -/
theorem Par.out_row (P : Par) (five : ℝ) (v : Fin 5 → Fin n → Fin 256 → ℝ) (i : Fin n) :
    P.out five v i = P.out five (fun k (_ : Fin 1) => v k i) 0 := rfl
/-- Row by row, the encoder is the encoder of one row. -/
theorem Mlp.emb_row (A : Mlp) (x3 : Fin n → Fin 300 → ℝ) (x7 : Fin n → Fin 7 → EReal) (i : Fin n) :
    A.emb x3 x7 i = A.emb (fun (_ : Fin 1) => x3 i) (fun _ => x7 i) 0 := rfl

end Cert.Model

end
-- ==== Proof.Value.Args.lean ====
/-
The arrays that the arguments hold, real ones or, where they may be infinite, of extended reals, and the result that both programs compute from them.
-/
module

public import proofs.«01_k».proof.Proof.Value.Model

@[expose] public section

noncomputable section

namespace Cert.Model

open Idealize.ShloMosaic
open Cert.Lift
open scoped BigOperators

/-- The arrays of the arguments, in the programs' order and without the three integer ones. -/
structure Args where
  m3 : Fin 16384 → Fin 300 → ℝ
  s3 : Fin 4096 → Fin 300 → ℝ
  m7 : Fin 16384 → Fin 7 → EReal
  s7 : Fin 4096 → Fin 7 → EReal
  mW1 : Fin 307 → Fin 512 → ℝ
  mb1 : Fin 512 → EReal
  mW2 : Fin 512 → Fin 256 → EReal
  mb2 : Fin 256 → EReal
  sW1 : Fin 307 → Fin 512 → ℝ
  sb1 : Fin 512 → EReal
  sW2 : Fin 512 → Fin 256 → EReal
  sb2 : Fin 256 → EReal
  Wg : Fin 256 → Fin 256 → ℝ
  aS : Fin 4 → Fin 64 → ℝ
  aD : Fin 4 → Fin 64 → ℝ
  Wgate : Fin 256 → Fin 256 → ℝ
  bgate : Fin 256 → EReal
  Wskip : Fin 256 → Fin 256 → ℝ
  Wout : Fin 256 → Fin 128 → ℝ
  bout : Fin 128 → ℝ
  Ws : Fin 128 → Fin 128 → ℝ
  bs : Fin 128 → ℝ
  Wt1 : Fin 3 → Fin 128 → Fin 128 → ℝ
  bt1 : Fin 3 → Fin 128 → EReal
  Wt2 : Fin 3 → Fin 128 → Fin 1 → EReal
  bt2 : Fin 3 → Fin 1 → EReal

/-- The mean of every column, the number of rows given as a number. -/
def mu {n : ℕ} (c : ℝ) (x : Fin n → Fin 7 → EReal) : Fin 1 → Fin 7 → EReal := fun _ j => Ideal.div (∑ i, x i j) (c : EReal)
/-- Every column's standard deviation and a small number. -/
def sd {n : ℕ} (c : ℝ) (x : Fin n → Fin 7 → EReal) : Fin 1 → Fin 7 → EReal :=
  fun _ j => Ideal.sqrt (Ideal.div (∑ i, (x i j - mu c x 0 j) * (x i j - mu c x 0 j)) (c : EReal)) + (cst 0x358637BD#32 : EReal)
/-- One over every column's deviation. -/
def inv {n : ℕ} (c : ℝ) (x : Fin n → Fin 7 → EReal) : Fin 1 → Fin 7 → EReal := fun _ j => Ideal.div ((1 : ℝ) : EReal) (sd c x 0 j)
/-- An encoder from its weights and its whole column of descriptors. -/
def mlp {n : ℕ} (c : ℝ) (W1 : Fin 307 → Fin 512 → ℝ) (b1 : Fin 512 → EReal) (W2 : Fin 512 → Fin 256 → EReal) (b2 : Fin 256 → EReal) (x : Fin n → Fin 7 → EReal) : Mlp where
  W3 := fun i j => W1 ⟨i.val, by omega⟩ j
  W7 := fun i j => W1 ⟨i.val + 300, by omega⟩ j
  b1 := fun _ => b1
  W2 := W2
  b2 := fun _ => b2
  mu := mu c x
  inv := inv c x
/-- One attention vector per head as the matrix that takes every head's product with its own 64 columns. -/
def asM (a : Fin 4 → Fin 64 → ℝ) : Fin 256 → Fin 4 → ℝ :=
  fun l h => a ⟨l.val / 64, by omega⟩ ⟨l.val % 64, by omega⟩ * (if l.val / 64 = h.val then 1 else 0)
/-- The count of a polymer's molecules and the small number added to it. -/
def five : ℝ := 45035996282712159 / 9007199254740992

namespace Args
variable (a : Args)

/-- The monomers' encoder. -/
def A : Mlp := mlp (cst 0x46800000#32) a.mW1 a.mb1 a.mW2 a.mb2 a.m7
/-- The solvents' encoder. -/
def B : Mlp := mlp (cst 0x45800000#32) a.sW1 a.sb1 a.sW2 a.sb2 a.s7
/-- The weights after the encoders. -/
def P : Par where
  Wg := a.Wg
  As := asM a.aS
  Ad := asM a.aD
  Wgate := a.Wgate
  bgate := fun _ => a.bgate
  Wskip := a.Wskip
  Wout := a.Wout
  bout := fun _ => a.bout
  Ws := a.Ws
  bs := fun _ => a.bs
  Wt1 := a.Wt1
  bt1 := fun t _ => a.bt1 t
  wt2 := fun t _ l => a.Wt2 t l 0
  bt2 := fun _ t => a.bt2 t 0
/-- The five molecules of every polymer: four monomers and the solvent. -/
def nd : Fin 5 → Fin 4096 → Fin 256 → ℝ := fun d p =>
  if h : d.val < 4 then a.A.emb a.m3 a.m7 ⟨4 * p.val + d.val, by omega⟩ else a.B.emb a.s3 a.s7 p
/-- The result. -/
def out : Fin 4096 → Fin 3 → EReal := a.P.out five a.nd
end Args

end Cert.Model

end
-- ==== Proof.Value.KLift.lean ====
/-
More shape operations on arrays of real numbers: flat rows, one column read as a row, some rows of a table, and the
high and low halves that a table is split into.
-/
module

public import proofs.«01_k».proof.Proof.Value.HLift
public import proofs.«01_k».proof.Proof.Value.HLift3

@[expose] public section

noncomputable section

namespace Cert.Lift

open Idealize.ShloMosaic Idealize.ShloMosaic.TcCoe Idealize.ShloMosaic.Pipeline

variable {n m k : ℕ} {φ ψ : FTy}

/-- A flat row of numbers, as one row. -/
theorem asRow_L1 (f : Fin m → ℝ) (h : Shape.ShapeCasts ⟨1, ![m]⟩ ⟨2, ![1, m]⟩) :
    shapeCast ⟨2, ![1, m]⟩ (L1 φ f) h = L2 φ (fun (_ : Fin 1) => f) := by
  refine ext2 fun a b => ?_
  refine (shapeCast_apply _ h _ (ValueIdx.ix1 b) ?_).trans rfl
  rw [Shape.rowMajor_val_two, Shape.rowMajor_val_one]
  show b.val = a.val * m + b.val
  have := a.isLt
  simp [show a.val = 0 by omega]
/-- A table of four rows of 64, laid flat. -/
theorem flat_L2 (f : Fin 4 → Fin 64 → ℝ) (h : Shape.ShapeCasts ⟨2, ![4, 64]⟩ ⟨1, ![256]⟩) :
    shapeCast ⟨1, ![256]⟩ (L2 φ f) h = L1 φ (fun l : Fin 256 => f ⟨l.val / 64, by omega⟩ ⟨l.val % 64, by omega⟩) := by
  funext i
  obtain ⟨l, rfl⟩ : ∃ l : Fin 256, i = ValueIdx.ix1 l := ⟨i 0, ValueIdx.eq_ix1 i⟩
  refine (shapeCast_apply _ h _ (ValueIdx.ix2 (⟨l.val / 64, by omega⟩ : Fin 4) (⟨l.val % 64, by omega⟩ : Fin 64)) ?_).trans rfl
  rw [Shape.rowMajor_val_two, Shape.rowMajor_val_one]
  show l.val / 64 * 64 + l.val % 64 = l.val
  omega
/-- Dropping a last axis of length one. -/
theorem dropLast_L3 (f : Fin n → Fin m → Fin 1 → ℝ) (h : Shape.ShapeCasts ⟨3, ![n, m, 1]⟩ ⟨2, ![n, m]⟩) :
    shapeCast ⟨2, ![n, m]⟩ (L3 φ f) h = L2 φ (fun a b => f a b 0) := by
  refine ext2 fun a b => ?_
  refine (shapeCast_apply _ h _ (ValueIdx.ix3 a b 0) ?_).trans rfl
  rw [Shape.rowMajor_val_two, Shape.rowMajor_val_three]
  show (a.val * m + b.val) * 1 + 0 = a.val * m + b.val
  omega
/-- A first axis of length one dropped. -/
theorem dropFirst_L3 (f : Fin 1 → Fin m → Fin k → ℝ) (h : Shape.ShapeCasts ⟨3, ![1, m, k]⟩ ⟨2, ![m, k]⟩) :
    shapeCast ⟨2, ![m, k]⟩ (L3 φ f) h = L2 φ (f 0) := by
  refine ext2 fun a b => ?_
  refine (shapeCast_apply _ h _ (ValueIdx.ix3 0 a b) ?_).trans rfl
  rw [Shape.rowMajor_val_two, Shape.rowMajor_val_three]
  show (0 * m + a.val) * k + b.val = a.val * k + b.val
  simp
/-- A column, as a row. -/
theorem colRow_L2 (f : Fin m → Fin 1 → ℝ) (h : Shape.ShapeCasts ⟨2, ![m, 1]⟩ ⟨2, ![1, m]⟩) :
    shapeCast ⟨2, ![1, m]⟩ (L2 φ f) h = L2 φ (fun (_ : Fin 1) t => f t 0) := by
  refine ext2 fun a b => ?_
  refine (shapeCast_apply _ h _ (ValueIdx.ix2 b 0) ?_).trans rfl
  rw [Shape.rowMajor_val_two, Shape.rowMajor_val_two]
  show b.val * 1 + 0 = a.val * m + b.val
  have := a.isLt
  simp [show a.val = 0 by omega]
/-- Some rows of a table. -/
theorem rows_L2 {N : ℕ} (o : ℕ) (ho : n + o ≤ N) (f : Fin N → Fin m → ℝ) (h : Shape.Slices ⟨2, ![N, m]⟩ ![o, 0] ⟨2, ![n, m]⟩) :
    extractStridedSlice ⟨2, ![n, m]⟩ ![o, 0] (L2 φ f) h = L2 φ (fun (a : Fin n) b => f ⟨a.val + o, by omega⟩ b) := by
  refine ext2 fun a b => ?_
  refine (extractStridedSlice_apply _ _ h _ (ValueIdx.ix2 ⟨a.val + o, by omega⟩ b) fun q => ?_).trans rfl
  fin_cases q
  · exact Nat.add_comm a.val o
  · exact (Nat.zero_add b.val).symm
/-- One table of a stack. -/
theorem tab_L3 {N : ℕ} (o : Fin N) (f : Fin N → Fin m → Fin k → ℝ) (h : Shape.Slices ⟨3, ![N, m, k]⟩ ![o.val, 0, 0] ⟨3, ![1, m, k]⟩) :
    extractStridedSlice ⟨3, ![1, m, k]⟩ ![o.val, 0, 0] (L3 φ f) h = L3 φ (fun (_ : Fin 1) => f o) := by
  refine ext3 fun z a b => ?_
  refine (extractStridedSlice_apply _ _ h _ (ValueIdx.ix3 o a b) fun q => ?_).trans rfl
  have := z.isLt
  fin_cases q
  · show o.val = o.val + z.val
    omega
  · exact (Nat.zero_add a.val).symm
  · exact (Nat.zero_add b.val).symm
/-- The low half of a real table is zero. -/
theorem lo_L2 (f : Fin n → Fin m → ℝ) (h : FTy.bf16.bits < FTy.f32.bits) :
    truncf .bf16 (subf (L2 .f32 f) (extf .f32 (truncf .bf16 (L2 .f32 f) h) h)) h = L2 .bf16 (0 : Fin n → Fin m → ℝ) := by
  rw [truncf_L2, extf_L2, subf_L2, truncf_L2, sub_self]
/-- The low half of a real stack of tables is zero. -/
theorem lo_L3 (f : Fin n → Fin m → Fin k → ℝ) (h : FTy.bf16.bits < FTy.f32.bits) :
    truncf .bf16 (subf (L3 .f32 f) (extf .f32 (truncf .bf16 (L3 .f32 f) h) h)) h = L3 .bf16 (0 : Fin n → Fin m → Fin k → ℝ) := by
  refine ext3 fun a b c => ?_
  show ((f a b c : ℝ) : EReal) - ((f a b c : ℝ) : EReal) = ((0 : ℝ) : EReal)
  rw [← EReal.coe_sub, sub_self]

end Cert.Lift

end
-- ==== Proof.Value.KHost.lean ====
/-
What the operations between the two kernels leave in the arrays that the main kernel reads, when the arguments
hold real numbers: the weights, zero low halves, the biases as rows and the attention vectors as matrices.
-/
module

public import proofs.«01_k».proof.Proof.Value.XLift
public import proofs.«01_k».proof.Proof.Value.Model
public import proofs.«01_k».proof.Proof.Value.Args
public import proofs.«01_k».proof.Proof.Value.KLift
public import proofs.«01_k».proof.Proof.KernelIdeal.Run
public import Idealize.ShloMosaic.Lib.StableHlo.RunRead

@[expose] public section

set_option maxRecDepth 16384
set_option maxHeartbeats 2000000

noncomputable section

namespace Cert.KernelIdeal.Gen

open Idealize.ShloMosaic Idealize.ShloMosaic.TcCoe Idealize.ShloMosaic.Pipeline
open Cert.Lift Cert.Model

/-- The arguments hold the arrays of `a`. -/
structure Held (V : Valuation τ sig (Elt Ideal)) (a : Args) : Prop where
  h0 : V (Proc.devRef .tc main_arg0) = (L2 .f32 a.m3 : FVec Ideal S16384x300 .f32)
  h1 : V (Proc.devRef .tc main_arg1) = (L2 .f32 a.s3 : FVec Ideal S4096x300 .f32)
  h2 : V (Proc.devRef .tc main_arg2) = (X2 .f32 a.m7 : FVec Ideal S16384x7 .f32)
  h3 : V (Proc.devRef .tc main_arg3) = (X2 .f32 a.s7 : FVec Ideal S4096x7 .f32)
  h7 : V (Proc.devRef .tc main_arg7) = (L2 .f32 a.mW1 : FVec Ideal S307x512 .f32)
  h8 : V (Proc.devRef .tc main_arg8) = (X1 .f32 a.mb1 : FVec Ideal S512 .f32)
  h9 : V (Proc.devRef .tc main_arg9) = (X2 .f32 a.mW2 : FVec Ideal S512x256 .f32)
  h10 : V (Proc.devRef .tc main_arg10) = (X1 .f32 a.mb2 : FVec Ideal S256 .f32)
  h11 : V (Proc.devRef .tc main_arg11) = (L2 .f32 a.sW1 : FVec Ideal S307x512 .f32)
  h12 : V (Proc.devRef .tc main_arg12) = (X1 .f32 a.sb1 : FVec Ideal S512 .f32)
  h13 : V (Proc.devRef .tc main_arg13) = (X2 .f32 a.sW2 : FVec Ideal S512x256 .f32)
  h14 : V (Proc.devRef .tc main_arg14) = (X1 .f32 a.sb2 : FVec Ideal S256 .f32)
  h15 : V (Proc.devRef .tc main_arg15) = (L2 .f32 a.Wg : FVec Ideal S256x256 .f32)
  h16 : V (Proc.devRef .tc main_arg16) = (L2 .f32 a.aS : FVec Ideal S4x64 .f32)
  h17 : V (Proc.devRef .tc main_arg17) = (L2 .f32 a.aD : FVec Ideal S4x64 .f32)
  h18 : V (Proc.devRef .tc main_arg18) = (L2 .f32 a.Wgate : FVec Ideal S256x256 .f32)
  h19 : V (Proc.devRef .tc main_arg19) = (X1 .f32 a.bgate : FVec Ideal S256 .f32)
  h20 : V (Proc.devRef .tc main_arg20) = (L2 .f32 a.Wskip : FVec Ideal S256x256 .f32)
  h21 : V (Proc.devRef .tc main_arg21) = (L2 .f32 a.Wout : FVec Ideal S256x128 .f32)
  h22 : V (Proc.devRef .tc main_arg22) = (L1 .f32 a.bout : FVec Ideal S128 .f32)
  h23 : V (Proc.devRef .tc main_arg23) = (L2 .f32 a.Ws : FVec Ideal S128x128 .f32)
  h24 : V (Proc.devRef .tc main_arg24) = (L1 .f32 a.bs : FVec Ideal S128 .f32)
  h25 : V (Proc.devRef .tc main_arg25) = (L3 .f32 a.Wt1 : FVec Ideal S3x128x128 .f32)
  h26 : V (Proc.devRef .tc main_arg26) = (X2 .f32 a.bt1 : FVec Ideal S3x128 .f32)
  h27 : V (Proc.devRef .tc main_arg27) = (X3 .f32 a.Wt2 : FVec Ideal S3x128x1 .f32)
  h28 : V (Proc.devRef .tc main_arg28) = (X2 .f32 a.bt2 : FVec Ideal S3x1 .f32)

/-- The arrays that the operations before the main kernel write hold the weights of `a`. -/
structure Ready (V : Valuation τ sig (Elt Ideal)) (a : Args) : Prop where
  w5 : V (Proc.devRef .tc main_v19) = (L2 .bf16 a.A.W3 : FVec Ideal S300x512 .bf16)
  w6 : V (Proc.devRef .tc main_v22) = (L2 .bf16 (0 : Fin 300 → Fin 512 → ℝ) : FVec Ideal S300x512 .bf16)
  w7 : V (Proc.devRef .tc main_v24) = (L2 .bf16 a.A.W7 : FVec Ideal S7x512 .bf16)
  w8 : V (Proc.devRef .tc main_v27) = (L2 .bf16 (0 : Fin 7 → Fin 512 → ℝ) : FVec Ideal S7x512 .bf16)
  w9 : V (Proc.devRef .tc main_v28) = (X2 .f32 a.A.b1 : FVec Ideal S1x512 .f32)
  w10 : V (Proc.devRef .tc main_v29) = (X2 .bf16 a.A.W2 : FVec Ideal S512x256 .bf16)
  w11 : V (Proc.devRef .tc main_v32) = (X2 .bf16 (a.A.W2 - a.A.W2) : FVec Ideal S512x256 .bf16)
  w12 : V (Proc.devRef .tc main_v33) = (X2 .f32 a.A.b2 : FVec Ideal S1x256 .f32)
  w13 : V (Proc.devRef .tc main_v35) = (L2 .bf16 a.B.W3 : FVec Ideal S300x512 .bf16)
  w14 : V (Proc.devRef .tc main_v38) = (L2 .bf16 (0 : Fin 300 → Fin 512 → ℝ) : FVec Ideal S300x512 .bf16)
  w15 : V (Proc.devRef .tc main_v40) = (L2 .bf16 a.B.W7 : FVec Ideal S7x512 .bf16)
  w16 : V (Proc.devRef .tc main_v43) = (L2 .bf16 (0 : Fin 7 → Fin 512 → ℝ) : FVec Ideal S7x512 .bf16)
  w17 : V (Proc.devRef .tc main_v44) = (X2 .f32 a.B.b1 : FVec Ideal S1x512 .f32)
  w18 : V (Proc.devRef .tc main_v45) = (X2 .bf16 a.B.W2 : FVec Ideal S512x256 .bf16)
  w19 : V (Proc.devRef .tc main_v48) = (X2 .bf16 (a.B.W2 - a.B.W2) : FVec Ideal S512x256 .bf16)
  w20 : V (Proc.devRef .tc main_v49) = (X2 .f32 a.B.b2 : FVec Ideal S1x256 .f32)
  w21 : V (Proc.devRef .tc main_v50) = (L2 .bf16 a.P.Wg : FVec Ideal S256x256 .bf16)
  w22 : V (Proc.devRef .tc main_v53) = (L2 .bf16 (0 : Fin 256 → Fin 256 → ℝ) : FVec Ideal S256x256 .bf16)
  w23 : V (Proc.devRef .tc main_v54) = (L2 .bf16 a.P.As : FVec Ideal S256x4 .bf16)
  w24 : V (Proc.devRef .tc main_v57) = (L2 .bf16 (0 : Fin 256 → Fin 4 → ℝ) : FVec Ideal S256x4 .bf16)
  w25 : V (Proc.devRef .tc main_v58) = (L2 .bf16 a.P.Ad : FVec Ideal S256x4 .bf16)
  w26 : V (Proc.devRef .tc main_v61) = (L2 .bf16 (0 : Fin 256 → Fin 4 → ℝ) : FVec Ideal S256x4 .bf16)
  w27 : V (Proc.devRef .tc main_v62) = (L2 .bf16 a.P.Wgate : FVec Ideal S256x256 .bf16)
  w28 : V (Proc.devRef .tc main_v65) = (L2 .bf16 (0 : Fin 256 → Fin 256 → ℝ) : FVec Ideal S256x256 .bf16)
  w29 : V (Proc.devRef .tc main_v66) = (X2 .f32 a.P.bgate : FVec Ideal S1x256 .f32)
  w30 : V (Proc.devRef .tc main_v67) = (L2 .bf16 a.P.Wskip : FVec Ideal S256x256 .bf16)
  w31 : V (Proc.devRef .tc main_v70) = (L2 .bf16 (0 : Fin 256 → Fin 256 → ℝ) : FVec Ideal S256x256 .bf16)
  w32 : V (Proc.devRef .tc main_v71) = (L2 .bf16 a.P.Wout : FVec Ideal S256x128 .bf16)
  w33 : V (Proc.devRef .tc main_v74) = (L2 .bf16 (0 : Fin 256 → Fin 128 → ℝ) : FVec Ideal S256x128 .bf16)
  w34 : V (Proc.devRef .tc main_v75) = (L2 .f32 a.P.bout : FVec Ideal S1x128 .f32)
  w35 : V (Proc.devRef .tc main_v76) = (L2 .bf16 a.P.Ws : FVec Ideal S128x128 .bf16)
  w36 : V (Proc.devRef .tc main_v79) = (L2 .bf16 (0 : Fin 128 → Fin 128 → ℝ) : FVec Ideal S128x128 .bf16)
  w37 : V (Proc.devRef .tc main_v80) = (L2 .f32 a.P.bs : FVec Ideal S1x128 .f32)
  w38 : V (Proc.devRef .tc main_v81) = (L3 .bf16 a.P.Wt1 : FVec Ideal S3x128x128 .bf16)
  w39 : V (Proc.devRef .tc main_v84) = (L3 .bf16 (0 : Fin 3 → Fin 128 → Fin 128 → ℝ) : FVec Ideal S3x128x128 .bf16)
  w41 : V (Proc.devRef .tc main_v85) = (X2 .f32 (fun t l => a.P.wt2 t 0 l) : FVec Ideal S3x128 .f32)
  w42 : V (Proc.devRef .tc main_v86) = (X2 .f32 a.P.bt2 : FVec Ideal S1x3 .f32)

variable {V : Valuation τ sig (Elt Ideal)} {a : Args}

/-- The number of its head, at every column. -/
def headOf : IVec S256x1 32 := fun i => BitVec.ofNat 32 ((row i).val / 64)

/-- The columns' numbers and the width of a head, as the first operations leave them. -/
theorem cols_eq : StableHlo.after hostOps1 V (Proc.devRef .tc main_v2) = (broadcastInDim S256x1 ![0] bcast_S256_S256x1_0 (iotaInDim S256 32 0) : IVec S256x1 32)
    ∧ StableHlo.after hostOps1 V (Proc.devRef .tc main_c) = (constantI S_ 32 64#32 : IVec S_ 32) := by
  constructor <;> after_reads_simp

/-- The rounded-down quotient of every column by a head's width is the number of the column's head. -/
theorem heads_eq (h2 : V (Proc.devRef .tc main_v2) = (broadcastInDim S256x1 ![0] bcast_S256_S256x1_0 (iotaInDim S256 32 0) : IVec S256x1 32))
    (hc : V (Proc.devRef .tc main_c) = (constantI S_ 32 64#32 : IVec S_ 32)) :
    StableHlo.after hostOps1_1 V (Proc.devRef .tc main_v3) = headOf := by
  after_reads_simp
  rw [h2, hc]
  funext i
  obtain ⟨r, z, rfl⟩ : ∃ (r : Fin 256) (z : Fin 1), i = ValueIdx.ix2 r z := ⟨i 0, i 1, ValueIdx.eq_ix2 i⟩
  revert r z
  decide +kernel

/-- One where a column belongs to a head, else zero. -/
theorem mask_eq (h6 : S256x1.BroadcastsInDim S256x4 ![0, 1]) (h5 : S4.BroadcastsInDim S1x4 ![1]) (h7 : S1x4.BroadcastsInDim S256x4 ![0, 1]) :
    (uitofp .f32 (cmpi .eq (broadcastInDim S256x4 ![0, 1] h6 headOf) (broadcastInDim S256x4 ![0, 1] h7 (broadcastInDim S1x4 ![1] h5 (iotaInDim S4 32 0)))) : FVec Ideal S256x4 .f32)
      = L2 .f32 (fun (l : Fin 256) (h : Fin 4) => if l.val / 64 = h.val then 1 else 0) := by
  have hb : ∀ (l : Fin 256) (h : Fin 4),
      (cmpi .eq (broadcastInDim S256x4 ![0, 1] h6 headOf) (broadcastInDim S256x4 ![0, 1] h7 (broadcastInDim S1x4 ![1] h5 (iotaInDim S4 32 0))) : IVec S256x4 1)
        (ValueIdx.ix2 l h) = if l.val / 64 = h.val then 1#1 else 0#1 := by decide +kernel +revert
  refine ext2 fun l h => ?_
  refine (congrArg (fun b : BitVec 1 => ((b.toNat : ℝ) : EReal)) (hb l h)).trans ?_
  refine congrArg (fun x : ℝ => (x : EReal)) ?_
  split <;> simp

/-- An attention vector spread over its heads' columns. -/
theorem heads_hi (f : Fin 4 → Fin 64 → ℝ) (h10 : S4x64.ShapeCasts S256) (h11 : S256.BroadcastsInDim S256x1 ![0]) (h12 : S256x1.BroadcastsInDim S256x4 ![0, 1])
    (h6 : S256x1.BroadcastsInDim S256x4 ![0, 1]) (h5 : S4.BroadcastsInDim S1x4 ![1]) (h7 : S1x4.BroadcastsInDim S256x4 ![0, 1]) :
    mulf (broadcastInDim S256x4 ![0, 1] h12 (broadcastInDim S256x1 ![0] h11 (shapeCast S256 (L2 .f32 f : FVec Ideal S4x64 .f32) h10)))
      (uitofp .f32 (cmpi .eq (broadcastInDim S256x4 ![0, 1] h6 headOf) (broadcastInDim S256x4 ![0, 1] h7 (broadcastInDim S1x4 ![1] h5 (iotaInDim S4 32 0)))) : FVec Ideal S256x4 .f32)
      = L2 .f32 (asM f) := by
  rw [mask_eq, flat_L2, bid_asCol, bid_col, mulf_L2]
  rfl

/-- The low half of such a matrix is zero. -/
theorem heads_lo (f : Fin 4 → Fin 64 → ℝ) (h10 : S4x64.ShapeCasts S256) (h11 : S256.BroadcastsInDim S256x1 ![0]) (h12 : S256x1.BroadcastsInDim S256x4 ![0, 1])
    (h6 : S256x1.BroadcastsInDim S256x4 ![0, 1]) (h5 : S4.BroadcastsInDim S1x4 ![1]) (h7 : S1x4.BroadcastsInDim S256x4 ![0, 1]) {x : FVec Ideal S256x4 .f32}
    (hx : x = mulf (broadcastInDim S256x4 ![0, 1] h12 (broadcastInDim S256x1 ![0] h11 (shapeCast S256 (L2 .f32 f : FVec Ideal S4x64 .f32) h10)))
      (uitofp .f32 (cmpi .eq (broadcastInDim S256x4 ![0, 1] h6 headOf) (broadcastInDim S256x4 ![0, 1] h7 (broadcastInDim S1x4 ![1] h5 (iotaInDim S4 32 0)))) : FVec Ideal S256x4 .f32)) :
    truncf .bf16 (subf x (extf .f32 (truncf .bf16 x bitsLt_bf16_f32) bitsLt_bf16_f32)) bitsLt_bf16_f32 = L2 .bf16 (0 : Fin 256 → Fin 4 → ℝ) := by
  rw [hx, heads_hi, lo_L2]

/-- The arrays that the last stretch of operations writes. -/
theorem ready (H : Held V a) (h3 : V (Proc.devRef .tc main_v3) = headOf) : Ready (StableHlo.after hostOps1_2 V) a where
  w5 := by after_reads_simp; rw [H.h7, rows_L2 (n := 300) (m := 512) (N := 307) 0 (by decide)]; rfl
  w6 := by after_reads_simp; rw [H.h7, rows_L2 (n := 300) (m := 512) (N := 307) 0 (by decide), lo_L2]
  w7 := by after_reads_simp; rw [H.h7, rows_L2 (n := 7) (m := 512) (N := 307) 300 (by decide)]; rfl
  w8 := by after_reads_simp; rw [H.h7, rows_L2 (n := 7) (m := 512) (N := 307) 300 (by decide), lo_L2]
  w9 := by after_reads_simp; rw [H.h8]; exact asRow_X1 _ _
  w10 := by after_reads_simp; rw [H.h9]; rfl
  w11 := by after_reads_simp; rw [H.h9]; exact lo_X2 _ _
  w12 := by after_reads_simp; rw [H.h10]; exact asRow_X1 _ _
  w13 := by after_reads_simp; rw [H.h11, rows_L2 (n := 300) (m := 512) (N := 307) 0 (by decide)]; rfl
  w14 := by after_reads_simp; rw [H.h11, rows_L2 (n := 300) (m := 512) (N := 307) 0 (by decide), lo_L2]
  w15 := by after_reads_simp; rw [H.h11, rows_L2 (n := 7) (m := 512) (N := 307) 300 (by decide)]; rfl
  w16 := by after_reads_simp; rw [H.h11, rows_L2 (n := 7) (m := 512) (N := 307) 300 (by decide), lo_L2]
  w17 := by after_reads_simp; rw [H.h12]; exact asRow_X1 _ _
  w18 := by after_reads_simp; rw [H.h13]; rfl
  w19 := by after_reads_simp; rw [H.h13]; exact lo_X2 _ _
  w20 := by after_reads_simp; rw [H.h14]; exact asRow_X1 _ _
  w21 := by after_reads_simp; rw [H.h15]; rfl
  w22 := by after_reads_simp; rw [H.h15, lo_L2]
  w23 := by after_reads_simp; rw [H.h16, h3]; exact congrArg (truncf .bf16 · bitsLt_bf16_f32) (heads_hi _ _ _ _ _ _ _)
  w24 := by after_reads_simp; rw [H.h16, h3]; exact heads_lo _ _ _ _ _ _ _ rfl
  w25 := by after_reads_simp; rw [H.h17, h3]; exact congrArg (truncf .bf16 · bitsLt_bf16_f32) (heads_hi _ _ _ _ _ _ _)
  w26 := by after_reads_simp; rw [H.h17, h3]; exact heads_lo _ _ _ _ _ _ _ rfl
  w27 := by after_reads_simp; rw [H.h18]; rfl
  w28 := by after_reads_simp; rw [H.h18, lo_L2]
  w29 := by after_reads_simp; rw [H.h19]; exact asRow_X1 _ _
  w30 := by after_reads_simp; rw [H.h20]; rfl
  w31 := by after_reads_simp; rw [H.h20, lo_L2]
  w32 := by after_reads_simp; rw [H.h21]; rfl
  w33 := by after_reads_simp; rw [H.h21, lo_L2]
  w34 := by after_reads_simp; rw [H.h22]; exact asRow_L1 _ _
  w35 := by after_reads_simp; rw [H.h23]; rfl
  w36 := by after_reads_simp; rw [H.h23, lo_L2]
  w37 := by after_reads_simp; rw [H.h24]; exact asRow_L1 _ _
  w38 := by after_reads_simp; rw [H.h25]; rfl
  w39 := by after_reads_simp; rw [H.h25, lo_L3]
  w41 := by after_reads_simp; rw [H.h27]; exact dropLast_X3 _ _
  w42 := by after_reads_simp; rw [H.h28]; exact colRow_X2 _ _

end Cert.KernelIdeal.Gen

end
-- ==== Proof.Value.KStats.lean ====
/-
The first kernel's rows: the means of the descriptors and one over their standard deviations.
-/
module

public import proofs.«01_k».proof.Proof.Value.KHost
public import proofs.«01_k».proof.Proof.Value.XLift

@[expose] public section

set_option maxRecDepth 16384
set_option maxHeartbeats 2000000

noncomputable section

namespace Cert.KernelIdeal.Gen

open Idealize.ShloMosaic Idealize.ShloMosaic.TcCoe Idealize.ShloMosaic.Pipeline
open Cert.Lift Cert.Model

variable {n : ℕ}

/-- The means of the columns. -/
theorem mean_row (w : BitVec 32) {r : ℝ} (hw : Ideal.ofBits .f32 w = (r : EReal)) (x : Fin n → Fin 7 → EReal) (a)
    (h : Shape.Reduces ⟨2, ![n, 7]⟩ [0] ⟨1, ![7]⟩) (h2) (h3) (h4 : Shape.ShapeCasts ⟨1, ![7]⟩ ⟨2, ![1, 7]⟩) :
    divf (shapeCast ⟨2, ![1, 7]⟩ (multiReduction .add [0] ⟨1, ![7]⟩ (X2 .f32 x) a h h2 h3) h4) (broadcast ⟨2, ![1, 7]⟩ (Scalar.ofBits .f32 w : Ideal .f32))
      = X2 .f32 (mu (cst w) x) := by
  rw [colSum_X2, bc w hw]; rfl
/-- One over the columns' standard deviations. -/
theorem inv_row (w : BitVec 32) {r : ℝ} (hw : Ideal.ofBits .f32 w = (r : EReal)) (x : Fin n → Fin 7 → EReal) (a)
    (h : Shape.Reduces ⟨2, ![n, 7]⟩ [0] ⟨1, ![7]⟩) (h2) (h3) (h4 : Shape.ShapeCasts ⟨1, ![7]⟩ ⟨2, ![1, 7]⟩) (hb : Shape.Broadcasts ⟨2, ![1, 7]⟩ ⟨2, ![n, 7]⟩)
    (v : FVec Ideal ⟨2, ![1, 7]⟩ .f32) (hv : v = X2 .f32 (mu (cst w) x)) :
    divf (broadcast ⟨2, ![1, 7]⟩ (Scalar.ofBits .f32 0x3F800000#32 : Ideal .f32)) (addf (sqrt (divf (shapeCast ⟨2, ![1, 7]⟩ (multiReduction .add [0] ⟨1, ![7]⟩
        (mulf (subf (X2 .f32 x) (broadcastTo ⟨2, ![n, 7]⟩ v hb)) (subf (X2 .f32 x) (broadcastTo ⟨2, ![n, 7]⟩ v hb))) a h h2 h3) h4)
        (broadcast ⟨2, ![1, 7]⟩ (Scalar.ofBits .f32 w : Ideal .f32)))) (broadcast ⟨2, ![1, 7]⟩ (Scalar.ofBits .f32 0x358637BD#32 : Ideal .f32)))
      = X2 .f32 (inv (cst w) x) := by
  rw [hv, broadcastTo_rowX, subf_XX, mulf_XX, colSum_X2, bc w hw, bc _ val_eps6, bc _ val_one, cst_of val_one]
  rfl

/-- The eight rows. -/
def statRows (a : Args) : Fin 8 → Fin 7 → EReal := ![a.A.mu 0, a.A.inv 0, a.B.mu 0, a.B.inv 0, 0, 0, 0, 0]

/-- The eight rows as the first kernel computes them. -/
theorem stats_eq (a : Args) : k0_pay1 (X2 .f32 a.m7 : FVec Ideal S16384x7 .f32) (X2 .f32 a.s7 : FVec Ideal S4096x7 .f32) = X2 .f32 (statRows a) := by
  have e1 := mean_row 0x46800000#32 val_16384 a.m7 0x00000000#32 reduces_S16384x7_S7 (.inl rfl) rfl shapeCasts_S7_S1x7
  have e2 := inv_row 0x46800000#32 val_16384 a.m7 0x00000000#32 reduces_S16384x7_S7 (.inl rfl) rfl shapeCasts_S7_S1x7 broadcasts_S1x7_S16384x7 _ e1
  have e3 := mean_row 0x45800000#32 val_4096 a.s7 0x00000000#32 reduces_S4096x7_S7 (.inl rfl) rfl shapeCasts_S7_S1x7
  have e4 := inv_row 0x45800000#32 val_4096 a.s7 0x00000000#32 reduces_S4096x7_S7 (.inl rfl) rfl shapeCasts_S7_S1x7 broadcasts_S1x7_S4096x7 _ e3
  unfold k0_pay1
  refine (?_ : _ = concatenate S8x7 0 [⟨S1x7, X2 .f32 a.A.mu⟩, ⟨S1x7, X2 .f32 a.A.inv⟩, ⟨S1x7, X2 .f32 a.B.mu⟩, ⟨S1x7, X2 .f32 a.B.inv⟩, ⟨S4x7, L2 .f32 (kc (cst 0x00000000#32) : Fin 4 → Fin 7 → ℝ)⟩] concatenates_S1x7_S1x7_S1x7_S1x7_S4x7_S8x7_d0).trans ?_
  · rw [← bc _ val_zero]
    exact congr (congr (congr (congrArg (fun p q r s => concatenate S8x7 0 [⟨S1x7, p⟩, ⟨S1x7, q⟩, ⟨S1x7, r⟩, ⟨S1x7, s⟩, ⟨S4x7, broadcast S4x7 (Scalar.ofBits .f32 0x00000000#32 : Ideal .f32)⟩] concatenates_S1x7_S1x7_S1x7_S1x7_S4x7_S8x7_d0) e1) e2) e3) e4
  · rw [cst_of val_zero]
    refine xext2 fun r c => ?_
    fin_cases r <;> rfl

end Cert.KernelIdeal.Gen

end
-- ==== Proof.Value.Unit.lean ====
/-
Rows over their lengths are real numbers, whatever the rows are: a row with an infinity has the length +∞, and the quotients
are zero. So a product may be split into halves, which changes only infinite entries to other infinite ones.
-/
module

public import proofs.«01_k».proof.Proof.Value.XLift
public import proofs.«01_k».proof.Proof.Value.Model

@[expose] public section

noncomputable section

namespace Cert.Model

open Idealize.ShloMosaic
open Cert.Lift
open scoped BigOperators

/-- A square is not negative. -/
theorem square_nonneg (d : EReal) : 0 ≤ d * d := by
  induction d using EReal.rec with
  | bot => rw [EReal.bot_mul_bot]; exact le_top
  | coe r => exact_mod_cast mul_self_nonneg r
  | top => rw [EReal.top_mul_top]; exact le_top
/-- A square below +∞ is a real number's. -/
theorem real_of_sq (d : EReal) (h : d * d ≠ ⊤) : ∃ r : ℝ, d = (r : EReal) := by
  induction d using EReal.rec with
  | bot => exact absurd EReal.bot_mul_bot h
  | coe r => exact ⟨r, rfl⟩
  | top => exact absurd EReal.top_mul_top h
/-- A root of a number that is not negative is not negative. -/
theorem root_nonneg (y : EReal) (h : 0 ≤ y) : 0 ≤ Ideal.sqrt y := by
  induction y using EReal.rec with
  | bot => exact absurd h (by simp)
  | coe r =>
    have hr : 0 ≤ r := by exact_mod_cast h
    rw [Ideal.sqrt_coe, if_neg (not_lt.2 hr)]
    exact_mod_cast Real.sqrt_nonneg r
  | top => exact le_top
/-- A quotient by a positive number is not negative where the dividend is not. -/
theorem quot_nonneg {c : ℝ} (hc : 0 < c) (y : EReal) (h : 0 ≤ y) : 0 ≤ Ideal.div y (c : EReal) := by
  rw [Ideal.div_coe hc.ne']
  exact mul_nonneg h (by exact_mod_cast (one_div_pos.2 hc).le)

/-- A quotient by a positive number is real if the dividend is real wherever the divisor is below +∞. -/
theorem quot_real (d s : EReal) (hs : 0 < s) (h : s ≠ ⊤ → ∃ r : ℝ, d = (r : EReal)) : (((Ideal.div d s).toReal : ℝ) : EReal) = Ideal.div d s := by
  obtain ⟨q, hq⟩ : ∃ q : ℝ, Ideal.div d s = (q : EReal) := by
    by_cases ht : s = ⊤
    · exact ⟨0, by rw [ht]; simp [Ideal.div]⟩
    · obtain ⟨r, hr⟩ := h ht
      obtain ⟨t, rfl⟩ : ∃ t : ℝ, s = (t : EReal) := ⟨_, (EReal.coe_toReal ht (ne_bot_of_gt hs)).symm⟩
      have h0 : (0 : ℝ) < t := by exact_mod_cast hs
      exact ⟨r * (1 / t), by rw [hr, Ideal.div_coe h0.ne', ← EReal.coe_mul]⟩
  rw [hq, EReal.toReal_coe]
/-- A sum of two is real only if both are. -/
theorem real_of_add {x y : EReal} (h : ∃ r : ℝ, x + y = (r : EReal)) : (∃ r : ℝ, x = (r : EReal)) ∧ ∃ r : ℝ, y = (r : EReal) := by
  obtain ⟨r, h⟩ := h
  induction x using EReal.rec with
  | bot => rw [EReal.bot_add] at h; exact absurd h.symm (EReal.coe_ne_bot _)
  | coe a =>
    induction y using EReal.rec with
    | bot => rw [EReal.add_bot] at h; exact absurd h.symm (EReal.coe_ne_bot _)
    | coe b => exact ⟨⟨a, rfl⟩, ⟨b, rfl⟩⟩
    | top => rw [EReal.coe_add_top] at h; exact absurd h.symm (EReal.coe_ne_top _)
  | top =>
    induction y using EReal.rec with
    | bot => rw [EReal.add_bot] at h; exact absurd h.symm (EReal.coe_ne_bot _)
    | coe b => rw [EReal.top_add_coe] at h; exact absurd h.symm (EReal.coe_ne_top _)
    | top => rw [EReal.top_add_top] at h; exact absurd h.symm (EReal.coe_ne_top _)
/-- A finite sum is real only if every term is. -/
theorem real_of_sum {k : ℕ} (f : Fin k → EReal) (h : ∃ r : ℝ, ∑ l, f l = (r : EReal)) (l : Fin k) : ∃ r : ℝ, f l = (r : EReal) := by
  rw [← Finset.add_sum_erase Finset.univ f (Finset.mem_univ l)] at h
  exact (real_of_add h).1
/-- An infinity times a number is real only if the number is zero. -/
theorem zero_of_mul {x y : EReal} (hx : x = ⊤ ∨ x = ⊥) (h : ∃ r : ℝ, x * y = (r : EReal)) : y = 0 := by
  obtain ⟨r, h⟩ := h
  rcases lt_trichotomy y 0 with hy | hy | hy
  · rcases hx with rfl | rfl
    · rw [EReal.top_mul_of_neg hy] at h; exact absurd h.symm (EReal.coe_ne_bot _)
    · rw [EReal.bot_mul_of_neg hy] at h; exact absurd h.symm (EReal.coe_ne_top _)
  · exact hy
  · rcases hx with rfl | rfl
    · rw [EReal.top_mul_of_pos hy] at h; exact absurd h.symm (EReal.coe_ne_top _)
    · rw [EReal.bot_mul_of_pos hy] at h; exact absurd h.symm (EReal.coe_ne_bot _)
/-- Where a product is real, the product with the second factor's low half is zero. -/
theorem mul_lo {x y : EReal} (h : ∃ r : ℝ, x * y = (r : EReal)) : x * (y - y) = 0 := by
  induction y using EReal.rec with
  | bot =>
    have hx : x = 0 := zero_of_mul (.inr rfl) (by rwa [mul_comm] at h)
    rw [hx, zero_mul]
  | coe b => rw [← EReal.coe_sub, sub_self, EReal.coe_zero, mul_zero]
  | top =>
    have hx : x = 0 := zero_of_mul (.inl rfl) (by rwa [mul_comm] at h)
    rw [hx, zero_mul]
/-- Where a product is real, the product with the first factor's low half is zero. -/
theorem lo_mul {x y : EReal} (h : ∃ r : ℝ, x * y = (r : EReal)) : (x - x) * y = 0 := by
  rw [mul_comm] at h ⊢
  exact mul_lo h

section
variable {n k : ℕ}

/-- A row's length and the small number are positive. -/
theorem len_pos (z : Fin n → Fin 256 → EReal) (i : Fin n) : 0 < len z i := by
  refine lt_of_lt_of_le (b := ((cst 0x322BCC77#32 : ℝ) : EReal)) (by exact_mod_cast cst_eps8_pos) ?_
  have h := add_le_add_left (root_nonneg (∑ j, z i j * z i j) (Finset.sum_nonneg fun j _ => square_nonneg (z i j))) ((cst 0x322BCC77#32 : ℝ) : EReal)
  simpa [len, add_comm] using h
/-- A row whose length is below +∞ is real. -/
theorem row_real (z : Fin n → Fin 256 → EReal) (i : Fin n) (j : Fin 256) (h : len z i ≠ ⊤) : ∃ r : ℝ, z i j = (r : EReal) := by
  refine real_of_sq _ fun e => h ?_
  have hs : (∑ j, z i j * z i j) = ⊤ :=
    top_le_iff.1 (e ▸ Finset.single_le_sum (f := fun j => z i j * z i j) (fun _ _ => square_nonneg _) (Finset.mem_univ j))
  unfold len
  rw [hs, Ideal.sqrt_top, EReal.top_add_coe]
/-- A row over its length is real. -/
theorem unit_real (z : Fin n → Fin 256 → EReal) (i : Fin n) (j : Fin 256) : ((unit z i j : ℝ) : EReal) = Ideal.div (z i j) (len z i) :=
  quot_real _ _ (len_pos z i) (row_real z i j)
/-- Rows over their lengths agree if the rows agree where they are real and are not real otherwise. -/
theorem unit_congr (z z' : Fin n → Fin 256 → EReal) (h1 : ∀ i j, (∃ r : ℝ, z i j = (r : EReal)) → z' i j = z i j)
    (h2 : ∀ i j, (∃ r : ℝ, z' i j = (r : EReal)) → ∃ r : ℝ, z i j = (r : EReal)) : unit z' = unit z := by
  funext i j
  by_cases h : ∀ j, ∃ r : ℝ, z i j = (r : EReal)
  · have e : z' i = z i := funext fun j => h1 i j (h j)
    unfold unit len
    rw [e]
  · obtain ⟨q, hq⟩ := not_forall.1 h
    have l1 : len z i = ⊤ := by_contra fun hl => hq (row_real z i q hl)
    have l2 : len z' i = ⊤ := by_contra fun hl => hq (h2 i q (row_real z' i q hl))
    unfold unit
    rw [l1, l2]
    simp [Ideal.div]
/-- The product in halves, its rows over their lengths. -/
theorem unit_split (h : Fin n → Fin k → EReal) (W : Fin k → Fin 256 → EReal) (b : Fin n → Fin 256 → EReal) :
    unit (mmX h W + mmX h (W - W) + mmX (h - h) W + b) = unit (mmX h W + b) := by
  refine unit_congr _ _ (fun i j hr => ?_) fun i j hr => ?_
  · have ht := real_of_sum _ (real_of_add hr).1
    have e1 : mmX h (W - W) i j = 0 := Finset.sum_eq_zero fun l _ => mul_lo (ht l)
    have e2 : mmX (h - h) W i j = 0 := Finset.sum_eq_zero fun l _ => lo_mul (ht l)
    show mmX h W i j + mmX h (W - W) i j + mmX (h - h) W i j + b i j = mmX h W i j + b i j
    rw [e1, e2, add_zero, add_zero]
  · have a := real_of_add hr
    obtain ⟨⟨p, hp⟩, q, hq⟩ := (⟨(real_of_add (real_of_add a.1).1).1, a.2⟩ : (∃ r : ℝ, mmX h W i j = (r : EReal)) ∧ ∃ r : ℝ, b i j = (r : EReal))
    refine ⟨p + q, ?_⟩
    show mmX h W i j + b i j = _
    rw [hp, hq, EReal.coe_add]
end

end Cert.Model

end
-- ==== Proof.Value.KBody.lean ====
/-
The main kernel's body: the block it stores is the model of its blocks.
-/
module

public import proofs.«01_k».proof.Proof.Value.Unit
public import proofs.«01_k».proof.Proof.Value.XLift
public import proofs.«01_k».proof.Proof.Value.Model
public import proofs.«01_k».proof.Proof.KernelIdeal.Blocks

@[expose] public section

set_option maxRecDepth 16384
set_option maxHeartbeats 2000000

noncomputable section

namespace Cert.KernelIdeal.Gen

open Idealize.ShloMosaic
open Cert.Lift Cert.Model

/-- What the blocks of one grid point hold: the features, the encoders' and the later weights, each with its low part, which
is zero where the weight is real. -/
structure IsReal (X : Blocks Ideal) (A B : Mlp) (P : Par) (m3 : Fin 2048 → Fin 300 → ℝ) (m7 : Fin 2048 → Fin 7 → EReal)
    (s3 : Fin 512 → Fin 300 → ℝ) (s7 : Fin 512 → Fin 7 → EReal) : Prop where
  x0 : View.ld X.x0 r1_0 = L2 .f32 m3
  x1 : View.ld X.x1 r1_1 = X2 .f32 m7
  x2 : View.ld X.x2 r1_9 = L2 .f32 s3
  x3 : View.ld X.x3 r1_10 = X2 .f32 s7
  x4a : View.ld X.x4 r1_2 = X2 .f32 A.mu
  x4b : View.ld X.x4 r1_3 = X2 .f32 A.inv
  x4c : View.ld X.x4 r1_11 = X2 .f32 B.mu
  x4d : View.ld X.x4 r1_12 = X2 .f32 B.inv
  n1 : X2 .f32 ((m7 - bRX A.mu) * bRX A.inv) = L2 .f32 (nrm m7 (bRX A.mu) (bRX A.inv))
  n3 : X2 .f32 ((s7 - bRX B.mu) * bRX B.inv) = L2 .f32 (nrm s7 (bRX B.mu) (bRX B.inv))
  x5 : View.ld X.x5 r1_4 = L2 .bf16 A.W3
  x6 : View.ld X.x6 r1_4 = L2 .bf16 (0 : Fin 300 → Fin 512 → ℝ)
  x7 : View.ld X.x7 r1_5 = L2 .bf16 A.W7
  x8 : View.ld X.x8 r1_5 = L2 .bf16 (0 : Fin 7 → Fin 512 → ℝ)
  x9 : View.ld X.x9 r1_6 = X2 .f32 A.b1
  x10 : View.ld X.x10 r1_7 = X2 .bf16 A.W2
  x11 : View.ld X.x11 r1_7 = X2 .bf16 (A.W2 - A.W2)
  x12 : View.ld X.x12 r1_8 = X2 .f32 A.b2
  x13 : View.ld X.x13 r1_4 = L2 .bf16 B.W3
  x14 : View.ld X.x14 r1_4 = L2 .bf16 (0 : Fin 300 → Fin 512 → ℝ)
  x15 : View.ld X.x15 r1_5 = L2 .bf16 B.W7
  x16 : View.ld X.x16 r1_5 = L2 .bf16 (0 : Fin 7 → Fin 512 → ℝ)
  x17 : View.ld X.x17 r1_6 = X2 .f32 B.b1
  x18 : View.ld X.x18 r1_7 = X2 .bf16 B.W2
  x19 : View.ld X.x19 r1_7 = X2 .bf16 (B.W2 - B.W2)
  x20 : View.ld X.x20 r1_8 = X2 .f32 B.b2
  x21 : View.ld X.x21 r1_13 = L2 .bf16 P.Wg
  x22 : View.ld X.x22 r1_13 = L2 .bf16 (0 : Fin 256 → Fin 256 → ℝ)
  x23 : View.ld X.x23 r1_14 = L2 .bf16 P.As
  x24 : View.ld X.x24 r1_14 = L2 .bf16 (0 : Fin 256 → Fin 4 → ℝ)
  x25 : View.ld X.x25 r1_14 = L2 .bf16 P.Ad
  x26 : View.ld X.x26 r1_14 = L2 .bf16 (0 : Fin 256 → Fin 4 → ℝ)
  x27 : View.ld X.x27 r1_13 = L2 .bf16 P.Wgate
  x28 : View.ld X.x28 r1_13 = L2 .bf16 (0 : Fin 256 → Fin 256 → ℝ)
  x29 : View.ld X.x29 r1_8 = X2 .f32 P.bgate
  x30 : View.ld X.x30 r1_13 = L2 .bf16 P.Wskip
  x31 : View.ld X.x31 r1_13 = L2 .bf16 (0 : Fin 256 → Fin 256 → ℝ)
  x32 : View.ld X.x32 r1_15 = L2 .bf16 P.Wout
  x33 : View.ld X.x33 r1_15 = L2 .bf16 (0 : Fin 256 → Fin 128 → ℝ)
  x34 : View.ld X.x34 r1_16 = L2 .f32 P.bout
  x35 : View.ld X.x35 r1_17 = L2 .bf16 P.Ws
  x36 : View.ld X.x36 r1_17 = L2 .bf16 (0 : Fin 128 → Fin 128 → ℝ)
  x37 : View.ld X.x37 r1_16 = L2 .f32 P.bs
  x38a : ∀ h, shapeCast S128x128 (View.ld X.x38 r1_18 : FVec Ideal S1x128x128 .bf16) h = L2 .bf16 (P.Wt1 0)
  x38b : ∀ h, shapeCast S128x128 (View.ld X.x38 r1_20 : FVec Ideal S1x128x128 .bf16) h = L2 .bf16 (P.Wt1 1)
  x38c : ∀ h, shapeCast S128x128 (View.ld X.x38 r1_22 : FVec Ideal S1x128x128 .bf16) h = L2 .bf16 (P.Wt1 2)
  x39a : ∀ h, shapeCast S128x128 (View.ld X.x39 r1_18 : FVec Ideal S1x128x128 .bf16) h = L2 .bf16 (0 : Fin 128 → Fin 128 → ℝ)
  x39b : ∀ h, shapeCast S128x128 (View.ld X.x39 r1_20 : FVec Ideal S1x128x128 .bf16) h = L2 .bf16 (0 : Fin 128 → Fin 128 → ℝ)
  x39c : ∀ h, shapeCast S128x128 (View.ld X.x39 r1_22 : FVec Ideal S1x128x128 .bf16) h = L2 .bf16 (0 : Fin 128 → Fin 128 → ℝ)
  x40a : View.ld X.x40 r1_19 = X2 .f32 (P.bt1 0)
  x40b : View.ld X.x40 r1_21 = X2 .f32 (P.bt1 1)
  x40c : View.ld X.x40 r1_23 = X2 .f32 (P.bt1 2)
  x41a : View.ld X.x41 r1_19 = X2 .f32 (P.wt2 0)
  x41b : View.ld X.x41 r1_21 = X2 .f32 (P.wt2 1)
  x41c : View.ld X.x41 r1_23 = X2 .f32 (P.wt2 2)
  x42 : View.ld X.x42 r1_24 = X2 .f32 P.bt2

/-- The product's dimension numbers are a plain matrix product's. -/
theorem dot_a : dot_S2048x300_S300x512_S2048x512_1_0_0_1_n_n = DotDims.plain 2048 300 512 := rfl
/-- The product's dimension numbers are a plain matrix product's. -/
theorem dot_b : dot_S2048x7_S7x512_S2048x512_1_0_0_1_n_n = DotDims.plain 2048 7 512 := rfl
/-- The product's dimension numbers are a plain matrix product's. -/
theorem dot_c : dot_S2048x512_S512x256_S2048x256_1_0_0_1_n_n = DotDims.plain 2048 512 256 := rfl
/-- The product's dimension numbers are a plain matrix product's. -/
theorem dot_d : dot_S512x300_S300x512_S512x512_1_0_0_1_n_n = DotDims.plain 512 300 512 := rfl
/-- The product's dimension numbers are a plain matrix product's. -/
theorem dot_e : dot_S512x7_S7x512_S512x512_1_0_0_1_n_n = DotDims.plain 512 7 512 := rfl
/-- The product's dimension numbers are a plain matrix product's. -/
theorem dot_f : dot_S512x512_S512x256_S512x256_1_0_0_1_n_n = DotDims.plain 512 512 256 := rfl
/-- The product's dimension numbers are a plain matrix product's. -/
theorem dot_g : dot_S512x256_S256x256_S512x256_1_0_0_1_n_n = DotDims.plain 512 256 256 := rfl
/-- The product's dimension numbers are a plain matrix product's. -/
theorem dot_h : dot_S512x256_S256x4_S512x4_1_0_0_1_n_n = DotDims.plain 512 256 4 := rfl
/-- The product's dimension numbers are a plain matrix product's. -/
theorem dot_i : dot_S512x4_S4x256_S512x256_1_0_0_1_n_n = DotDims.plain 512 4 256 := rfl
/-- The product's dimension numbers are a plain matrix product's. -/
theorem dot_j : dot_S512x256_S256x128_S512x128_1_0_0_1_n_n = DotDims.plain 512 256 128 := rfl
/-- The product's dimension numbers are a plain matrix product's. -/
theorem dot_k : dot_S512x128_S128x128_S512x128_1_0_0_1_n_n = DotDims.plain 512 128 128 := rfl

/-- The 2048 rows' sums of extended reals, as a column. -/
theorem rs_ax (f : Fin 2048 → Fin 256 → EReal) (h1 h2 h3) (h4 : S2048.ShapeCasts S2048x1) :
    shapeCast S2048x1 (multiReduction (s := S2048x256) (φ := .f32) .add [1] S2048 (X2 .f32 f) 0x00000000#32 h1 h2 h3) h4 = X2 .f32 (rsX f) :=
  rowSum_X2 f _ h1 h2 h3 h4
/-- The 512 rows' sums of 256 columns of extended reals, as a column. -/
theorem rs_bx (f : Fin 512 → Fin 256 → EReal) (h1 h2 h3) (h4 : S512.ShapeCasts S512x1) :
    shapeCast S512x1 (multiReduction (s := S512x256) (φ := .f32) .add [1] S512 (X2 .f32 f) 0x00000000#32 h1 h2 h3) h4 = X2 .f32 (rsX f) :=
  rowSum_X2 f _ h1 h2 h3 h4
/-- The 512 rows' sums of 128 columns, as a column. -/
theorem rs_c (f : Fin 512 → Fin 128 → ℝ) (h1 h2 h3) (h4 : S512.ShapeCasts S512x1) :
    shapeCast S512x1 (multiReduction (s := S512x128) (φ := .f32) .add [1] S512 (L2 .f32 f) 0x00000000#32 h1 h2 h3) h4 = L2 .f32 (rs f) :=
  rowSum_L2 f _ h1 h2 h3 h4
/-- The 512 rows' sums of 128 columns of extended reals, as a column. -/
theorem rs_x (f : Fin 512 → Fin 128 → EReal) (h1 h2 h3) (h4 : S512.ShapeCasts S512x1) :
    shapeCast S512x1 (multiReduction (s := S512x128) (φ := .f32) .add [1] S512 (X2 .f32 f) 0x00000000#32 h1 h2 h3) h4 = X2 .f32 (rsX f) :=
  rowSum_X2 f _ h1 h2 h3 h4
/-- The constant zero. -/
theorem cst0 : cst 0x00000000#32 = 0 := cst_of val_zero
/-- The constant one. -/
theorem cst1 : cst 0x3F800000#32 = 1 := cst_of val_one

/-- The constant that stands for `5 + 1e-9`. -/
def five : ℝ := 45035996282712159 / 9007199254740992
/-- The named constant spread over a matrix. -/
theorem five_lift {n m : ℕ} : (broadcast ⟨2, ![n, m]⟩ (Named.named (F := Ideal) κ "five" 0x40A00000#32 : Ideal .f32)) = L2 .f32 (kc five : Fin n → Fin m → ℝ) := rfl
instance {n m : ℕ} : Pos (kc five : Fin n → Fin m → ℝ) := ⟨fun _ _ => by unfold kc five; norm_num⟩

/-- Row `4 i + k` of the monomers, as row `i`. -/
def sl {m : ℕ} (k : Fin 4) (f : Fin 2048 → Fin m → ℝ) : Fin 512 → Fin m → ℝ := fun i l => f ⟨4 * i.val + k.val, by omega⟩ l
/-- Four rows of the monomers side by side. -/
def four (f : Fin 2048 → Fin 256 → ℝ) : Fin 512 → Fin 1024 → ℝ :=
  fun i j => f ⟨4 * i.val + j.val / 256, by omega⟩ ⟨j.val % 256, by omega⟩
/-- A cast puts four rows side by side. -/
theorem four_lift {φ : FTy} (f : Fin 2048 → Fin 256 → ℝ) (h : S2048x256.ShapeCasts S512x1024) :
    shapeCast S512x1024 (L2 φ f) h = L2 φ (four f) := by
  funext i
  have h0 : (i 0).val < 512 := (i 0).isLt
  have h1 : (i 1).val < 1024 := (i 1).isLt
  refine shapeCast_apply _ h i (ValueIdx.ix2 ⟨4 * (i 0).val + (i 1).val / 256, by omega⟩ ⟨(i 1).val % 256, by omega⟩) ?_
  rw [Shape.rowMajor_val_two, Shape.rowMajor_val_two]
  show (4 * (i 0).val + (i 1).val / 256) * 256 + (i 1).val % 256 = (i 0).val * 1024 + (i 1).val
  omega
/-- A quarter of the four rows is one of them. -/
theorem slice_lift {φ : FTy} (k : Fin 4) (f : Fin 2048 → Fin 256 → ℝ) (o : ℕ) (ho : o = 256 * k.val) (h : S512x1024.Slices ![0, o] S512x256) :
    extractStridedSlice S512x256 ![0, o] (L2 φ (four f)) h = L2 φ (sl k f) := by
  funext i
  have h0 : (i 0).val < 512 := (i 0).isLt
  have h1 : (i 1).val < 256 := (i 1).isLt
  refine (extractStridedSlice_apply _ _ h i (ValueIdx.ix2 ⟨(i 0).val, by omega⟩ ⟨o + (i 1).val, by omega⟩) ?_).trans ?_
  · intro a
    match a with
    | ⟨0, _⟩ => show (i 0).val = 0 + (i 0).val; omega
    | ⟨1, _⟩ => rfl
  · refine congrArg (fun x : ℝ => (x : EReal)) ?_
    refine congrArg₂ f (Fin.ext ?_) (Fin.ext ?_)
    · show 4 * (i 0).val + (o + (i 1).val) / 256 = 4 * (i 0).val + k.val
      omega
    · show (o + (i 1).val) % 256 = (i 1).val
      omega
/-- Three columns side by side. -/
theorem concat_lift (f g k : Fin 512 → Fin 1 → EReal) (h) :
    concatenate S512x3 1 [⟨S512x1, X2 .f32 f⟩, ⟨S512x1, X2 .f32 g⟩, ⟨S512x1, X2 .f32 k⟩] h =
      X2 .f32 (fun i t => (![f, g, k] t) i 0) := by
  funext i
  rw [ValueIdx.eq_ix2 i]
  generalize (i 0 : Fin 512) = r
  generalize (i 1 : Fin 3) = c
  fin_cases c <;> rfl
/-- The origin of a matrix, as the zero function. -/
theorem hz2 {a b : ℕ} : (![0, 0] : Fin (⟨2, ![a, b]⟩ : Shape).rank → ℕ) = fun _ => 0 := by
  funext x; fin_cases x <;> rfl

/-- The body's count of the heads: one where the column belongs to the head. -/
theorem head_word : ∀ (r : Fin 4) (c : Fin 256),
    (extui 32 (cmpi .eq (select k1_pay69 (subi k1_pay68 (broadcast S4x256 1#32)) k1_pay68) (iota .tc S4x256 32 [0] iota_S4x256_d0_w32)) natLt_1_32 : IVec S4x256 32)
      (ValueIdx.ix2 r c) = if c.val / 64 = r.val then 1#32 else 0#32 := by
  decide +kernel
/-- The matrix that spreads a head's number over its columns, as the body counts it out. -/
theorem v289_real (X : Blocks Ideal) : X.v289 = L2 .bf16 E := by
  funext i
  rw [ValueIdx.eq_ix2 i]
  refine (congrArg (fun b : BitVec 32 => ((b.toInt : ℝ) : EReal)) (head_word (i 0) (i 1))).trans ?_
  refine congrArg (fun x : ℝ => (x : EReal)) ?_
  show _ = if (i 1).val / 64 = (i 0).val then (1 : ℝ) else 0
  split <;> simp

variable {X : Blocks Ideal} {A B : Mlp} {P : Par} {m3 : Fin 2048 → Fin 300 → ℝ} {m7 : Fin 2048 → Fin 7 → EReal}
  {s3 : Fin 512 → Fin 300 → ℝ} {s7 : Fin 512 → Fin 7 → EReal} (R : IsReal X A B P m3 m7 s3 s7)
include R

/-- The monomers' vectors. -/
theorem v67_real : X.v67 = L2 .f32 (A.emb m3 m7) := by
  simp only [Blocks.v67, k1_pay13, k1_pay12, k1_pay11, k1_pay10, k1_pay9, k1_pay2, k1_pay3, k1_pay4, k1_pay5, k1_pay6, k1_pay7, k1_pay8,
    R.x0, R.x1, R.x4a, R.x4b, shapeCast_X2_self, broadcastTo_rowX, subf_XX, mulf_XX, addf_LX, addf_XX, maximumf_XL, truncf_X2, extf_X2, matmul_XX, R.n1, R.x5, R.x6, R.x7, R.x8, R.x9, R.x10, R.x11, R.x12, dot_a, dot_b, dot_c, matmul_L2, addf_L2, subf_L2, mulf_L2, maximumf_L2,
    truncf_L2, extf_L2, shapeCast_L2_self, broadcastTo_row, broadcastTo_col, bc _ val_zero, bc _ val_eps8, cst0, sub_self, mm_zero, zero_mm, add_zero, sqrt_L2, divf_L2]
  erw [rs_ax]
  simp only [sqrt_X2, addf_XL, broadcastTo_colX, divf_XX]
  refine Eq.trans ?_ (congrArg (L2 .f32) (unit_split (A.hid m3 m7) A.W2 (bRX A.b2)))
  funext i
  exact (unit_real _ (row i) (col i)).symm

/-- The solvents' vectors. -/
theorem v21_real : k1_pay21 X.v83 X.v85 X.v87 X.v89 X.v112 = L2 .f32 (B.emb s3 s7) := by
  simp only [Blocks.v83, Blocks.v85, Blocks.v87, Blocks.v89, Blocks.v112, k1_pay14, k1_pay15, k1_pay16, k1_pay17, k1_pay18, k1_pay19, k1_pay20, k1_pay21,
    R.x2, R.x3, R.x4c, R.x4d, shapeCast_X2_self, broadcastTo_rowX, subf_XX, mulf_XX, addf_LX, addf_XX, maximumf_XL, truncf_X2, extf_X2, matmul_XX, R.n3, R.x13, R.x14, R.x15, R.x16, R.x17, R.x18, R.x19, R.x20, dot_d, dot_e, dot_f, matmul_L2, addf_L2, subf_L2, mulf_L2, maximumf_L2,
    truncf_L2, extf_L2, shapeCast_L2_self, broadcastTo_row, broadcastTo_col, bc _ val_zero, bc _ val_eps8, cst0, sub_self, mm_zero, zero_mm, add_zero]
  erw [rs_bx]
  simp only [sqrt_X2, addf_XL, broadcastTo_colX, divf_XX]
  refine Eq.trans ?_ (congrArg (L2 .f32) (unit_split (B.hid s3 s7) B.W2 (bRX B.b2)))
  funext i
  exact (unit_real _ (row i) (col i)).symm

/-- The five nodes of each polymer. -/
def nodes (A B : Mlp) (m3 : Fin 2048 → Fin 300 → ℝ) (m7 : Fin 2048 → Fin 7 → EReal) (s3 : Fin 512 → Fin 300 → ℝ) (s7 : Fin 512 → Fin 7 → EReal) :
    Fin 5 → Fin 512 → Fin 256 → ℝ :=
  ![sl 0 (A.emb m3 m7), sl 1 (A.emb m3 m7), sl 2 (A.emb m3 m7), sl 3 (A.emb m3 m7), B.emb s3 s7]
/-- Node 0's row. -/
theorem v145_real : X.v145 = L2 .bf16 (nodes A B m3 m7 s3 s7 0) := by
  simp only [Blocks.v145, k1_pay27, k1_pay22, k1_pay23, k1_pay24, v67_real R, four_lift, truncf_L2, extf_L2, subf_L2, sub_self]
  exact slice_lift 0 _ 0 rfl _
/-- A low half, zero. -/
theorem v146_real : X.v146 = L2 .bf16 (0 : Fin 512 → Fin 256 → ℝ) := by
  simp only [Blocks.v146, k1_pay28, k1_pay22, k1_pay23, k1_pay24, v67_real R, four_lift, truncf_L2, extf_L2, subf_L2, sub_self]
  exact (slice_lift 0 0 0 rfl _)
/-- Node 1's row. -/
theorem v147_real : X.v147 = L2 .bf16 (nodes A B m3 m7 s3 s7 1) := by
  simp only [Blocks.v147, k1_pay29, k1_pay22, k1_pay23, k1_pay24, v67_real R, four_lift, truncf_L2, extf_L2, subf_L2, sub_self]
  exact slice_lift 1 _ 256 rfl _
/-- A low half, zero. -/
theorem v148_real : X.v148 = L2 .bf16 (0 : Fin 512 → Fin 256 → ℝ) := by
  simp only [Blocks.v148, k1_pay30, k1_pay22, k1_pay23, k1_pay24, v67_real R, four_lift, truncf_L2, extf_L2, subf_L2, sub_self]
  exact (slice_lift 1 0 256 rfl _)
/-- Node 2's row. -/
theorem v149_real : X.v149 = L2 .bf16 (nodes A B m3 m7 s3 s7 2) := by
  simp only [Blocks.v149, k1_pay31, k1_pay22, k1_pay23, k1_pay24, v67_real R, four_lift, truncf_L2, extf_L2, subf_L2, sub_self]
  exact slice_lift 2 _ 512 rfl _
/-- A low half, zero. -/
theorem v150_real : X.v150 = L2 .bf16 (0 : Fin 512 → Fin 256 → ℝ) := by
  simp only [Blocks.v150, k1_pay32, k1_pay22, k1_pay23, k1_pay24, v67_real R, four_lift, truncf_L2, extf_L2, subf_L2, sub_self]
  exact (slice_lift 2 0 512 rfl _)
/-- Node 3's row. -/
theorem v151_real : X.v151 = L2 .bf16 (nodes A B m3 m7 s3 s7 3) := by
  simp only [Blocks.v151, k1_pay33, k1_pay22, k1_pay23, k1_pay24, v67_real R, four_lift, truncf_L2, extf_L2, subf_L2, sub_self]
  exact slice_lift 3 _ 768 rfl _
/-- A low half, zero. -/
theorem v152_real : X.v152 = L2 .bf16 (0 : Fin 512 → Fin 256 → ℝ) := by
  simp only [Blocks.v152, k1_pay34, k1_pay22, k1_pay23, k1_pay24, v67_real R, four_lift, truncf_L2, extf_L2, subf_L2, sub_self]
  exact (slice_lift 3 0 768 rfl _)
/-- Node 4's row. -/
theorem v141_real : X.v141 = L2 .bf16 (nodes A B m3 m7 s3 s7 4) := by
  simp only [Blocks.v141, k1_pay25, v21_real R, truncf_L2]
  rfl
/-- A low half, zero. -/
theorem v144_real : X.v144 = L2 .bf16 (0 : Fin 512 → Fin 256 → ℝ) := by
  simp only [Blocks.v144, k1_pay26, k1_pay25, v21_real R, truncf_L2, extf_L2, subf_L2, sub_self]
/-- The weight `Wg`. -/
theorem v154_real : X.v154 = L2 .bf16 (P.Wg) := by
  simp only [Blocks.v154, k1_pay35, R.x21, shapeCast_L2_self]
/-- A low half, zero. -/
theorem v156_real : X.v156 = L2 .bf16 (0 : Fin 256 → Fin 256 → ℝ) := by
  simp only [Blocks.v156, k1_pay36, R.x22, shapeCast_L2_self]
/-- The weight `As`. -/
theorem v158_real : X.v158 = L2 .bf16 (P.As) := by
  simp only [Blocks.v158, k1_pay37, R.x23, shapeCast_L2_self]
/-- A low half, zero. -/
theorem v160_real : X.v160 = L2 .bf16 (0 : Fin 256 → Fin 4 → ℝ) := by
  simp only [Blocks.v160, k1_pay38, R.x24, shapeCast_L2_self]
/-- The weight `Ad`. -/
theorem v162_real : X.v162 = L2 .bf16 (P.Ad) := by
  simp only [Blocks.v162, k1_pay39, R.x25, shapeCast_L2_self]
/-- A low half, zero. -/
theorem v164_real : X.v164 = L2 .bf16 (0 : Fin 256 → Fin 4 → ℝ) := by
  simp only [Blocks.v164, k1_pay40, R.x26, shapeCast_L2_self]
/-- The weight `Wgate`. -/
theorem v291_real : X.v291 = L2 .bf16 (P.Wgate) := by
  simp only [Blocks.v291, k1_pay71, R.x27, shapeCast_L2_self]
/-- A low half, zero. -/
theorem v293_real : X.v293 = L2 .bf16 (0 : Fin 256 → Fin 256 → ℝ) := by
  simp only [Blocks.v293, k1_pay72, R.x28, shapeCast_L2_self]
/-- The weight `Wskip`. -/
theorem v295_real : X.v295 = L2 .bf16 (P.Wskip) := by
  simp only [Blocks.v295, k1_pay73, R.x30, shapeCast_L2_self]
/-- A low half, zero. -/
theorem v297_real : X.v297 = L2 .bf16 (0 : Fin 256 → Fin 256 → ℝ) := by
  simp only [Blocks.v297, k1_pay74, R.x31, shapeCast_L2_self]
/-- Node 0's transformed row. -/
theorem v169_real : X.v169 = L2 .f32 (P.h (nodes A B m3 m7 s3 s7 0)) := by
  simp only [Blocks.v169, k1_pay41, v145_real R, v146_real R, v154_real R, v156_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
  rfl
/-- Node 1's transformed row. -/
theorem v174_real : X.v174 = L2 .f32 (P.h (nodes A B m3 m7 s3 s7 1)) := by
  simp only [Blocks.v174, k1_pay42, v147_real R, v148_real R, v154_real R, v156_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
  rfl
/-- Node 2's transformed row. -/
theorem v179_real : X.v179 = L2 .f32 (P.h (nodes A B m3 m7 s3 s7 2)) := by
  simp only [Blocks.v179, k1_pay43, v149_real R, v150_real R, v154_real R, v156_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
  rfl
/-- Node 3's transformed row. -/
theorem v184_real : X.v184 = L2 .f32 (P.h (nodes A B m3 m7 s3 s7 3)) := by
  simp only [Blocks.v184, k1_pay44, v151_real R, v152_real R, v154_real R, v156_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
  rfl
/-- Node 4's transformed row. -/
theorem v189_real : X.v189 = L2 .f32 (P.h (nodes A B m3 m7 s3 s7 4)) := by
  simp only [Blocks.v189, k1_pay45, v141_real R, v144_real R, v154_real R, v156_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
  rfl
/-- Node 0's transformed row. -/
theorem p41_real : k1_pay41 X.v145 X.v146 X.v154 X.v156 = L2 .f32 (P.h (nodes A B m3 m7 s3 s7 0)) := v169_real R
/-- Node 1's transformed row. -/
theorem p42_real : k1_pay42 X.v147 X.v148 X.v154 X.v156 = L2 .f32 (P.h (nodes A B m3 m7 s3 s7 1)) := v174_real R
/-- Node 2's transformed row. -/
theorem p43_real : k1_pay43 X.v149 X.v150 X.v154 X.v156 = L2 .f32 (P.h (nodes A B m3 m7 s3 s7 2)) := v179_real R
/-- Node 0's transformed row. -/
theorem v190_real : X.v190 = L2 .bf16 (P.h (nodes A B m3 m7 s3 s7 0)) := by
  simp only [Blocks.v190, k1_pay46, p41_real R, truncf_L2, extf_L2, subf_L2, sub_self]
/-- A low half, zero. -/
theorem v193_real : X.v193 = L2 .bf16 (0 : Fin 512 → Fin 256 → ℝ) := by
  simp only [Blocks.v193, k1_pay47, k1_pay46, p41_real R, truncf_L2, extf_L2, subf_L2, sub_self]
/-- Node 1's transformed row. -/
theorem v194_real : X.v194 = L2 .bf16 (P.h (nodes A B m3 m7 s3 s7 1)) := by
  simp only [Blocks.v194, k1_pay48, p42_real R, truncf_L2, extf_L2, subf_L2, sub_self]
/-- A low half, zero. -/
theorem v197_real : X.v197 = L2 .bf16 (0 : Fin 512 → Fin 256 → ℝ) := by
  simp only [Blocks.v197, k1_pay49, k1_pay48, p42_real R, truncf_L2, extf_L2, subf_L2, sub_self]
/-- Node 2's transformed row. -/
theorem v198_real : X.v198 = L2 .bf16 (P.h (nodes A B m3 m7 s3 s7 2)) := by
  simp only [Blocks.v198, k1_pay50, p43_real R, truncf_L2, extf_L2, subf_L2, sub_self]
/-- Node 2's transformed row. -/
theorem v199_real : X.v199 = L2 .f32 (P.h (nodes A B m3 m7 s3 s7 2)) := by
  simp only [Blocks.v199, k1_pay51, k1_pay50, p43_real R, truncf_L2, extf_L2, subf_L2, sub_self]
/-- Node 0's source scores. -/
theorem v214_real : X.v214 = L2 .f32 (mm (P.h (nodes A B m3 m7 s3 s7 0)) P.As) := by
  simp only [Blocks.v214, k1_pay57, k1_pay52, k1_pay53, k1_pay54, k1_pay55, k1_pay56, v190_real R, v193_real R, v158_real R, v160_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
/-- Node 1's source scores. -/
theorem v219_real : X.v219 = L2 .f32 (mm (P.h (nodes A B m3 m7 s3 s7 1)) P.As) := by
  simp only [Blocks.v219, k1_pay58, k1_pay52, k1_pay53, k1_pay54, k1_pay55, k1_pay56, v194_real R, v197_real R, v158_real R, v160_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
/-- Node 2's source scores. -/
theorem v224_real : X.v224 = L2 .f32 (mm (P.h (nodes A B m3 m7 s3 s7 2)) P.As) := by
  simp only [Blocks.v224, k1_pay59, k1_pay52, k1_pay53, k1_pay54, k1_pay55, k1_pay56, v179_real R, v198_real R, v199_real R, v158_real R, v160_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
/-- Node 3's source scores. -/
theorem v229_real : X.v229 = L2 .f32 (mm (P.h (nodes A B m3 m7 s3 s7 3)) P.As) := by
  simp only [Blocks.v229, k1_pay60, k1_pay52, k1_pay53, k1_pay54, k1_pay55, k1_pay56, v184_real R, v158_real R, v160_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
/-- Node 4's source scores. -/
theorem v234_real : X.v234 = L2 .f32 (mm (P.h (nodes A B m3 m7 s3 s7 4)) P.As) := by
  simp only [Blocks.v234, k1_pay61, k1_pay52, k1_pay53, k1_pay54, k1_pay55, k1_pay56, v189_real R, v158_real R, v160_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
/-- Node 0's target scores. -/
theorem v239_real : X.v239 = L2 .f32 (mm (P.h (nodes A B m3 m7 s3 s7 0)) P.Ad) := by
  simp only [Blocks.v239, k1_pay62, k1_pay63, k1_pay52, k1_pay53, k1_pay54, k1_pay55, k1_pay56, v190_real R, v193_real R, v162_real R, v164_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
/-- Node 1's target scores. -/
theorem v244_real : X.v244 = L2 .f32 (mm (P.h (nodes A B m3 m7 s3 s7 1)) P.Ad) := by
  simp only [Blocks.v244, k1_pay64, k1_pay63, k1_pay52, k1_pay53, k1_pay54, k1_pay55, k1_pay56, v194_real R, v197_real R, v162_real R, v164_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
/-- Node 2's target scores. -/
theorem v249_real : X.v249 = L2 .f32 (mm (P.h (nodes A B m3 m7 s3 s7 2)) P.Ad) := by
  simp only [Blocks.v249, k1_pay65, k1_pay63, k1_pay52, k1_pay53, k1_pay54, k1_pay55, k1_pay56, v179_real R, v198_real R, v199_real R, v162_real R, v164_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
/-- Node 3's target scores. -/
theorem v254_real : X.v254 = L2 .f32 (mm (P.h (nodes A B m3 m7 s3 s7 3)) P.Ad) := by
  simp only [Blocks.v254, k1_pay66, k1_pay63, k1_pay52, k1_pay53, k1_pay54, k1_pay55, k1_pay56, v184_real R, v162_real R, v164_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]
/-- Node 4's target scores. -/
theorem v259_real : X.v259 = L2 .f32 (mm (P.h (nodes A B m3 m7 s3 s7 4)) P.Ad) := by
  simp only [Blocks.v259, k1_pay67, k1_pay63, k1_pay52, k1_pay53, k1_pay54, k1_pay55, k1_pay56, v189_real R, v162_real R, v164_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero]

/-- The scores of the edge from node 1 to node 0. -/
theorem v304_real : X.v304 = L2 .f32 (P.e ((nodes A B m3 m7 s3 s7) 1) ((nodes A B m3 m7 s3 s7) 0)) := by
  simp only [Blocks.v304, k1_pay76, v219_real R, v239_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The scores of the edge from node 2 to node 0. -/
theorem v310_real : X.v310 = L2 .f32 (P.e ((nodes A B m3 m7 s3 s7) 2) ((nodes A B m3 m7 s3 s7) 0)) := by
  simp only [Blocks.v310, k1_pay77, v224_real R, v239_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The scores of the edge from node 3 to node 0. -/
theorem v316_real : X.v316 = L2 .f32 (P.e ((nodes A B m3 m7 s3 s7) 3) ((nodes A B m3 m7 s3 s7) 0)) := by
  simp only [Blocks.v316, k1_pay78, v229_real R, v239_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The scores of the edge from node 4 to node 0. -/
theorem v322_real : X.v322 = L2 .f32 (P.e ((nodes A B m3 m7 s3 s7) 4) ((nodes A B m3 m7 s3 s7) 0)) := by
  simp only [Blocks.v322, k1_pay79, v234_real R, v239_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The scores of the edge from node 0 to node 1. -/
theorem v408_real : X.v408 = L2 .f32 (P.e ((nodes A B m3 m7 s3 s7) 0) ((nodes A B m3 m7 s3 s7) 1)) := by
  simp only [Blocks.v408, k1_pay92, v214_real R, v244_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The scores of the edge from node 2 to node 1. -/
theorem v414_real : X.v414 = L2 .f32 (P.e ((nodes A B m3 m7 s3 s7) 2) ((nodes A B m3 m7 s3 s7) 1)) := by
  simp only [Blocks.v414, k1_pay93, v224_real R, v244_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The scores of the edge from node 0 to node 2. -/
theorem v512_real : X.v512 = L2 .f32 (P.e ((nodes A B m3 m7 s3 s7) 0) ((nodes A B m3 m7 s3 s7) 2)) := by
  simp only [Blocks.v512, k1_pay111, v214_real R, v249_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The largest of the first node's incoming scores. -/
theorem v325_real : X.v325 = L2 .f32 ((P.e ((nodes A B m3 m7 s3 s7) 1) ((nodes A B m3 m7 s3 s7) 0) ⊔ P.e ((nodes A B m3 m7 s3 s7) 2) ((nodes A B m3 m7 s3 s7) 0)) ⊔ (P.e ((nodes A B m3 m7 s3 s7) 3) ((nodes A B m3 m7 s3 s7) 0) ⊔ P.e ((nodes A B m3 m7 s3 s7) 4) ((nodes A B m3 m7 s3 s7) 0))) := by
  simp only [Blocks.v325, k1_pay80, k1_pay76, k1_pay77, k1_pay78, k1_pay79, v219_real R, v224_real R, v229_real R, v234_real R, v239_real R, addf_L2, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The first node's share of the pooled sum. -/
theorem node0_real : k1_pay91 X.v145 X.v146 X.v189 X.v289 X.v291 X.v293 X.v295 X.v297 (k1_pay75 (F := Ideal)) (k1_pay86 X.v174 X.v179 X.v184 X.v289 X.v304 X.v310 X.v316 X.v322 X.v325) (k1_pay89 X.v304 X.v310 X.v316 X.v322 X.v325) (k1_pay90 X.v289 X.v304 X.v310 X.v316 X.v322 X.v325) (constant S512x256 .f32 0x00000000#32) (View.ld X.x29 r1_8) = L2 .f32 (kc 0 + P.node (nodes A B m3 m7 s3 s7) 0) := by
  simp only [k1_pay75, k1_pay81, k1_pay82, k1_pay83, k1_pay84, k1_pay85, k1_pay86, k1_pay87, k1_pay88, k1_pay89, k1_pay90, k1_pay91, v145_real R, v146_real R, v147_real R, v148_real R, v149_real R, v150_real R, v151_real R, v152_real R, v141_real R, v144_real R, v154_real R, v156_real R, v169_real R, v174_real R, v179_real R, v184_real R, v189_real R, v214_real R, v219_real R, v224_real R, v229_real R, v234_real R, v239_real R, v244_real R, v249_real R, v254_real R, v259_real R, v291_real R, v293_real R, v295_real R, v297_real R, v304_real R, v310_real R, v316_real R, v322_real R, v325_real R, v408_real R, v414_real R, v512_real R, v289_real, R.x29, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The first two nodes' share of the pooled sum. -/
theorem node1_real : k1_pay110 X.v147 X.v148 X.v184 X.v189 X.v289 X.v291 X.v293 X.v295 X.v297 (k1_pay91 X.v145 X.v146 X.v189 X.v289 X.v291 X.v293 X.v295 X.v297 (k1_pay75 (F := Ideal)) (k1_pay86 X.v174 X.v179 X.v184 X.v289 X.v304 X.v310 X.v316 X.v322 X.v325) (k1_pay89 X.v304 X.v310 X.v316 X.v322 X.v325) (k1_pay90 X.v289 X.v304 X.v310 X.v316 X.v322 X.v325) (constant S512x256 .f32 0x00000000#32) (View.ld X.x29 r1_8)) (k1_pay103 X.v234 X.v244 X.v408 X.v414 X.v415 X.v417 X.v419) (k1_pay104 X.v234 X.v244 X.v408 X.v414 X.v415 X.v417 X.v419) (k1_pay105 X.v169 X.v179 X.v234 X.v244 X.v289 X.v408 X.v414 X.v415 X.v417 X.v419) (k1_pay108 X.v234 X.v244 X.v408 X.v414 X.v415 X.v417 X.v419) (k1_pay109 X.v234 X.v244 X.v289 X.v408 X.v414 X.v415 X.v417 X.v419) (constant S512x256 .f32 0x00000000#32) (View.ld X.x29 r1_8) = L2 .f32 (kc 0 + P.node (nodes A B m3 m7 s3 s7) 0 + P.node (nodes A B m3 m7 s3 s7) 1) := by
  rw [node0_real R]
  simp only [k1_pay94, k1_pay95, k1_pay96, k1_pay97, k1_pay98, k1_pay99, k1_pay100, k1_pay101, k1_pay102, k1_pay103, k1_pay104, k1_pay105, k1_pay106, k1_pay107, k1_pay108, k1_pay109, k1_pay110, Blocks.v415, Blocks.v417, Blocks.v419, v145_real R, v146_real R, v147_real R, v148_real R, v149_real R, v150_real R, v151_real R, v152_real R, v141_real R, v144_real R, v154_real R, v156_real R, v169_real R, v174_real R, v179_real R, v184_real R, v189_real R, v214_real R, v219_real R, v224_real R, v229_real R, v234_real R, v239_real R, v244_real R, v249_real R, v254_real R, v259_real R, v291_real R, v293_real R, v295_real R, v297_real R, v304_real R, v310_real R, v316_real R, v322_real R, v325_real R, v408_real R, v414_real R, v512_real R, v289_real, R.x29, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The first three nodes' share of the pooled sum. -/
theorem node2_real : k1_pay128 X.v149 X.v150 X.v174 X.v184 X.v189 X.v289 X.v291 X.v293 X.v295 X.v297 (k1_pay120 X.v229 X.v234 X.v249 X.v512 X.v513 X.v514) (k1_pay121 X.v229 X.v234 X.v249 X.v512 X.v513 X.v514) (k1_pay122 X.v229 X.v234 X.v249 X.v512 X.v513 X.v514) (k1_pay123 X.v169 X.v229 X.v234 X.v249 X.v289 X.v512 X.v513 X.v514) (k1_pay126 X.v229 X.v234 X.v249 X.v512 X.v513 X.v514) (k1_pay127 X.v229 X.v234 X.v249 X.v289 X.v512 X.v513 X.v514) (constant S512x256 .f32 0x00000000#32) (View.ld X.x29 r1_8) = L2 .f32 (P.node (nodes A B m3 m7 s3 s7) 2) := by
  simp only [k1_pay112, k1_pay113, k1_pay114, k1_pay115, k1_pay116, k1_pay117, k1_pay118, k1_pay119, k1_pay120, k1_pay121, k1_pay122, k1_pay123, k1_pay124, k1_pay125, k1_pay126, k1_pay127, k1_pay128, Blocks.v513, Blocks.v514, v145_real R, v146_real R, v147_real R, v148_real R, v149_real R, v150_real R, v151_real R, v152_real R, v141_real R, v144_real R, v154_real R, v156_real R, v169_real R, v174_real R, v179_real R, v184_real R, v189_real R, v214_real R, v219_real R, v224_real R, v229_real R, v234_real R, v239_real R, v244_real R, v249_real R, v254_real R, v259_real R, v291_real R, v293_real R, v295_real R, v297_real R, v304_real R, v310_real R, v316_real R, v322_real R, v325_real R, v408_real R, v414_real R, v512_real R, v289_real, R.x29, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The first four nodes' sum. -/
theorem v714_real : X.v714 = L2 .f32 (kc 0 + P.node (nodes A B m3 m7 s3 s7) 0 + P.node (nodes A B m3 m7 s3 s7) 1 + P.node (nodes A B m3 m7 s3 s7) 2 + P.node (nodes A B m3 m7 s3 s7) 3) := by
  unfold Blocks.v714
  rw [node1_real R, node2_real R]
  simp only [k1_pay129, k1_pay130, k1_pay131, k1_pay132, k1_pay133, k1_pay134, k1_pay135, k1_pay136, k1_pay137, k1_pay138, k1_pay139, k1_pay140, k1_pay141, k1_pay142, k1_pay143, k1_pay144, k1_pay145, k1_pay146, k1_pay147, k1_pay148, v145_real R, v146_real R, v147_real R, v148_real R, v149_real R, v150_real R, v151_real R, v152_real R, v141_real R, v144_real R, v154_real R, v156_real R, v169_real R, v174_real R, v179_real R, v184_real R, v189_real R, v214_real R, v219_real R, v224_real R, v229_real R, v234_real R, v239_real R, v244_real R, v249_real R, v254_real R, v259_real R, v291_real R, v293_real R, v295_real R, v297_real R, v304_real R, v310_real R, v316_real R, v322_real R, v325_real R, v408_real R, v414_real R, v512_real R, v289_real, R.x29, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The solvent's message. -/
theorem v795_real : X.v795 = L2 .f32 (msg4 (fun k => P.e ((nodes A B m3 m7 s3 s7) ((4 : Fin 5).succAbove k)) ((nodes A B m3 m7 s3 s7) 4)) (fun k => P.h ((nodes A B m3 m7 s3 s7) ((4 : Fin 5).succAbove k)))) := by
  simp only [Blocks.v795, k1_pay149, k1_pay150, k1_pay151, k1_pay152, k1_pay153, k1_pay154, k1_pay155, k1_pay156, k1_pay157, k1_pay158, k1_pay159, v145_real R, v146_real R, v147_real R, v148_real R, v149_real R, v150_real R, v151_real R, v152_real R, v141_real R, v144_real R, v154_real R, v156_real R, v169_real R, v174_real R, v179_real R, v184_real R, v189_real R, v214_real R, v219_real R, v224_real R, v229_real R, v234_real R, v239_real R, v244_real R, v249_real R, v254_real R, v259_real R, v291_real R, v293_real R, v295_real R, v297_real R, v304_real R, v310_real R, v316_real R, v322_real R, v325_real R, v408_real R, v414_real R, v512_real R, v289_real, R.x29, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The polymers' table. -/
theorem v840_real : X.v840 = L2 .bf16 (P.poly five (nodes A B m3 m7 s3 s7)) := by
  simp only [Blocks.v840, Blocks.v800, k1_pay160, k1_pay161, k1_pay162, v714_real R, v795_real R, R.x32, R.x33, R.x34, five_lift, v145_real R, v146_real R, v147_real R, v148_real R, v149_real R, v150_real R, v151_real R, v152_real R, v141_real R, v144_real R, v154_real R, v156_real R, v169_real R, v174_real R, v179_real R, v184_real R, v189_real R, v214_real R, v219_real R, v224_real R, v229_real R, v234_real R, v239_real R, v244_real R, v249_real R, v254_real R, v259_real R, v291_real R, v293_real R, v295_real R, v297_real R, v304_real R, v310_real R, v316_real R, v322_real R, v325_real R, v408_real R, v414_real R, v512_real R, v289_real, R.x29, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The polymers' table, before its narrower format. -/
theorem p162_real : k1_pay162 X.v141 X.v144 X.v295 X.v297 X.v714 X.v795 X.v800 (View.ld X.x29 r1_8) (View.ld X.x32 r1_15) (View.ld X.x33 r1_15) (View.ld X.x34 r1_16) = L2 .bf16 (P.poly five (nodes A B m3 m7 s3 s7)) := v840_real R
/-- A low half, zero. -/
theorem v842_real : X.v842 = L2 .f32 (0 : Fin 512 → Fin 128 → ℝ) := by
  simp only [Blocks.v842, k1_pay163, p162_real R, extf_L2]
  have h : k1_pay161 X.v141 X.v144 X.v295 X.v297 X.v714 X.v795 X.v800 (View.ld X.x29 r1_8) (View.ld X.x32 r1_15) (View.ld X.x33 r1_15) (View.ld X.x34 r1_16) = L2 .f32 (P.poly five (nodes A B m3 m7 s3 s7)) := v840_real R
  rw [h, subf_L2, sub_self]
/-- The shared layer. -/
theorem v164p_real : k1_pay164 X.v840 X.v842 (View.ld X.x35 r1_17) (View.ld X.x36 r1_17) (View.ld X.x37 r1_16) = L2 .f32 (P.shared (P.poly five (nodes A B m3 m7 s3 s7))) := by
  simp only [k1_pay164, v840_real R, v842_real R, R.x35, R.x36, R.x37, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, bc _ val_one, bc _ val_slope, bc _ val_eps9, cst0, cst1, leaky_L2, exp_L2, divf_L2, logistic_L2]
  rfl
/-- The shared layer, in the narrower format. -/
theorem v859_real : X.v859 = L2 .bf16 (P.shared (P.poly five (nodes A B m3 m7 s3 s7))) := by
  simp only [Blocks.v859, k1_pay165, v164p_real R, truncf_L2]
/-- A low half, zero. -/
theorem v862_real : X.v862 = L2 .bf16 (0 : Fin 512 → Fin 128 → ℝ) := by
  simp only [Blocks.v862, k1_pay166, k1_pay165, v164p_real R, truncf_L2, extf_L2, subf_L2, sub_self]
/-- The first task. -/
theorem task0_real : k1_pay169 (k1_pay167 X.v840 X.v842 (View.ld X.x35 r1_17) (View.ld X.x36 r1_17) (View.ld X.x37 r1_16) (View.ld X.x38 r1_18) (View.ld X.x39 r1_18) (View.ld X.x40 r1_19)) (k1_pay168 (View.ld X.x41 r1_19)) = X2 .f32 (P.task 0 (P.shared (P.poly five (nodes A B m3 m7 s3 s7)))) := by
  simp only [k1_pay169, k1_pay167, k1_pay168, k1_pay165, k1_pay166, v164p_real R, R.x38a, R.x39a, R.x40a, R.x41a, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, cst0]
  erw [rs_x]
  rfl
/-- The second task. -/
theorem task1_real : k1_pay170 X.v859 X.v862 (View.ld X.x38 r1_20) (View.ld X.x39 r1_20) (View.ld X.x40 r1_21) (View.ld X.x41 r1_21) = X2 .f32 (P.task 1 (P.shared (P.poly five (nodes A B m3 m7 s3 s7)))) := by
  simp only [k1_pay170, v859_real R, v862_real R, R.x38b, R.x39b, R.x40b, R.x41b, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, cst0]
  erw [rs_x]
  rfl
/-- The third task, before its nonlinearity. -/
theorem task2_real : k1_pay171 X.v859 X.v862 (View.ld X.x38 r1_22) (View.ld X.x39 r1_22) = L2 .f32 (mm (P.shared (P.poly five (nodes A B m3 m7 s3 s7))) (P.Wt1 2)) := by
  simp only [k1_pay171, v859_real R, v862_real R, R.x38c, R.x39c, addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, cst0]
omit R in
/-- The three tasks' columns side by side, and their biases. -/
theorem pay1_lift (f g : Fin 512 → Fin 1 → EReal) (y : Fin 512 → Fin 128 → ℝ) (b w : Fin 1 → Fin 128 → EReal) (c : Fin 1 → Fin 3 → EReal) :
    k1_pay1 (F := Ideal) (X2 .f32 f) (X2 .f32 g) (L2 .f32 y) (X2 .f32 b) (X2 .f32 w) (X2 .f32 c) =
      X2 .f32 ((fun i t => (![f, g, rsX (mxX (adX y (bRX b)) (kc 0) * bRX w)] t) i 0) + bRX c) := by
  have h3 : shapeCast S512x1 (multiReduction (F := Ideal) .add [1] S512 (mulf (maximumf (addf (L2 .f32 y) (broadcastTo S512x128 (X2 .f32 b) broadcasts_S1x128_S512x128)) (broadcast S512x128 (Scalar.ofBits .f32 0x00000000#32)))
      (broadcastTo S512x128 (shapeCast S1x128 (X2 .f32 w) shapeCasts_S1x128_S1x128) broadcasts_S1x128_S512x128)) 0x00000000#32 reduces_S512x128_S512 (.inl rfl) rfl) shapeCasts_S512_S512x1
        = X2 .f32 (rsX (mxX (adX y (bRX b)) (kc 0) * bRX w)) := by
    simp only [addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, cst0]
    erw [rs_x]
  have h4 : broadcastTo S512x3 (shapeCast S1x3 (X2 .f32 c : FVec Ideal S1x3 .f32) shapeCasts_S1x3_S1x3) broadcasts_S1x3_S512x3 = X2 .f32 (bRX c) := by
    simp only [addf_L2, addf_LX, addf_XX, mulf_XX, maximumf_XL, logistic_X2, shapeCast_X2_self, broadcastTo_rowX, subf_L2, mulf_L2, maximumf_L2, truncf_L2, extf_L2, matmul_L2, dot_g, dot_h, dot_i, dot_j, dot_k, shapeCast_L2_self, broadcastTo_row, broadcastTo_col, sub_self, mm_zero, zero_mm, add_zero, bc _ val_zero, cst0]
  refine (congrArg₂ addf ((congrArg (fun x : FVec Ideal S512x1 .f32 => concatenate S512x3 1 [⟨S512x1, (X2 .f32 f : FVec Ideal S512x1 .f32)⟩, ⟨S512x1, (X2 .f32 g : FVec Ideal S512x1 .f32)⟩, ⟨S512x1, x⟩] concatenates_S512x1_S512x1_S512x1_S512x3_d1) h3).trans (concat_lift f g _ _)) h4).trans ?_
  exact addf_XX _ _
/-- The block that the body stores is the model of its blocks. -/
theorem out_real : X.out = X2 .f32 (P.out five (nodes A B m3 m7 s3 s7)) := by
  unfold Blocks.out
  refine (View.canon_unit_zero (S := S512x3) (hz2 (a := 512) (b := 3)) _ _).trans ?_
  rw [task0_real R, task1_real R, task2_real R, R.x40c, R.x41c, R.x42, pay1_lift]
  refine congrArg _ ?_
  funext i t
  fin_cases t <;> rfl

end Cert.KernelIdeal.Gen

end
-- ==== Proof.Value.KWin.lean ====
/-
The blocks of the two kernels as parts of their arrays.
-/
module

public import proofs.«01_k».proof.Proof.Value.KStats
public import proofs.«01_k».proof.Proof.Value.KBody
public import Idealize.ShloMosaic.Lib.Pipeline.ValueKit.Acc
public import Idealize.ShloMosaic.Lib.Pipeline.ValueKit.Geometry

@[expose] public section

set_option maxRecDepth 16384
set_option maxHeartbeats 2000000

noncomputable section

namespace Cert.KernelIdeal.Gen

open Idealize.ShloMosaic Idealize.ShloMosaic.TcCoe Idealize.ShloMosaic.Pipeline
open Cert.Lift Cert.Model

section
variable (V : (c : Dev nD) → (b : Ref sig .tc) → Buf (Elt Ideal) ((c : Thread nD τ).loc b)) (c : Dev nD)

/-- The place of an entry in an array whose block starts at its beginning. -/
theorem start_add (i s y : ℕ) (h : i = 0) : i * s + y = y := by rw [h, Nat.zero_mul, Nat.zero_add]
/-- The place of an entry in the block numbered `t`. -/
theorem block_add (i t s y : ℕ) (h : i = t) : i * s + y = s * t + y := by rw [h, Nat.mul_comm]

/-- The first kernel's first block is the whole of its array. -/
theorem iblk0_0 : (iblk0 V c 0 t0_0 : FVec Ideal S16384x7 .f32) = V c main_arg2 := by
  funext y
  blk_simp [iblk0]
  refine congrArg (V c main_arg2) (funext fun q => Fin.ext ?_)
  blk_simp
  fin_cases q <;> exact start_add _ _ _ rfl
/-- The first kernel's second block is the whole of its array. -/
theorem iblk0_1 : (iblk0 V c 1 t0_0 : FVec Ideal S4096x7 .f32) = V c main_arg3 := by
  funext y
  blk_simp [iblk0]
  refine congrArg (V c main_arg3) (funext fun q => Fin.ext ?_)
  blk_simp
  fin_cases q <;> exact start_add _ _ _ rfl

/-- The blocks of the weights are the whole of their arrays, at every grid point. -/
structure Whole (t : Fin cfg1.N) : Prop where
  b4 : (iblk1 V c 4 t : FVec Ideal S8x7 .f32) = V c main_v0
  b5 : (iblk1 V c 5 t : FVec Ideal S300x512 .bf16) = V c main_v19
  b6 : (iblk1 V c 6 t : FVec Ideal S300x512 .bf16) = V c main_v22
  b7 : (iblk1 V c 7 t : FVec Ideal S7x512 .bf16) = V c main_v24
  b8 : (iblk1 V c 8 t : FVec Ideal S7x512 .bf16) = V c main_v27
  b9 : (iblk1 V c 9 t : FVec Ideal S1x512 .f32) = V c main_v28
  b10 : (iblk1 V c 10 t : FVec Ideal S512x256 .bf16) = V c main_v29
  b11 : (iblk1 V c 11 t : FVec Ideal S512x256 .bf16) = V c main_v32
  b12 : (iblk1 V c 12 t : FVec Ideal S1x256 .f32) = V c main_v33
  b13 : (iblk1 V c 13 t : FVec Ideal S300x512 .bf16) = V c main_v35
  b14 : (iblk1 V c 14 t : FVec Ideal S300x512 .bf16) = V c main_v38
  b15 : (iblk1 V c 15 t : FVec Ideal S7x512 .bf16) = V c main_v40
  b16 : (iblk1 V c 16 t : FVec Ideal S7x512 .bf16) = V c main_v43
  b17 : (iblk1 V c 17 t : FVec Ideal S1x512 .f32) = V c main_v44
  b18 : (iblk1 V c 18 t : FVec Ideal S512x256 .bf16) = V c main_v45
  b19 : (iblk1 V c 19 t : FVec Ideal S512x256 .bf16) = V c main_v48
  b20 : (iblk1 V c 20 t : FVec Ideal S1x256 .f32) = V c main_v49
  b21 : (iblk1 V c 21 t : FVec Ideal S256x256 .bf16) = V c main_v50
  b22 : (iblk1 V c 22 t : FVec Ideal S256x256 .bf16) = V c main_v53
  b23 : (iblk1 V c 23 t : FVec Ideal S256x4 .bf16) = V c main_v54
  b24 : (iblk1 V c 24 t : FVec Ideal S256x4 .bf16) = V c main_v57
  b25 : (iblk1 V c 25 t : FVec Ideal S256x4 .bf16) = V c main_v58
  b26 : (iblk1 V c 26 t : FVec Ideal S256x4 .bf16) = V c main_v61
  b27 : (iblk1 V c 27 t : FVec Ideal S256x256 .bf16) = V c main_v62
  b28 : (iblk1 V c 28 t : FVec Ideal S256x256 .bf16) = V c main_v65
  b29 : (iblk1 V c 29 t : FVec Ideal S1x256 .f32) = V c main_v66
  b30 : (iblk1 V c 30 t : FVec Ideal S256x256 .bf16) = V c main_v67
  b31 : (iblk1 V c 31 t : FVec Ideal S256x256 .bf16) = V c main_v70
  b32 : (iblk1 V c 32 t : FVec Ideal S256x128 .bf16) = V c main_v71
  b33 : (iblk1 V c 33 t : FVec Ideal S256x128 .bf16) = V c main_v74
  b34 : (iblk1 V c 34 t : FVec Ideal S1x128 .f32) = V c main_v75
  b35 : (iblk1 V c 35 t : FVec Ideal S128x128 .bf16) = V c main_v76
  b36 : (iblk1 V c 36 t : FVec Ideal S128x128 .bf16) = V c main_v79
  b37 : (iblk1 V c 37 t : FVec Ideal S1x128 .f32) = V c main_v80
  b38 : (iblk1 V c 38 t : FVec Ideal S3x128x128 .bf16) = V c main_v81
  b39 : (iblk1 V c 39 t : FVec Ideal S3x128x128 .bf16) = V c main_v84
  b40 : (iblk1 V c 40 t : FVec Ideal S3x128 .f32) = V c main_arg26
  b41 : (iblk1 V c 41 t : FVec Ideal S3x128 .f32) = V c main_v85
  b42 : (iblk1 V c 42 t : FVec Ideal S1x3 .f32) = V c main_v86

/-- The blocks of the weights are the whole of their arrays. -/
theorem whole (t : Fin cfg1.N) : Whole V c t := by
  constructor <;> (
    funext y
    blk_simp [iblk1]
    refine congrArg (V c _) (funext fun q => Fin.ext ?_)
    blk_simp
    fin_cases q <;> exact start_add _ _ _ rfl)

/-- The second kernel's row blocks are taken in order. -/
theorem idx_rows : ∀ t : Fin cfg1.N, win1_0.index t 0 = t.val ∧ win1_1.index t 0 = t.val ∧ win1_2.index t 0 = t.val ∧ win1_3.index t 0 = t.val
    ∧ win1_43.index t 0 = t.val ∧ t.val < 8 := by decide +kernel

/-- Rows of a table from a given one on. -/
def rowsFrom {N n k : ℕ} (f : Fin N → Fin k → ℝ) (o : ℕ) (h : o + n ≤ N) : Fin n → Fin k → ℝ := fun i j => f ⟨o + i.val, by omega⟩ j

/-- Rows of a table of extended reals from a given one on. -/
def rowsFromX {N n k : ℕ} (f : Fin N → Fin k → EReal) (o : ℕ) (h : o + n ≤ N) : Fin n → Fin k → EReal := fun i j => f ⟨o + i.val, by omega⟩ j

/-- Every row block lies within its array. -/
theorem rows_le (t : Fin cfg1.N) : 2048 * t.val + 2048 ≤ 16384 ∧ 512 * t.val + 512 ≤ 4096 := by
  have := (idx_rows t).2.2.2.2.2
  omega

/-- The monomers' features of one grid point. -/
theorem feat0 (t : Fin cfg1.N) (f : Fin 16384 → Fin 300 → ℝ) (h : V c main_arg0 = (L2 .f32 f : FVec Ideal S16384x300 .f32)) :
    (iblk1 V c 0 t : FVec Ideal S2048x300 .f32) = L2 .f32 (rowsFrom f (2048 * t.val) (rows_le t).1) := by
  funext y
  blk_simp [iblk1]
  rw [h]
  refine congrArg (fun x : ℝ => (x : EReal)) (congrArg₂ f (Fin.ext ?_) (Fin.ext ?_))
  · show (((win1_0.blk t).view.emb y) 0).val = 2048 * t.val + (y 0).val
    blk_simp
    exact block_add _ _ _ _ (idx_rows t).1
  · show (((win1_0.blk t).view.emb y) 1).val = (y 1).val
    blk_simp
    exact start_add _ _ _ rfl
/-- The monomers' descriptors of one grid point. -/
theorem feat1 (t : Fin cfg1.N) (f : Fin 16384 → Fin 7 → EReal) (h : V c main_arg2 = (X2 .f32 f : FVec Ideal S16384x7 .f32)) :
    (iblk1 V c 1 t : FVec Ideal S2048x7 .f32) = X2 .f32 (rowsFromX f (2048 * t.val) (rows_le t).1) := by
  funext y
  blk_simp [iblk1]
  rw [h]
  refine congrArg₂ f (Fin.ext ?_) (Fin.ext ?_)
  · show (((win1_1.blk t).view.emb y) 0).val = 2048 * t.val + (y 0).val
    blk_simp
    exact block_add _ _ _ _ (idx_rows t).2.1
  · show (((win1_1.blk t).view.emb y) 1).val = (y 1).val
    blk_simp
    exact start_add _ _ _ rfl
/-- The solvents' features of one grid point. -/
theorem feat2 (t : Fin cfg1.N) (f : Fin 4096 → Fin 300 → ℝ) (h : V c main_arg1 = (L2 .f32 f : FVec Ideal S4096x300 .f32)) :
    (iblk1 V c 2 t : FVec Ideal S512x300 .f32) = L2 .f32 (rowsFrom f (512 * t.val) (rows_le t).2) := by
  funext y
  blk_simp [iblk1]
  rw [h]
  refine congrArg (fun x : ℝ => (x : EReal)) (congrArg₂ f (Fin.ext ?_) (Fin.ext ?_))
  · show (((win1_2.blk t).view.emb y) 0).val = 512 * t.val + (y 0).val
    blk_simp
    exact block_add _ _ _ _ (idx_rows t).2.2.1
  · show (((win1_2.blk t).view.emb y) 1).val = (y 1).val
    blk_simp
    exact start_add _ _ _ rfl
/-- The solvents' descriptors of one grid point. -/
theorem feat3 (t : Fin cfg1.N) (f : Fin 4096 → Fin 7 → EReal) (h : V c main_arg3 = (X2 .f32 f : FVec Ideal S4096x7 .f32)) :
    (iblk1 V c 3 t : FVec Ideal S512x7 .f32) = X2 .f32 (rowsFromX f (512 * t.val) (rows_le t).2) := by
  funext y
  blk_simp [iblk1]
  rw [h]
  refine congrArg₂ f (Fin.ext ?_) (Fin.ext ?_)
  · show (((win1_3.blk t).view.emb y) 0).val = 512 * t.val + (y 0).val
    blk_simp
    exact block_add _ _ _ _ (idx_rows t).2.2.2.1
  · show (((win1_3.blk t).view.emb y) 1).val = (y 1).val
    blk_simp
    exact start_add _ _ _ rfl
end

end Cert.KernelIdeal.Gen

end
-- ==== Proof.Value.Std.lean ====
/-
The descriptors less their means and over their deviations are real numbers, whatever the descriptors are: where a column
holds an infinity its deviation is +∞, and the quotient is zero.
-/
module

public import proofs.«01_k».proof.Proof.Value.Unit
public import proofs.«01_k».proof.Proof.Value.Args

@[expose] public section

noncomputable section

namespace Cert.Model

open Idealize.ShloMosaic
open Cert.Lift
open scoped BigOperators

section
variable {n : ℕ} {c : ℝ} (hc : 0 < c) (x : Fin n → Fin 7 → EReal) (i : Fin n) (j : Fin 7)
include hc

/-- A variance is not negative. -/
theorem var_nonneg : 0 ≤ Ideal.div (∑ i, (x i j - mu c x 0 j) * (x i j - mu c x 0 j)) (c : EReal) :=
  quot_nonneg hc _ (Finset.sum_nonneg fun _ _ => square_nonneg _)
/-- A deviation is positive. -/
theorem sd_pos : 0 < sd c x 0 j := by
  refine lt_of_lt_of_le (b := ((cst 0x358637BD#32 : ℝ) : EReal)) (by exact_mod_cast cst_eps6_pos) ?_
  have h := add_le_add_left (root_nonneg _ (var_nonneg hc x j)) ((cst 0x358637BD#32 : ℝ) : EReal)
  simpa [sd, add_comm] using h
/-- Where a deviation is below +∞, the column's differences from its mean are real numbers. -/
theorem diff_real (h : sd c x 0 j ≠ ⊤) : ∃ r : ℝ, x i j - mu c x 0 j = (r : EReal) := by
  refine real_of_sq _ fun e => h ?_
  have hs : (∑ i, (x i j - mu c x 0 j) * (x i j - mu c x 0 j)) = ⊤ :=
    top_le_iff.1 (e ▸ Finset.single_le_sum (f := fun i => (x i j - mu c x 0 j) * (x i j - mu c x 0 j)) (fun _ _ => square_nonneg _) (Finset.mem_univ i))
  unfold sd
  rw [hs, Ideal.div_coe hc.ne', EReal.top_mul_coe_of_pos (one_div_pos.2 hc), Ideal.sqrt_top, EReal.top_add_coe]
/-- The difference over the deviation is the difference times one over it. -/
theorem div_sd : Ideal.div (x i j - mu c x 0 j) (sd c x 0 j) = (x i j - mu c x 0 j) * inv c x 0 j := by
  have hp := (sd_pos hc x j).ne'
  unfold inv Ideal.div
  rw [if_neg hp, if_neg hp, EReal.coe_one, one_mul]
/-- The difference times one over the deviation is a real number. -/
theorem nrm_real : ((nrm x (bRX (mu c x)) (bRX (inv c x)) i j : ℝ) : EReal) = (x i j - mu c x 0 j) * inv c x 0 j := by
  have h := quot_real (x i j - mu c x 0 j) (sd c x 0 j) (sd_pos hc x j) (diff_real hc x i j)
  rw [div_sd hc x i j] at h
  exact h
end

end Cert.Model

end
-- ==== Proof.Value.KBlk.lean ====
/-
The blocks of the main kernel at one grid point, from the arguments.
-/
module

public import proofs.«01_k».proof.Proof.Value.KWin
public import proofs.«01_k».proof.Proof.Value.KHost
public import proofs.«01_k».proof.Proof.Value.Std
public import Idealize.ShloMosaic.Lib.Pipeline.ValueKit.Acc
public import Idealize.ShloMosaic.Lib.Pipeline.ValueKit.Geometry

@[expose] public section

set_option maxRecDepth 16384
set_option maxHeartbeats 2000000

noncomputable section

namespace Cert.KernelIdeal.Gen

open Idealize.ShloMosaic Idealize.ShloMosaic.TcCoe Idealize.ShloMosaic.Pipeline
open Cert.Lift Cert.Model

/-- A whole table, loaded. -/
theorem ld_full {n k : ℕ} {e : EltTy} {X Y : Vec Ideal ⟨2, ![n, k]⟩ e} (h : X = Y)
    (inb : ∀ q, (![0, 0] : Fin 2 → ℕ) q + (![n, k] : Fin 2 → ℕ) q ≤ (![n, k] : Fin 2 → ℕ) q) :
    View.ld X (Rect.unit (s := ⟨2, ![n, k]⟩) ![0, 0] (⟨2, ![n, k]⟩ : Shape).size inb) = Y :=
  (View.ld_unit_zero (S := ⟨2, ![n, k]⟩) (hz2 (a := n) (b := k)) inb X).trans h
/-- One row of a table of extended reals, loaded. -/
theorem ld_rowX {N k : ℕ} (o : Fin N) (f : Fin N → Fin k → EReal) (inb : ∀ q, (![o.val, 0] : Fin 2 → ℕ) q + (![1, k] : Fin 2 → ℕ) q ≤ (![N, k] : Fin 2 → ℕ) q)
    (X : Vec Ideal ⟨2, ![N, k]⟩ .f32) (hX : X = X2 .f32 f) :
    View.ld X (Rect.unit (s := ⟨2, ![N, k]⟩) ![o.val, 0] ![1, k] inb) = (X2 .f32 (fun (_ : Fin 1) => f o) : FVec Ideal ⟨2, ![1, k]⟩ .f32) := by
  rw [hX]
  funext y
  refine congrArg₂ f (Fin.ext ?_) (Fin.ext ?_)
  · have h0 : (y 0).val < 1 := (y 0).isLt
    show o.val + 1 * (y 0).val = o.val
    omega
  · show 0 + 1 * (y 1).val = (y 1).val
    omega
/-- One table of a stack, loaded. -/
theorem ld_tab {N j k : ℕ} (o : Fin N) (f : Fin N → Fin j → Fin k → ℝ) (inb : ∀ q, (![o.val, 0, 0] : Fin 3 → ℕ) q + (![1, j, k] : Fin 3 → ℕ) q ≤ (![N, j, k] : Fin 3 → ℕ) q)
    (X : Vec Ideal ⟨3, ![N, j, k]⟩ .bf16) (hX : X = L3 .bf16 f) (h : Shape.ShapeCasts ⟨3, ![1, j, k]⟩ ⟨2, ![j, k]⟩) :
    shapeCast ⟨2, ![j, k]⟩ (View.ld X (Rect.unit (s := ⟨3, ![N, j, k]⟩) ![o.val, 0, 0] ![1, j, k] inb) : FVec Ideal ⟨3, ![1, j, k]⟩ .bf16) h = L2 .bf16 (f o) := by
  have e : View.ld X (Rect.unit (s := ⟨3, ![N, j, k]⟩) ![o.val, 0, 0] ![1, j, k] inb) = (L3 .bf16 (fun _ => f o) : FVec Ideal ⟨3, ![1, j, k]⟩ .bf16) := by
    rw [hX]
    funext y
    have h0 : (y 0).val < 1 := (y 0).isLt
    have e0 : (⟨o.val + 1 * (y 0).val, by omega⟩ : Fin N) = o := Fin.ext (show o.val + 1 * (y 0).val = o.val by omega)
    have e1 : (⟨0 + 1 * (y 1).val, by rw [Nat.zero_add, Nat.one_mul]; exact (y 1).isLt⟩ : Fin j) = y 1 := Fin.ext (show 0 + 1 * (y 1).val = (y 1).val by omega)
    have e2 : (⟨0 + 1 * (y 2).val, by rw [Nat.zero_add, Nat.one_mul]; exact (y 2).isLt⟩ : Fin k) = y 2 := Fin.ext (show 0 + 1 * (y 2).val = (y 2).val by omega)
    exact congrArg (fun x : ℝ => (x : EReal)) ((congrArg (fun i => f i _ _) e0).trans (congrArg₂ (f o) e1 e2))
  exact (congrArg (fun x => shapeCast ⟨2, ![j, k]⟩ x h) e).trans (dropFirst_L3 _ h)

/-- The blocks of one grid point hold the arguments' arrays. -/
theorem blocks_of (U : Dev nD → Valuation τ sig (Elt Ideal)) (a : Args) (c : Dev nD) (H4 : Held (U c) a) (K : Ready (U c) a)
    (hS : U c (Proc.devRef .tc main_v0) = (X2 .f32 (statRows a) : FVec Ideal S8x7 .f32)) (t : Fin cfg1.N) :
    IsReal (blocks1 (fun c b => U c (Proc.devRef .tc b)) c t) a.A a.B a.P (rowsFrom a.m3 (2048 * t.val) (rows_le t).1)
      (rowsFromX a.m7 (2048 * t.val) (rows_le t).1) (rowsFrom a.s3 (512 * t.val) (rows_le t).2) (rowsFromX a.s7 (512 * t.val) (rows_le t).2) := by
  have Q := whole (fun c b => U c (Proc.devRef .tc b)) c t
  exact {
  x0 := ld_full (feat0 (fun c b => U c (Proc.devRef .tc b)) c t _ H4.h0) _
  x1 := ld_full (feat1 (fun c b => U c (Proc.devRef .tc b)) c t _ H4.h2) _
  x2 := ld_full (feat2 (fun c b => U c (Proc.devRef .tc b)) c t _ H4.h1) _
  x3 := ld_full (feat3 (fun c b => U c (Proc.devRef .tc b)) c t _ H4.h3) _
  x4a := ld_rowX (0 : Fin 8) (statRows a) _ _ (Q.b4.trans hS)
  x4b := ld_rowX (1 : Fin 8) (statRows a) _ _ (Q.b4.trans hS)
  x4c := ld_rowX (2 : Fin 8) (statRows a) _ _ (Q.b4.trans hS)
  x4d := ld_rowX (3 : Fin 8) (statRows a) _ _ (Q.b4.trans hS)
  n1 := funext fun y => (nrm_real (by rw [cst_of val_16384]; positivity) a.m7 ⟨2048 * t.val + (y 0).val, by have := (rows_le t).1; have : (y 0).val < 2048 := (y 0).isLt; omega⟩ (y 1)).symm
  n3 := funext fun y => (nrm_real (by rw [cst_of val_4096]; positivity) a.s7 ⟨512 * t.val + (y 0).val, by have := (rows_le t).2; have : (y 0).val < 512 := (y 0).isLt; omega⟩ (y 1)).symm
  x5 := ld_full (Q.b5.trans K.w5) _
  x6 := ld_full (Q.b6.trans K.w6) _
  x7 := ld_full (Q.b7.trans K.w7) _
  x8 := ld_full (Q.b8.trans K.w8) _
  x9 := ld_full (Q.b9.trans K.w9) _
  x10 := ld_full (Q.b10.trans K.w10) _
  x11 := ld_full (Q.b11.trans K.w11) _
  x12 := ld_full (Q.b12.trans K.w12) _
  x13 := ld_full (Q.b13.trans K.w13) _
  x14 := ld_full (Q.b14.trans K.w14) _
  x15 := ld_full (Q.b15.trans K.w15) _
  x16 := ld_full (Q.b16.trans K.w16) _
  x17 := ld_full (Q.b17.trans K.w17) _
  x18 := ld_full (Q.b18.trans K.w18) _
  x19 := ld_full (Q.b19.trans K.w19) _
  x20 := ld_full (Q.b20.trans K.w20) _
  x21 := ld_full (Q.b21.trans K.w21) _
  x22 := ld_full (Q.b22.trans K.w22) _
  x23 := ld_full (Q.b23.trans K.w23) _
  x24 := ld_full (Q.b24.trans K.w24) _
  x25 := ld_full (Q.b25.trans K.w25) _
  x26 := ld_full (Q.b26.trans K.w26) _
  x27 := ld_full (Q.b27.trans K.w27) _
  x28 := ld_full (Q.b28.trans K.w28) _
  x29 := ld_full (Q.b29.trans K.w29) _
  x30 := ld_full (Q.b30.trans K.w30) _
  x31 := ld_full (Q.b31.trans K.w31) _
  x32 := ld_full (Q.b32.trans K.w32) _
  x33 := ld_full (Q.b33.trans K.w33) _
  x34 := ld_full (Q.b34.trans K.w34) _
  x35 := ld_full (Q.b35.trans K.w35) _
  x36 := ld_full (Q.b36.trans K.w36) _
  x37 := ld_full (Q.b37.trans K.w37) _
  x38a := ld_tab (0 : Fin 3) _ _ _ (Q.b38.trans K.w38)
  x38b := ld_tab (1 : Fin 3) _ _ _ (Q.b38.trans K.w38)
  x38c := ld_tab (2 : Fin 3) _ _ _ (Q.b38.trans K.w38)
  x39a := ld_tab (0 : Fin 3) _ _ _ (Q.b39.trans K.w39)
  x39b := ld_tab (1 : Fin 3) _ _ _ (Q.b39.trans K.w39)
  x39c := ld_tab (2 : Fin 3) _ _ _ (Q.b39.trans K.w39)
  x40a := ld_rowX (0 : Fin 3) a.bt1 _ _ (Q.b40.trans H4.h26)
  x40b := ld_rowX (1 : Fin 3) a.bt1 _ _ (Q.b40.trans H4.h26)
  x40c := ld_rowX (2 : Fin 3) a.bt1 _ _ (Q.b40.trans H4.h26)
  x41a := ld_rowX (0 : Fin 3) (fun t l => a.P.wt2 t 0 l) _ _ (Q.b41.trans K.w41)
  x41b := ld_rowX (1 : Fin 3) (fun t l => a.P.wt2 t 0 l) _ _ (Q.b41.trans K.w41)
  x41c := ld_rowX (2 : Fin 3) (fun t l => a.P.wt2 t 0 l) _ _ (Q.b41.trans K.w41)
  x42 := ld_full (Q.b42.trans K.w42) _ }

end Cert.KernelIdeal.Gen

end
-- ==== Proof.Value.KOut.lean ====
/-
The arrays of the second kernel at one grid point, and what it leaves in the result: the model of the arguments.
-/
module

public import proofs.«01_k».proof.Proof.Value.KBlk
public import proofs.«01_k».proof.Proof.Value.KStats
public import Idealize.ShloMosaic.Lib.Pipeline.ValueKit.Acc
public import Idealize.ShloMosaic.Lib.Pipeline.ValueKit.Geometry

@[expose] public section

set_option maxRecDepth 16384
set_option maxHeartbeats 2000000

noncomputable section

namespace Cert.KernelIdeal.Gen

open Idealize.ShloMosaic Idealize.ShloMosaic.TcCoe Idealize.ShloMosaic.Pipeline
open Cert.Lift Cert.Model

/-- The node rows of one grid point are rows of the node table. -/
theorem nodes_blk (a : Args) (t : Fin cfg1.N) (k : Fin 5) (i : Fin 512) :
    nodes a.A a.B (rowsFrom a.m3 (2048 * t.val) (rows_le t).1) (rowsFromX a.m7 (2048 * t.val) (rows_le t).1)
      (rowsFrom a.s3 (512 * t.val) (rows_le t).2) (rowsFromX a.s7 (512 * t.val) (rows_le t).2) k i
      = a.nd k ⟨512 * t.val + i.val, by have := (rows_le t).2; omega⟩ := by
  have hs : ∀ d : Fin 4, sl d (a.A.emb (rowsFrom a.m3 (2048 * t.val) (rows_le t).1) (rowsFromX a.m7 (2048 * t.val) (rows_le t).1)) i
      = a.A.emb a.m3 a.m7 ⟨4 * (512 * t.val + i.val) + d.val, by have := (rows_le t).2; omega⟩ := fun d => by
    have e : (⟨2048 * t.val + (4 * i.val + d.val), by have := (rows_le t).1; omega⟩ : Fin 16384)
        = ⟨4 * (512 * t.val + i.val) + d.val, by have := (rows_le t).2; omega⟩ := Fin.ext (by show 2048 * t.val + (4 * i.val + d.val) = 4 * (512 * t.val + i.val) + d.val; omega)
    exact congrArg (fun q => a.A.emb (fun (_ : Fin 1) => a.m3 q) (fun _ => a.m7 q) 0) e
  fin_cases k
  · exact hs 0
  · exact hs 1
  · exact hs 2
  · exact hs 3
  · rfl

/-- The result of one grid point is a run of rows of the result. -/
theorem out_blk (a : Args) (t : Fin cfg1.N) (i : Fin 512) :
    a.P.out five (nodes a.A a.B (rowsFrom a.m3 (2048 * t.val) (rows_le t).1) (rowsFromX a.m7 (2048 * t.val) (rows_le t).1)
      (rowsFrom a.s3 (512 * t.val) (rows_le t).2) (rowsFromX a.s7 (512 * t.val) (rows_le t).2)) i
      = a.out ⟨512 * t.val + i.val, by have := (rows_le t).2; omega⟩ :=
  (Par.out_row a.P five _ i).trans ((congrArg (fun w => a.P.out five w 0) (funext fun k => funext fun _ => nodes_blk a t k i)).trans
    (Par.out_row a.P five a.nd _).symm)

variable (m : (ℓ : Loc nD τ sig) → Buf (Elt Ideal) ℓ) (ρ : Dev nD → PrngReg) (a : Args) (c : Dev nD)

/-- The arguments' contents decide whether they hold given arrays. -/
theorem Held.congr {V V' : Valuation τ sig (Elt Ideal)} {a : Args} (H : Held V a) (h : ∀ r ∈ argRefs, V' (Proc.devRef .tc r) = V (Proc.devRef .tc r)) : Held V' a := by
  constructor
  all_goals first
    | exact (h _ (by decide)).trans H.h0
    | exact (h _ (by decide)).trans H.h1
    | exact (h _ (by decide)).trans H.h2
    | exact (h _ (by decide)).trans H.h3
    | exact (h _ (by decide)).trans H.h7
    | exact (h _ (by decide)).trans H.h8
    | exact (h _ (by decide)).trans H.h9
    | exact (h _ (by decide)).trans H.h10
    | exact (h _ (by decide)).trans H.h11
    | exact (h _ (by decide)).trans H.h12
    | exact (h _ (by decide)).trans H.h13
    | exact (h _ (by decide)).trans H.h14
    | exact (h _ (by decide)).trans H.h15
    | exact (h _ (by decide)).trans H.h16
    | exact (h _ (by decide)).trans H.h17
    | exact (h _ (by decide)).trans H.h18
    | exact (h _ (by decide)).trans H.h19
    | exact (h _ (by decide)).trans H.h20
    | exact (h _ (by decide)).trans H.h21
    | exact (h _ (by decide)).trans H.h22
    | exact (h _ (by decide)).trans H.h23
    | exact (h _ (by decide)).trans H.h24
    | exact (h _ (by decide)).trans H.h25
    | exact (h _ (by decide)).trans H.h26
    | exact (h _ (by decide)).trans H.h27
    | exact (h _ (by decide)).trans H.h28

/-- The first kernel leaves the eight rows. -/
theorem stats_arr (H : Held (W0 m ρ c) a) : W1 m ρ c (Proc.devRef .tc main_v0) = (X2 .f32 (statRows a) : FVec Ideal S8x7 .f32) := by
  refine (W1_arr m ρ c 2).trans ?_
  refine (dat0 (V0 m ρ) c).arrAt_eq_of_after_last 2 t0_0 (by decide +kernel) _ fun j => ?_
  blk_simp
  rw [after0_2, iblk0_0, iblk0_1]
  have e : out0_2 (V0 m ρ c main_arg2) (V0 m ρ c main_arg3) = (X2 .f32 (statRows a) : FVec Ideal S8x7 .f32) := by
    unfold out0_2
    refine (View.canon_unit_zero (S := S8x7) (hz2 (a := 8) (b := 7)) _ _).trans ?_
    refine Eq.trans (congrArg₂ k0_pay1 ?_ ?_) (stats_eq a)
    · exact ld_full H.h2 _
    · exact ld_full H.h3 _
  exact congrFun e j

/-- The arrays of the second kernel at its start. -/
theorem ready4 (H : Held (W0 m ρ c) a) : Held (W4 m ρ c) a ∧ Ready (W4 m ρ c) a ∧ W4 m ρ c (Proc.devRef .tc main_v0) = (X2 .f32 (statRows a) : FVec Ideal S8x7 .f32) := by
  have H3 : Held (W3 m ρ c) a := H.congr fun r hr => (W3_args m ρ c r hr).trans (W0_args m ρ c r hr).symm
  have H4 : Held (W4 m ρ c) a := H.congr fun r hr => (W4_args m ρ c r hr).trans (W0_args m ρ c r hr).symm
  refine ⟨H4, ready H3 (heads_eq cols_eq.1 cols_eq.2), ?_⟩
  rw [W4_of m ρ c main_v0 (by decide), W3_of m ρ c main_v0 (by decide), W2_of m ρ c main_v0 (by decide)]
  exact stats_arr m ρ a c H

/-- The second kernel leaves the model of the arguments. -/
theorem out_arr (H : Held (W0 m ρ c) a) : W5 m ρ c (Proc.devRef .tc main_v87) = (X2 .f32 a.out : FVec Ideal S4096x3 .f32) := by
  refine (W5_arr m ρ c 43).trans ?_
  refine (dat1 (V4 m ρ) c).arrAt_eq_of_covers 43 _ (by decide +kernel) fun t hf y => ?_
  blk_simp
  rw [after1_43]
  refine (congrFun (out_real (blocks_of (W4 m ρ) a c (ready4 m ρ a c H).1 (ready4 m ρ a c H).2.1 (ready4 m ρ a c H).2.2 t)) y).trans ?_
  refine (congrFun (out_blk a t (y 0)) (y 1)).trans (congrArg₂ a.out (Fin.ext ?_) (Fin.ext ?_))
  · show 512 * t.val + (y 0).val = (((win1_43.blk t).view.emb y) 0).val
    refine Eq.symm ?_
    blk_simp
    exact block_add _ _ _ _ (idx_rows t).2.2.2.2.1
  · show (y 1).val = (((win1_43.blk t).view.emb y) 1).val
    refine Eq.symm ?_
    blk_simp
    exact start_add _ _ _ rfl

end Cert.KernelIdeal.Gen

end
-- ==== Proof.Value.RefEnc.lean ====
/-
The reference's two encoders: each computes the encoder of the model.
-/
module

public import proofs.«01_k».proof.Proof.Value.Std
public import proofs.«01_k».proof.Proof.Value.HLift
public import proofs.«01_k».proof.Proof.Value.Args
public import proofs.«01_k».proof.Proof.Gen.ReferenceIdeal.Run

@[expose] public section

set_option maxRecDepth 16384

noncomputable section

namespace Cert.Lift

open Idealize.ShloMosaic Cert.Model
open scoped BigOperators

section
variable {n : ℕ}

/-- The number of rows as a number: the count less the correction, which is zero. -/
theorem count_L2 {m : ℕ} (w : BitVec 32) {r : ℝ} (hw : Ideal.ofBits .f32 w = (r : EReal)) (h : (⟨0, ![]⟩ : Shape).BroadcastsInDim ⟨2, ![1, m]⟩ ![]) :
    broadcastInDim ⟨2, ![1, m]⟩ ![] h (subf (constant ⟨0, ![]⟩ .f32 w) (sitofp .f32 (constantI ⟨0, ![]⟩ 32 0#32)) : FVec Ideal ⟨0, ![]⟩ .f32)
      = L2 .f32 (kc (cst w) : Fin 1 → Fin m → ℝ) := by
  funext i
  show Ideal.ofBits .f32 w - (((0#32 : BitVec 32).toInt : ℝ) : EReal) = _
  simp [cst_lift hw, L2, kc]
/-- A positive count picks the quotient. -/
theorem pick_L2 {m : ℕ} (w : BitVec 32) {r : ℝ} (hw : Ideal.ofBits .f32 w = (r : EReal)) (hr : 0 < r) (h : (⟨0, ![]⟩ : Shape).BroadcastsInDim ⟨2, ![1, m]⟩ ![])
    (x y : FVec Ideal ⟨2, ![1, m]⟩ .f32) :
    select (broadcastInDim ⟨2, ![1, m]⟩ ![] h (cmpf .ogt (subf (constant ⟨0, ![]⟩ .f32 w) (sitofp .f32 (constantI ⟨0, ![]⟩ 32 0#32)) : FVec Ideal ⟨0, ![]⟩ .f32)
      (constant ⟨0, ![]⟩ .f32 0x00000000#32))) x y = x := by
  funext i
  show Scalar.select (Ideal.cmp .ogt (Ideal.ofBits .f32 w - (((0#32 : BitVec 32).toInt : ℝ) : EReal)) (Ideal.ofBits .f32 0x00000000#32)) (x i) (y i) = x i
  rw [hw, val_zero]
  simp [Ideal.cmp, Scalar.select, hr]

/-- The descriptors less their means, over their deviations. -/
theorem std_host (w : BitVec 32) {r : ℝ} (hw : Ideal.ofBits .f32 w = (r : EReal)) (hr : 0 < r) (x : Fin n → Fin 7 → EReal)
    (b1 b1' b1'' : Shape.BroadcastsInDim ⟨2, ![1, 7]⟩ ⟨2, ![n, 7]⟩ ![0, 1]) (b2 b2' b2'' : Shape.BroadcastsInDim ⟨1, ![7]⟩ ⟨2, ![1, 7]⟩ ![1])
    (b3 b3' b3'' b4 b5 b6 : (⟨0, ![]⟩ : Shape).BroadcastsInDim ⟨2, ![1, 7]⟩ ![]) (r1 r1' r1'' : Shape.ReducesTo ⟨2, ![n, 7]⟩ [0] ⟨1, ![7]⟩) (hu hu' hu'')
    (y : FVec Ideal ⟨2, ![1, 7]⟩ .f32) :
    Host.divf (subf (X2 .f32 x) (broadcastInDim ⟨2, ![n, 7]⟩ ![0, 1] b1 (Host.divf (broadcastInDim ⟨2, ![1, 7]⟩ ![1] b2
        (Host.reduceAdd (X2 .f32 x) (constant ⟨0, ![]⟩ .f32 0x00000000#32 : FVec Ideal ⟨0, ![]⟩ .f32) r1 hu)) (broadcastInDim ⟨2, ![1, 7]⟩ ![] b3 (constant ⟨0, ![]⟩ .f32 w)))))
      (broadcastInDim ⟨2, ![n, 7]⟩ ![0, 1] b1' (addf (Host.sqrt (select (broadcastInDim ⟨2, ![1, 7]⟩ ![] b4
          (cmpf .ogt (subf (constant ⟨0, ![]⟩ .f32 w) (sitofp .f32 (constantI ⟨0, ![]⟩ 32 0#32)) : FVec Ideal ⟨0, ![]⟩ .f32) (constant ⟨0, ![]⟩ .f32 0x00000000#32)))
        (Host.divf (broadcastInDim ⟨2, ![1, 7]⟩ ![1] b2' (Host.reduceAdd (mulf
          (subf (X2 .f32 x) (broadcastInDim ⟨2, ![n, 7]⟩ ![0, 1] b1'' (Host.divf (broadcastInDim ⟨2, ![1, 7]⟩ ![1] b2''
            (Host.reduceAdd (X2 .f32 x) (constant ⟨0, ![]⟩ .f32 0x00000000#32 : FVec Ideal ⟨0, ![]⟩ .f32) r1'' hu'')) (broadcastInDim ⟨2, ![1, 7]⟩ ![] b3'' (constant ⟨0, ![]⟩ .f32 w)))))
          (subf (X2 .f32 x) (broadcastInDim ⟨2, ![n, 7]⟩ ![0, 1] b1'' (Host.divf (broadcastInDim ⟨2, ![1, 7]⟩ ![1] b2''
            (Host.reduceAdd (X2 .f32 x) (constant ⟨0, ![]⟩ .f32 0x00000000#32 : FVec Ideal ⟨0, ![]⟩ .f32) r1'' hu'')) (broadcastInDim ⟨2, ![1, 7]⟩ ![] b3'' (constant ⟨0, ![]⟩ .f32 w))))))
          (constant ⟨0, ![]⟩ .f32 0x00000000#32 : FVec Ideal ⟨0, ![]⟩ .f32) r1' hu'))
          (broadcastInDim ⟨2, ![1, 7]⟩ ![] b3' (subf (constant ⟨0, ![]⟩ .f32 w) (sitofp .f32 (constantI ⟨0, ![]⟩ 32 0#32)) : FVec Ideal ⟨0, ![]⟩ .f32))) y))
        (broadcastInDim ⟨2, ![1, 7]⟩ ![] b5 (constant ⟨0, ![]⟩ .f32 0x358637BD#32))))
      = L2 .f32 (nrm x (bRX (mu (cst w) x)) (bRX (inv (cst w) x))) := by
  have hp : 0 < cst w := by rw [cst_of hw]; exact hr
  rw [pick_L2 w hw hr, count_L2 w hw]
  rw [hred0_X2, bid_asRowX, bid_cst w hw, hdivf_XL, bid_rowX, subf_XX, mulf_XX, hred0_X2, bid_asRowX, hdivf_XL, bid_cst 0x358637BD#32 val_eps6,
    hsqrt_X2, addf_XL, bid_rowX, hdivf_XX]
  funext i
  exact (div_sd hp x (row i) (col i)).trans (nrm_real hp x (row i) (col i)).symm

/-- The encoder before it is normalised. -/
theorem z_host (c : ℝ) (W1 : Fin 307 → Fin 512 → ℝ) (v1 : Fin 512 → EReal) (W2 : Fin 512 → Fin 256 → EReal) (v2 : Fin 256 → EReal)
    (x3 : Fin n → Fin 300 → ℝ) (x7 : Fin n → Fin 7 → EReal) (X : FVec Ideal ⟨2, ![n, 7]⟩ .f32) (hX : X = L2 .f32 (nrm x7 (bRX (mu c x7)) (bRX (inv c x7))))
    (hc) (b1 : Shape.BroadcastsInDim ⟨2, ![1, 512]⟩ ⟨2, ![n, 512]⟩ ![0, 1]) (b2 : Shape.BroadcastsInDim ⟨1, ![512]⟩ ⟨2, ![1, 512]⟩ ![1])
    (b3 : (⟨0, ![]⟩ : Shape).BroadcastsInDim ⟨2, ![n, 512]⟩ ![]) (b4 : Shape.BroadcastsInDim ⟨2, ![1, 256]⟩ ⟨2, ![n, 256]⟩ ![0, 1])
    (b5 : Shape.BroadcastsInDim ⟨1, ![256]⟩ ⟨2, ![1, 256]⟩ ![1]) :
    addf (Host.dotGeneral (DotDims.plain n 512 256) none (maximumf (addf (Host.dotGeneral (DotDims.plain n 307 512) none
        (concatenate ⟨2, ![n, 307]⟩ 1 [⟨⟨2, ![n, 300]⟩, L2 .f32 x3⟩, ⟨⟨2, ![n, 7]⟩, X⟩] hc) (L2 .f32 W1))
        (broadcastInDim ⟨2, ![n, 512]⟩ ![0, 1] b1 (broadcastInDim ⟨2, ![1, 512]⟩ ![1] b2 (X1 .f32 v1))))
        (broadcastInDim ⟨2, ![n, 512]⟩ ![] b3 (constant ⟨0, ![]⟩ .f32 0x00000000#32))) (X2 .f32 W2))
      (broadcastInDim ⟨2, ![n, 256]⟩ ![0, 1] b4 (broadcastInDim ⟨2, ![1, 256]⟩ ![1] b5 (X1 .f32 v2)))
      = X2 .f32 ((mlp c W1 v1 W2 v2 x7).z x3 x7) := by
  subst hX
  rw [cat_L2 x3 _ rfl hc]
  rw [hdot_L2, mm_cat, bid_asRowX, bid_rowX, addf_LX, bid_cst 0x00000000#32 val_zero, maximumf_XL, hdot_XX, bid_asRowX, bid_rowX, addf_XX, cst_of val_zero]
  rfl

/-- Rows over their lengths. -/
theorem unit_host (z : Fin n → Fin 256 → EReal) (b1 : Shape.BroadcastsInDim ⟨2, ![n, 1]⟩ ⟨2, ![n, 256]⟩ ![0, 1]) (b2 : Shape.BroadcastsInDim ⟨1, ![n]⟩ ⟨2, ![n, 1]⟩ ![0])
    (r1 : Shape.ReducesTo ⟨2, ![n, 256]⟩ [1] ⟨1, ![n]⟩) (hu) (b3 : (⟨0, ![]⟩ : Shape).BroadcastsInDim ⟨2, ![n, 1]⟩ ![]) :
    Host.divf (X2 .f32 z) (broadcastInDim ⟨2, ![n, 256]⟩ ![0, 1] b1 (addf (Host.sqrt (broadcastInDim ⟨2, ![n, 1]⟩ ![0] b2
      (Host.reduceAdd (mulf (X2 .f32 z) (X2 .f32 z)) (constant ⟨0, ![]⟩ .f32 0x00000000#32 : FVec Ideal ⟨0, ![]⟩ .f32) r1 hu)))
      (broadcastInDim ⟨2, ![n, 1]⟩ ![] b3 (constant ⟨0, ![]⟩ .f32 0x322BCC77#32)))) = L2 .f32 (unit z) := by
  rw [mulf_XX, hred1_X2, bid_asColX]
  erw [hsqrt_X2 (φ := .f32)]
  rw [bid_cst 0x322BCC77#32 val_eps8, addf_XL, bid_colX, hdivf_XX]
  funext i
  exact (unit_real z (row i) (col i)).symm
end

end Cert.Lift

namespace Cert.ReferenceIdeal.Value
open Idealize.ShloMosaic Idealize.ShloMosaic.StableHlo Cert.Lift Cert.Model Cert.ReferenceIdeal Cert.ReferenceIdeal.Gen

/-- What the arguments hold. -/
structure Holds (V0 : Valuation τ sig (Elt Ideal)) (a : Args) : Prop where
  h0 : V0 (Proc.devRef .tc main_arg0) = (L2 .f32 a.m3 : FVec Ideal S16384x300 .f32)
  h1 : V0 (Proc.devRef .tc main_arg1) = (L2 .f32 a.s3 : FVec Ideal S4096x300 .f32)
  h2 : V0 (Proc.devRef .tc main_arg2) = (X2 .f32 a.m7 : FVec Ideal S16384x7 .f32)
  h3 : V0 (Proc.devRef .tc main_arg3) = (X2 .f32 a.s7 : FVec Ideal S4096x7 .f32)
  h7 : V0 (Proc.devRef .tc main_arg7) = (L2 .f32 a.mW1 : FVec Ideal S307x512 .f32)
  h8 : V0 (Proc.devRef .tc main_arg8) = (X1 .f32 a.mb1 : FVec Ideal S512 .f32)
  h9 : V0 (Proc.devRef .tc main_arg9) = (X2 .f32 a.mW2 : FVec Ideal S512x256 .f32)
  h10 : V0 (Proc.devRef .tc main_arg10) = (X1 .f32 a.mb2 : FVec Ideal S256 .f32)
  h11 : V0 (Proc.devRef .tc main_arg11) = (L2 .f32 a.sW1 : FVec Ideal S307x512 .f32)
  h12 : V0 (Proc.devRef .tc main_arg12) = (X1 .f32 a.sb1 : FVec Ideal S512 .f32)
  h13 : V0 (Proc.devRef .tc main_arg13) = (X2 .f32 a.sW2 : FVec Ideal S512x256 .f32)
  h14 : V0 (Proc.devRef .tc main_arg14) = (X1 .f32 a.sb2 : FVec Ideal S256 .f32)
  h15 : V0 (Proc.devRef .tc main_arg15) = (L2 .f32 a.Wg : FVec Ideal S256x256 .f32)
  h16 : V0 (Proc.devRef .tc main_arg16) = (L2 .f32 a.aS : FVec Ideal S4x64 .f32)
  h17 : V0 (Proc.devRef .tc main_arg17) = (L2 .f32 a.aD : FVec Ideal S4x64 .f32)
  h18 : V0 (Proc.devRef .tc main_arg18) = (L2 .f32 a.Wgate : FVec Ideal S256x256 .f32)
  h19 : V0 (Proc.devRef .tc main_arg19) = (X1 .f32 a.bgate : FVec Ideal S256 .f32)
  h20 : V0 (Proc.devRef .tc main_arg20) = (L2 .f32 a.Wskip : FVec Ideal S256x256 .f32)
  h21 : V0 (Proc.devRef .tc main_arg21) = (L2 .f32 a.Wout : FVec Ideal S256x128 .f32)
  h22 : V0 (Proc.devRef .tc main_arg22) = (L1 .f32 a.bout : FVec Ideal S128 .f32)
  h23 : V0 (Proc.devRef .tc main_arg23) = (L2 .f32 a.Ws : FVec Ideal S128x128 .f32)
  h24 : V0 (Proc.devRef .tc main_arg24) = (L1 .f32 a.bs : FVec Ideal S128 .f32)
  h25 : V0 (Proc.devRef .tc main_arg25) = (L3 .f32 a.Wt1 : FVec Ideal S3x128x128 .f32)
  h26 : V0 (Proc.devRef .tc main_arg26) = (X2 .f32 a.bt1 : FVec Ideal S3x128 .f32)
  h27 : V0 (Proc.devRef .tc main_arg27) = (X3 .f32 a.Wt2 : FVec Ideal S3x128x1 .f32)
  h28 : V0 (Proc.devRef .tc main_arg28) = (X2 .f32 a.bt2 : FVec Ideal S3x1 .f32)

variable {V0 : Valuation τ sig (Elt Ideal)} {a : Args}

/-- The monomers before they are normalised. -/
theorem v20_eq (H : Holds V0 a) : res_main_v20 V0 = (X2 .f32 (a.A.z a.m3 a.m7) : FVec Ideal S16384x256 .f32) := by
  unfold res_main_v20 res_main_call0_call0_v5 res_main_call0_call0_v8
  rw [H.h0, H.h2, H.h7, H.h8, H.h9, H.h10]
  exact z_host _ _ _ _ _ _ _ _ (std_host 0x46800000#32 val_16384 (by positivity) _ _ _ _ _ _ _ _ _ _ _ _ (by decide) _ _ _ _ _ _ _) _ _ _ _ _ _
/-- The solvents before they are normalised. -/
theorem v46_eq (H : Holds V0 a) : res_main_v46 V0 = (X2 .f32 (a.B.z a.s3 a.s7) : FVec Ideal S4096x256 .f32) := by
  unfold res_main_v46 res_main_call3_call0_v5 res_main_call3_call0_v8
  rw [H.h1, H.h3, H.h11, H.h12, H.h13, H.h14]
  exact z_host _ _ _ _ _ _ _ _ (std_host 0x45800000#32 val_4096 (by positivity) _ _ _ _ _ _ _ _ _ _ _ _ (by decide) _ _ _ _ _ _ _) _ _ _ _ _ _

end Cert.ReferenceIdeal.Value

end
-- ==== Proof.Value.RefNode.lean ====
/-
The reference's molecules as the nodes of the graph: on the precondition's arguments and index arrays, node `5 p + d` holds
the `d`-th molecule of polymer `p`.
-/
module

public import proofs.«01_k».proof.Proof.Value.RefEnc
public import proofs.«01_k».proof.Proof.Value.HLift3

@[expose] public section

set_option maxRecDepth 16384

noncomputable section

namespace Cert.Lift

open Idealize.ShloMosaic Idealize.ShloMosaic.Routing Cert.Model
open scoped BigOperators

/-- The polymer of a node. -/
def polyN (n : Fin 20480) : Fin 4096 := ⟨n.val / 5, by omega⟩
/-- The monomer number of a node that is a monomer. -/
def monN (n : Fin 20480) : Fin 16384 := ⟨n.val - (n.val + 1) / 5, by omega⟩
/-- The source of an edge. -/
def srcN (E : Fin 81920) : Fin 20480 := ⟨5 * (E.val / 20) + E.val % 20 / 4, by omega⟩
/-- The destination of an edge. -/
def dstN (E : Fin 81920) : Fin 20480 := ⟨5 * (E.val / 20) + (E.val % 4 + if E.val % 20 / 4 ≤ E.val % 4 then 1 else 0), by split <;> omega⟩
/-- A stack of five arrays as one, node by node. -/
def full (v : Fin 5 → Fin 4096 → Fin 256 → ℝ) : Fin 20480 → Fin 256 → ℝ := fun n => v ⟨n.val % 5, by omega⟩ (polyN n)

/-- How many of the first nodes are monomers. -/
theorem count_mon (n : ℕ) : ((List.range n).map fun i => if i % 5 = 4 then 0 else 1).sum = n - n / 5 := by
  induction n with
  | zero => rfl
  | succ n ih =>
    rw [List.range_succ, List.map_append, List.sum_append, ih]
    simp only [List.map_cons, List.map_nil, List.sum_cons, List.sum_nil]
    split <;> omega
/-- Clamping a number already in range. -/
theorem clamp_ofNat (x : ℕ) (h : x ≤ 16383) : IntOp.minsi 16383#32 (IntOp.maxsi 0#32 (BitVec.ofNat 32 x)) = BitVec.ofNat 32 x := by
  have e : (BitVec.ofNat 32 x).toInt = x := StableHlo.Predicate.toInt_ofNat_small _ (by omega)
  have e1 : (16383#32 : BitVec 32).toInt = 16383 := by decide
  have e0 : (0#32 : BitVec 32).toInt = 0 := by decide
  have h1 : IntOp.maxsi 0#32 (BitVec.ofNat 32 x) = BitVec.ofNat 32 x := by
    unfold IntOp.maxsi BitVec.slt
    rw [e, e0, if_neg (by simp)]
  rw [h1]
  unfold IntOp.minsi BitVec.slt
  rw [e, e1]
  split
  · next hh =>
    simp at hh; omega
  · rfl

end Cert.Lift

namespace Cert.ReferenceIdeal.Value
open Idealize.ShloMosaic Idealize.ShloMosaic.StableHlo Idealize.ShloMosaic.Routing Cert.Lift Cert.Model Cert.ReferenceIdeal Cert.ReferenceIdeal.Gen

/-- What the three index arrays hold. -/
structure Index (V0 : Valuation τ sig (Elt Ideal)) : Prop where
  h4 : V0 (Proc.devRef .tc main_arg4) = ((fun i => BitVec.ofNat 32 (polyN (at0 i)).val) : IVec S20480 32)
  h5 : V0 (Proc.devRef .tc main_arg5) = ((fun i => BitVec.ofNat 32 (srcN (at0 i)).val) : IVec S81920 32)
  h6 : V0 (Proc.devRef .tc main_arg6) = ((fun i => BitVec.ofNat 32 (dstN (at0 i)).val) : IVec S81920 32)

variable {V0 : Valuation τ sig (Elt Ideal)} {a : Args}

/-- The last node of every polymer. -/
theorem v56_eq (I : Index V0) : res_main_v56 V0 = ((fun i => BitVec.ofBool ((at0 i).val % 5 = 4)) : IVec S20480 1) := by
  unfold res_main_v56
  rw [I.h4]
  funext i
  obtain ⟨n, rfl⟩ : ∃ (n : Fin 20480), i = ValueIdx.ix1 n := ⟨_, ValueIdx.eq_ix1 i⟩
  have := n.isLt
  by_cases hn : n.val < 20479
  · refine (concatenate_pair_apply_left (t := S20480) (s₁ := S20479) (s₂ := S1) 0 _ _ _ (ValueIdx.ix1 n) rfl (ValueIdx.ix1 (⟨n.val, hn⟩ : Fin 20479)) fun b => by fin_cases b; rfl).trans ?_
    show IntOp.cmpi .ne _ _ = _
    rw [extractStridedSlice_apply (t := S20479) _ _ _ _ (ValueIdx.ix1 (⟨n.val + 1, by omega⟩ : Fin 20480)) (fun q => by fin_cases q; exact Nat.add_comm _ _)]
    rw [extractStridedSlice_apply (t := S20479) _ _ _ _ (ValueIdx.ix1 n) (fun q => by fin_cases q; simp [ValueIdx.ix1])]
    show BitVec.ofBool (BitVec.ofNat 32 ((n.val + 1) / 5) != BitVec.ofNat 32 (n.val / 5)) = BitVec.ofBool (decide (n.val % 5 = 4))
    refine congrArg _ ?_
    rw [Bool.eq_iff_iff]
    simp only [bne_iff_ne, ne_eq, decide_eq_true_eq, ← BitVec.toNat_inj, BitVec.toNat_ofNat]
    omega
  · refine (concatenate_pair_apply_right (t := S20480) (s₁ := S20479) (s₂ := S1) 0 _ _ _ (ValueIdx.ix1 n) rfl rfl (ValueIdx.ix1 (0 : Fin 1)) (fun b hb => absurd (Subsingleton.elim _ _) hb) ?_).trans ?_
    · show 0 + 20479 = n.val; omega
    · show (1#1 : BitVec 1) = BitVec.ofBool (decide (n.val % 5 = 4))
      rw [decide_eq_true (by omega)]; rfl

/-- The monomer numbers. -/
theorem v62_eq (I : Index V0) : res_main_v62 V0 = ((fun i => BitVec.ofNat 32 (monN (at0 i)).val) : IVec S20480 32) := by
  unfold res_main_v62
  rw [v56_eq I]
  funext i
  obtain ⟨n, rfl⟩ : ∃ (n : Fin 20480), i = ValueIdx.ix1 n := ⟨_, ValueIdx.eq_ix1 i⟩
  show IntOp.minsi 16383#32 (IntOp.maxsi 0#32 (IntOp.subi _ 1#32)) = _
  have hs := cumsum1 (N := 20480) (Nm1 := 20479) rfl (extui 32 (noti ((fun i => BitVec.ofBool ((at0 i).val % 5 = 4)) : IVec S20480 1)) natLt_1_32)
    (fun i => if i % 5 = 4 then 0 else 1) (fun i => by
      show (~~~ (BitVec.ofBool (decide (i.val % 5 = 4)))).setWidth 32 = _
      by_cases h : i.val % 5 = 4 <;> simp [h]) (broadcastInDim S_ ![] bcast_S_S_ (constantI S_ 32 0#32)) rfl reduceWindows_S20480_S20480_w20480s1p20479_0 h_S_ n
  rw [count_mon] at hs
  have hb : IntOp.subi (BitVec.ofNat 32 (n.val + 1 - (n.val + 1) / 5)) 1#32 = BitVec.ofNat 32 (monN n).val := by
    have := n.isLt
    unfold IntOp.subi monN
    apply BitVec.eq_of_toNat_eq
    simp only [BitVec.toNat_sub, BitVec.toNat_ofNat]
    omega
  refine Eq.trans ?_ (clamp_ofNat (monN n).val (by have := (monN n).isLt; omega))
  rw [← hb]
  refine congrArg (fun q => IntOp.minsi 16383#32 (IntOp.maxsi 0#32 (IntOp.subi q 1#32))) ?_
  exact hs

/-- The node features. -/
theorem v78_eq (H : Holds V0 a) (I : Index V0) : res_main_v78 V0 = (L2 .f32 (full a.nd) : FVec Ideal S20480x256 .f32) := by
  unfold res_main_v78
  rw [v20_eq H, v46_eq H, v56_eq I]
  have n1 := names_wrap (by decide) polyN 4096#32 _ I.h4 bcast_S20480_S20480x1_0 bcast_S_S20480 bcast_S_S20480
  have n2 := names_wrap (by decide) monN 16384#32 _ (v62_eq I) bcast_S20480_S20480x1_0 bcast_S_S20480 bcast_S_S20480
  have u1 := unit_host (a.A.z a.m3 a.m7) bcast_S16384x1_S16384x256_0_1 bcast_S16384_S16384x1_0 reducesTo_S16384x256_S16384_d1 h_S_ bcast_S_S16384x1
  have u2 := unit_host (a.B.z a.s3 a.s7) bcast_S4096x1_S4096x256_0_1 bcast_S4096_S4096x1_0 reducesTo_S4096x256_S4096_d1 h_S_ bcast_S_S4096x1
  have g1 := gather_L2 (φ := .f32) gather_S4096x256_S20480x1_S20480x256_1_0_n_n_0_1_1256 rfl rfl rfl rfl rfl (unit (a.B.z a.s3 a.s7)) _ polyN n1 (by decide)
  have g2 := gather_L2 (φ := .f32) gather_S16384x256_S20480x1_S20480x256_1_0_n_n_0_1_1256 rfl rfl rfl rfl rfl (unit (a.A.z a.m3 a.m7)) _ monN n2 (by decide)
  rw [← u2] at g1
  rw [← u1] at g2
  refine (congrArg₂ (select _) g1 g2).trans ?_
  refine ext2 fun n c => ?_
  show Scalar.select _ _ _ = _
  have hn := n.isLt
  rw [broadcastInDim_apply _ _ _ _ (ValueIdx.ix2 n 0) (fun q => by fin_cases q <;> simp [ValueIdx.ix2])]
  rw [broadcastInDim_apply _ _ _ _ (ValueIdx.ix1 n) (fun q => by fin_cases q; simp [ValueIdx.ix1, ValueIdx.ix2])]
  show (if BitVec.ofBool (decide (n.val % 5 = 4)) = 1#1 then ((unit (a.B.z a.s3 a.s7) (polyN n) c : ℝ) : EReal) else ((unit (a.A.z a.m3 a.m7) (monN n) c : ℝ) : EReal)) = _
  by_cases h : n.val % 5 = 4
  · rw [if_pos (by simp [h])]
    unfold full Args.nd
    rw [dif_neg (by simp [h])]; rfl
  · rw [if_neg (by simp [h])]
    unfold full Args.nd
    rw [dif_pos (by simp; omega)]
    have : monN n = ⟨4 * (polyN n).val + n.val % 5, by simp [polyN]; omega⟩ := Fin.ext (by simp [monN, polyN]; omega)
    rw [this]; rfl

end Cert.ReferenceIdeal.Value

end
-- ==== Proof.Value.Graph.lean ====
/-
The graph's edges as the four edges that end in each node, and the attention layer edge by edge.
-/
module

public import proofs.«01_k».proof.Proof.Value.RefNode

@[expose] public section

set_option maxRecDepth 16384

noncomputable section

namespace Cert.Model

open Cert.Lift
open scoped BigOperators

/-- The other four molecules of a polymer, counted from the first. -/
def oth (n : Fin 20480) (k : Fin 4) : Fin 5 := (⟨n.val % 5, by omega⟩ : Fin 5).succAbove k
/-- The `k`-th edge that ends in a node. -/
def inE (n : Fin 20480) (k : Fin 4) : Fin 81920 :=
  ⟨20 * (n.val / 5) + (if k.val < n.val % 5 then 4 * k.val + (n.val % 5 - 1) else 4 * (k.val + 1) + n.val % 5), by
    have := n.isLt; have := k.isLt; split <;> omega⟩
/-- The molecule that the `k`-th other one is. -/
theorem oth_val (n : Fin 20480) (k : Fin 4) : (oth n k).val = if k.val < n.val % 5 then k.val else k.val + 1 := by
  unfold oth Fin.succAbove
  by_cases h : k.val < n.val % 5
  · rw [if_pos (by simpa [Fin.lt_def] using h), if_pos h]; rfl
  · rw [if_neg (by simpa [Fin.lt_def] using h), if_neg h]; rfl
/-- The parts of an edge's number. -/
theorem parts (p i k : ℕ) (hi : i < 5) (hk : k < 4) : (20 * p + (4 * i + k)) / 20 = p ∧ (20 * p + (4 * i + k)) % 20 / 4 = i ∧ (20 * p + (4 * i + k)) % 4 = k := by
  refine ⟨by omega, ?_, by omega⟩
  have : (20 * p + (4 * i + k)) % 20 = 4 * i + k := by omega
  rw [this]; omega
/-- Edge `inE n k` ends in `n`. -/
theorem dst_inE (n : Fin 20480) (k : Fin 4) : dstN (inE n k) = n := by
  have := n.isLt; have := k.isLt
  apply Fin.ext
  unfold dstN inE
  by_cases h : k.val < n.val % 5
  · obtain ⟨h1, h2, h3⟩ := parts (n.val / 5) k.val (n.val % 5 - 1) (by omega) (by omega)
    simp only [if_pos h, h1, h2, h3]; split <;> omega
  · obtain ⟨h1, h2, h3⟩ := parts (n.val / 5) (k.val + 1) (n.val % 5) (by omega) (by omega)
    simp only [if_neg h, h1, h2, h3]; split <;> omega
/-- Edge `inE n k` starts in the `k`-th other molecule. -/
theorem src_inE (n : Fin 20480) (k : Fin 4) : (srcN (inE n k)).val = 5 * (n.val / 5) + (oth n k).val := by
  have := n.isLt; have := k.isLt
  rw [oth_val]
  unfold srcN inE
  by_cases h : k.val < n.val % 5
  · obtain ⟨h1, h2, h3⟩ := parts (n.val / 5) k.val (n.val % 5 - 1) (by omega) (by omega)
    simp only [if_pos h, h1, h2]
  · obtain ⟨h1, h2, h3⟩ := parts (n.val / 5) (k.val + 1) (n.val % 5) (by omega) (by omega)
    simp only [if_neg h, h1, h2]
/-- Different `k` are different edges. -/
theorem inE_inj (n : Fin 20480) : Function.Injective (inE n) := by
  intro k l h
  have h' := congrArg Fin.val h
  unfold inE at h'
  apply Fin.ext
  have := k.isLt; have := l.isLt
  simp only at h'
  split at h' <;> split at h' <;> omega
/-- Every edge is one of its end's four. -/
theorem dst_iff (n : Fin 20480) (e : Fin 81920) : dstN e = n ↔ ∃ k, inE n k = e := by
  constructor
  · rintro rfl
    have := e.isLt
    have hd : (dstN e).val = 5 * (e.val / 20) + (e.val % 4 + if e.val % 20 / 4 ≤ e.val % 4 then 1 else 0) := rfl
    by_cases h : e.val % 20 / 4 ≤ e.val % 4
    · rw [if_pos h] at hd
      refine ⟨⟨e.val % 20 / 4, by omega⟩, Fin.ext ?_⟩
      unfold inE
      simp only
      rw [if_pos (by omega)]
      omega
    · rw [if_neg h] at hd
      refine ⟨⟨e.val % 20 / 4 - 1, by omega⟩, Fin.ext ?_⟩
      unfold inE
      simp only
      rw [if_neg (by omega)]
      omega
  · rintro ⟨k, rfl⟩; exact dst_inE n k
/-- A sum over the edges that end in a node. -/
theorem sum_in (n : Fin 20480) (f : Fin 81920 → ℝ) : ∑ e ∈ Finset.univ.filter (fun e => dstN e = n), f e = f (inE n 0) + f (inE n 1) + f (inE n 2) + f (inE n 3) := by
  have : (Finset.univ.filter fun e => dstN e = n) = Finset.univ.image (inE n) := by
    ext e; simp [dst_iff]
  rw [this, Finset.sum_image fun k _ l _ h => inE_inj n h, Fin.sum_univ_four]

/-- A head's product with its own columns. -/
theorem att_eq {N : ℕ} (X : Fin N → Fin 256 → ℝ) (a : Fin 4 → Fin 64 → ℝ) (n : Fin N) (h : Fin 4) :
    ∑ c : Fin 64, X n ⟨64 * h.val + c.val, by omega⟩ * a h c = mm X (asM a) n h := by
  have e : mm X (asM a) n h = ∑ p : Fin 4 × Fin 64, X n (finProdFinEquiv p) * asM a (finProdFinEquiv p) h :=
    (Equiv.sum_comp (finProdFinEquiv : Fin 4 × Fin 64 ≃ Fin (4 * 64)) (fun l : Fin 256 => X n l * asM a l h)).symm
  rw [e, Fintype.sum_prod_type, Finset.sum_eq_single h]
  · refine Finset.sum_congr rfl fun c _ => ?_
    have hc := c.isLt
    have hv : (finProdFinEquiv (h, c) : Fin (4 * 64)).val = c.val + 64 * h.val := rfl
    have i1 : (finProdFinEquiv (h, c) : Fin (4 * 64)) = (⟨64 * h.val + c.val, by omega⟩ : Fin 256) := Fin.ext (by rw [hv]; exact Nat.add_comm _ _)
    have i2 : asM a (⟨64 * h.val + c.val, by omega⟩ : Fin 256) h = a h c := by
      unfold asM
      simp only
      rw [if_pos (by omega), mul_one]
      exact congrArg₂ a (Fin.ext (by simp only; omega)) (Fin.ext (by simp only; omega))
    exact ((congrArg (fun q : Fin 256 => X n q * asM a q h) i1).trans (congrArg (fun q => X n _ * q) i2)).symm
  · intro g _ hg
    refine Finset.sum_eq_zero fun c _ => ?_
    have hc := c.isLt
    have hv : (finProdFinEquiv (g, c) : Fin (4 * 64)).val = c.val + 64 * g.val := rfl
    have : g.val ≠ h.val := fun q => hg (Fin.ext q)
    unfold asM
    rw [if_neg (by rw [hv]; omega), mul_zero, mul_zero]
  · intro q; exact absurd (Finset.mem_univ _) q
/-- Spreading over a head's columns. -/
theorem mm_E {N : ℕ} (X : Fin N → Fin 4 → ℝ) (n : Fin N) (c : Fin 256) : mm X E n c = X n ⟨c.val / 64, by omega⟩ := by
  unfold mm
  rw [Finset.sum_eq_single (⟨c.val / 64, by omega⟩ : Fin 4)]
  · simp [E]
  · intro g _ hg
    have : ¬ c.val / 64 = g.val := fun q => hg (Fin.ext q.symm)
    simp [E, this]
  · intro q; exact absurd (Finset.mem_univ _) q

namespace Par
variable (P : Par) (v : Fin 20480 → Fin 256 → ℝ)

/-- The score of every edge. -/
def eE : Fin 81920 → Fin 4 → ℝ := lkA slope (fun e h => mm (P.h v) P.As (srcN e) h + mm (P.h v) P.Ad (dstN e) h)
/-- The score of the `k`-th edge into every node. -/
def eK (k : Fin 4) : Fin 20480 → Fin 4 → ℝ := fun n => P.eE v (inE n k)
/-- The exponential of every edge's score less the largest of its end. -/
def xE : Fin 81920 → Fin 4 → ℝ := exA (P.eE v - fun e => mx4 (P.eK v) (dstN e))
/-- The denominator of every node. -/
def dN : Fin 20480 → Fin 4 → ℝ := (fun n c => ∑ e ∈ Finset.univ.filter (fun e => dstN e = n), P.xE v e c)
/-- The weight of every edge. -/
def aE : Fin 81920 → Fin 4 → ℝ := P.xE v / ((fun e => P.dN v (dstN e)) + kc (cst 0x3089705F#32))
/-- The message of every node. -/
def gN : Fin 20480 → Fin 256 → ℝ := fun n c =>
  ∑ e ∈ Finset.univ.filter (fun e => dstN e = n), P.aE v e ⟨c.val / 64, by omega⟩ * P.h v (srcN e) ⟨64 * (c.val / 64) + c.val % 64, by omega⟩

/-- The denominator with its small number is that of the four edges. -/
theorem dN_eq (n : Fin 20480) (c : Fin 4) : P.dN v n c + cst 0x3089705F#32 = den4 (P.eK v) n c := by
  have h (k : Fin 4) : P.xE v (inE n k) c = exA (P.eK v k - mx4 (P.eK v)) n c := by
    show Real.exp (P.eE v (inE n k) c - mx4 (P.eK v) (dstN (inE n k)) c) = _
    rw [dst_inE]; rfl
  unfold dN
  rw [sum_in, h, h, h, h]
  rfl
/-- The message is that of the four edges. -/
theorem gN_eq : P.gN v = msg4 (P.eK v) (fun k n => P.h v (srcN (inE n k))) := by
  funext n c
  have h (k : Fin 4) : P.aE v (inE n k) ⟨c.val / 64, by omega⟩ * P.h v (srcN (inE n k)) ⟨64 * (c.val / 64) + c.val % 64, by omega⟩
      = msg1 (P.eK v) (fun k n => P.h v (srcN (inE n k))) k n c := by
    show (P.xE v (inE n k) _ / (P.dN v (dstN (inE n k)) _ + cst 0x3089705F#32)) * _ = mm _ E n c * P.h v (srcN (inE n k)) c
    rw [mm_E, dN_eq, dst_inE]
    have i1 : (⟨64 * (c.val / 64) + c.val % 64, by omega⟩ : Fin 256) = c := Fin.ext (Nat.div_add_mod _ _)
    rw [i1]
    show Real.exp (P.eE v (inE n k) _ - mx4 (P.eK v) (dstN (inE n k)) _) / _ * _ = _
    rw [dst_inE]; rfl
  unfold gN
  rw [sum_in, h, h, h, h]
  show _ = 0 + msg1 _ _ 0 n c + msg1 _ _ 1 n c + msg1 _ _ 2 n c + msg1 _ _ 3 n c
  rw [zero_add]

/-- A node's new value, on the nodes of all polymers, is the model's. -/
theorem comb_full (w : Fin 5 → Fin 4096 → Fin 256 → ℝ) (n : Fin 20480) :
    P.comb (full w) (P.gN (full w)) n = P.node w ⟨n.val % 5, by omega⟩ (polyN n) := by
  have hp (k : Fin 4) : full w (srcN (inE n k)) = w (oth n k) (polyN n) := by
    have h1 := src_inE n k
    have h2 := (oth n k).isLt
    unfold full
    have e1 : (⟨(srcN (inE n k)).val % 5, by omega⟩ : Fin 5) = oth n k := Fin.ext (by simp only [h1]; omega)
    have e2 : polyN (srcN (inE n k)) = polyN n := Fin.ext (by unfold polyN; simp only [h1]; omega)
    rw [e1, e2]
  have hh (k : Fin 4) : P.h (full w) (srcN (inE n k)) = P.h (w (oth n k)) (polyN n) := by
    funext c
    show ∑ l, full w (srcN (inE n k)) l * P.Wg l c = ∑ l, w (oth n k) (polyN n) l * P.Wg l c
    rw [hp]
  have he (k : Fin 4) : P.eK (full w) k n = P.e (w (oth n k)) (w ⟨n.val % 5, by omega⟩) (polyN n) := by
    funext c
    show lk slope (∑ l, P.h (full w) (srcN (inE n k)) l * P.As l c + ∑ l, P.h (full w) (dstN (inE n k)) l * P.Ad l c)
      = lk slope (∑ l, P.h (w (oth n k)) (polyN n) l * P.As l c + ∑ l, P.h (w ⟨n.val % 5, by omega⟩) (polyN n) l * P.Ad l c)
    rw [hh, dst_inE]; rfl
  rw [gN_eq]
  have e1 : msg4 (P.eK (full w)) (fun k n => P.h (full w) (srcN (inE n k))) n
      = msg4 (fun k (_ : Fin 1) => P.eK (full w) k n) (fun k _ => P.h (full w) (srcN (inE n k))) 0 := rfl
  have e2 : msg4 (fun k => P.e (w (oth n k)) (w ⟨n.val % 5, by omega⟩)) (fun k => P.h (w (oth n k))) (polyN n)
      = msg4 (fun k (_ : Fin 1) => P.e (w (oth n k)) (w ⟨n.val % 5, by omega⟩) (polyN n)) (fun k _ => P.h (w (oth n k)) (polyN n)) 0 := rfl
  simp only [he, hh] at e1
  have e3 := e1.trans e2.symm
  have e4 (g : Fin 20480 → Fin 256 → ℝ) : P.comb (full w) g n = P.comb (fun (_ : Fin 1) => full w n) (fun _ => g n) 0 := rfl
  rw [e4, e3]
  rfl

end Par

end Cert.Model

end
-- ==== Proof.Value.RefAtt.lean ====
/-
The reference's attention layer on the precondition's arguments, up to the weight of every edge.
-/
module

public import proofs.«01_k».proof.Proof.Value.Graph

@[expose] public section

set_option maxRecDepth 16384

noncomputable section

namespace Cert.Lift

open Idealize.ShloMosaic Idealize.ShloMosaic.Routing Cert.Model
open scoped BigOperators

section
variable {N U : ℕ}

/-- The scores of every node's columns against one vector per head. -/
theorem headSum_host (X : Fin N → Fin 256 → ℝ) (a : Fin 4 → Fin 64 → ℝ) (b1 : Shape.BroadcastsInDim ⟨2, ![4, 64]⟩ ⟨3, ![1, 4, 64]⟩ ![1, 2])
    (b2 : Shape.BroadcastsInDim ⟨3, ![1, 4, 64]⟩ ⟨3, ![N, 4, 64]⟩ ![0, 1, 2]) (r : Shape.ReducesTo ⟨3, ![N, 4, 64]⟩ [2] ⟨2, ![N, 4]⟩) (hu) :
    Host.reduceAdd (mulf (L3 .f32 (fun n h c => X n ⟨64 * h.val + c.val, by omega⟩) : FVec Ideal ⟨3, ![N, 4, 64]⟩ .f32)
      (broadcastInDim ⟨3, ![N, 4, 64]⟩ ![0, 1, 2] b2 (broadcastInDim ⟨3, ![1, 4, 64]⟩ ![1, 2] b1 (L2 .f32 a))))
      (constant ⟨0, ![]⟩ .f32 0x00000000#32 : FVec Ideal ⟨0, ![]⟩ .f32) r hu = L2 .f32 (mm X (asM a)) := by
  rw [bid_stack, mulf_L3, hred2_L3]
  refine congrArg _ ?_
  funext n h
  exact att_eq X a n h

/-- Rows picked from a table of four columns. -/
theorem take4 (gd : GatherDims ⟨2, ![N, 4]⟩ ⟨2, ![U, 1]⟩ ⟨2, ![U, 4]⟩) (g1 : gd.offsetDims = [1]) (g2 : gd.collapsedSliceDims = [0])
    (g3 : gd.operandBatchingDims = []) (g4 : gd.startIndexMap = [0]) (g5 : gd.indexVectorDim = 1) (hN : N < 2 ^ 31) (f : Fin N → Fin 4 → ℝ)
    (idx : IVec ⟨2, ![U, 1]⟩ 32) (s : Fin U → Fin N) (hs : Names idx s) :
    Host.gather gd (L2 .f32 f) idx = L2 .f32 (fun e => f (s e)) := gather_L2 gd g1 g2 g3 g4 g5 f idx s hs hN

/-- The leaky rectifier as the reference writes it. -/
theorem leaky_host (f : Fin U → Fin 4 → ℝ) (b1 b2 : (⟨0, ![]⟩ : Shape).BroadcastsInDim ⟨2, ![U, 4]⟩ ![]) :
    select (cmpf .oge (L2 .f32 f) (broadcastInDim ⟨2, ![U, 4]⟩ ![] b1 (constant ⟨0, ![]⟩ .f32 0x00000000#32))) (L2 .f32 f)
      (mulf (broadcastInDim ⟨2, ![U, 4]⟩ ![] b2 (constant ⟨0, ![]⟩ .f32 0x3E4CCCCD#32)) (L2 .f32 f)) = L2 .f32 (lkA slope f) := by
  rw [bid_cst 0x00000000#32 val_zero, bid_cst 0x3E4CCCCD#32 val_slope, mulf_L2, cst_of val_zero, leaky_L2]
  rfl

/-- The largest score among the edges that end in a node, given what bounds it. -/
theorem max_host (hN : N < 2 ^ 31) (hN1 : N ≠ 1) (hU1 : U ≠ 1) (d : Fin U → Fin N) (x : IVec ⟨1, ![U]⟩ 32)
    (hx : x = fun i => BitVec.ofNat 32 (d (at0 i)).val) (f : Fin U → Fin 4 → ℝ) (g : Fin N → Fin 4 → ℝ)
    (hg : ∀ n c (b : EReal), ((g n c : ℝ) : EReal) ≤ b ↔ ∀ e, d e = n → ((f e c : ℝ) : EReal) ≤ b)
    (b1 : Shape.BroadcastsInDim ⟨1, ![U]⟩ ⟨2, ![1, U]⟩ ![1]) (b2 : Shape.BroadcastsInDim ⟨2, ![1, U]⟩ ⟨2, ![N, U]⟩ ![0, 1])
    (b3 : Shape.BroadcastsInDim ⟨1, ![N]⟩ ⟨2, ![N, 1]⟩ ![0]) (b4 : Shape.BroadcastsInDim ⟨2, ![N, 1]⟩ ⟨2, ![N, U]⟩ ![0, 1])
    (b5 : Shape.BroadcastsInDim ⟨2, ![N, U]⟩ ⟨3, ![N, U, 1]⟩ ![0, 1]) (b6 : Shape.BroadcastsInDim ⟨3, ![N, U, 1]⟩ ⟨3, ![N, U, 4]⟩ ![0, 1, 2])
    (b7 : Shape.BroadcastsInDim ⟨2, ![U, 4]⟩ ⟨3, ![1, U, 4]⟩ ![1, 2]) (b8 : Shape.BroadcastsInDim ⟨3, ![1, U, 4]⟩ ⟨3, ![N, U, 4]⟩ ![0, 1, 2])
    (b9 : (⟨0, ![]⟩ : Shape).BroadcastsInDim ⟨3, ![N, U, 4]⟩ ![]) (r : Shape.ReducesTo ⟨3, ![N, U, 4]⟩ [1] ⟨2, ![N, 4]⟩) (hu) :
    Host.reduce FloatOps.maximumf (select (broadcastInDim ⟨3, ![N, U, 4]⟩ ![0, 1, 2] b6 (broadcastInDim ⟨3, ![N, U, 1]⟩ ![0, 1] b5
        (cmpi .eq (broadcastInDim ⟨2, ![N, U]⟩ ![0, 1] b2 (broadcastInDim ⟨2, ![1, U]⟩ ![1] b1 x))
          (broadcastInDim ⟨2, ![N, U]⟩ ![0, 1] b4 (broadcastInDim ⟨2, ![N, 1]⟩ ![0] b3 (iotaInDim ⟨1, ![N]⟩ 32 0))))))
      (broadcastInDim ⟨3, ![N, U, 4]⟩ ![0, 1, 2] b8 (broadcastInDim ⟨3, ![1, U, 4]⟩ ![1, 2] b7 (L2 .f32 f)))
      (broadcastInDim ⟨3, ![N, U, 4]⟩ ![] b9 (constant ⟨0, ![]⟩ .f32 0xFF800000#32)))
      (constant ⟨0, ![]⟩ .f32 0xFF800000#32 : FVec Ideal ⟨0, ![]⟩ .f32) r hu = L2 .f32 g := by
  rw [bid_stack]
  refine ext2 fun n c => eq_of_forall_ge_iff fun b => ?_
  rw [reduce_max_le, hg]
  refine forall_congr' fun e => ?_
  subst hx
  have hc : broadcastInDim ⟨3, ![N, U, 4]⟩ ![0, 1, 2] b6 (broadcastInDim ⟨3, ![N, U, 1]⟩ ![0, 1] b5
        (cmpi .eq (broadcastInDim ⟨2, ![N, U]⟩ ![0, 1] b2 (broadcastInDim ⟨2, ![1, U]⟩ ![1] b1 (fun i => BitVec.ofNat 32 (d (at0 i)).val)))
          (broadcastInDim ⟨2, ![N, U]⟩ ![0, 1] b4 (broadcastInDim ⟨2, ![N, 1]⟩ ![0] b3 (iotaInDim ⟨1, ![N]⟩ 32 0))))) (ValueIdx.ix3 n e c)
      = BitVec.ofBool (BitVec.ofNat 32 (d e).val == BitVec.ofNat 32 n.val) := by
    rw [broadcastInDim_apply _ _ _ _ (ValueIdx.ix3 n e 0) (fun q => by fin_cases q <;> simp [hN1, hU1] <;> rfl)]
    rw [broadcastInDim_apply _ _ _ _ (ValueIdx.ix2 n e) (fun q => by fin_cases q <;> simp [hN1, hU1] <;> rfl)]
    show IntOp.cmpi .eq _ _ = _
    rw [broadcastInDim_apply _ b2 _ _ (ValueIdx.ix2 0 e) (fun q => by fin_cases q <;> simp [hN1, hU1] <;> rfl)]
    rw [broadcastInDim_apply _ b1 _ _ (ValueIdx.ix1 e) (fun q => by fin_cases q <;> simp [hN1, hU1] <;> rfl)]
    rw [broadcastInDim_apply _ b4 _ _ (ValueIdx.ix2 n 0) (fun q => by fin_cases q <;> simp [hN1, hU1] <;> rfl)]
    rw [broadcastInDim_apply _ b3 _ _ (ValueIdx.ix1 n) (fun q => by fin_cases q <;> simp [hN1, hU1] <;> rfl)]
    rfl
  show Scalar.select _ _ _ ≤ b ↔ _
  rw [hc]
  have hbot : broadcastInDim ⟨3, ![N, U, 4]⟩ ![] b9 (constant ⟨0, ![]⟩ .f32 0xFF800000#32 : FVec Ideal ⟨0, ![]⟩ .f32) (ValueIdx.ix3 n e c) = (⊥ : EReal) := by
    show Ideal.ofBits .f32 0xFF800000#32 = ⊥
    simp [Ideal.ofBits, Ideal.ieee]
  rw [hbot]
  have he : (BitVec.ofNat 32 (d e).val == BitVec.ofNat 32 n.val) = decide (d e = n) := by
    rw [Bool.eq_iff_iff]
    have h1 := (d e).isLt
    have h2 := n.isLt
    simp only [beq_iff_eq, decide_eq_true_eq, ← BitVec.toNat_inj, BitVec.toNat_ofNat, Fin.ext_iff]
    rw [Nat.mod_eq_of_lt (by omega), Nat.mod_eq_of_lt (by omega)]
  rw [he]
  by_cases h : d e = n
  · simp only [h, decide_true, BitVec.ofBool_true, Scalar.select, if_true, forall_const]; rfl
  · simp [h, Scalar.select]
end

/-- What bounds the largest of four scores. -/
theorem mx4_le (P : Par) (v : Fin 20480 → Fin 256 → ℝ) (n : Fin 20480) (c : Fin 4) (b : EReal) :
    ((mx4 (P.eK v) n c : ℝ) : EReal) ≤ b ↔ ∀ e, dstN e = n → ((P.eE v e c : ℝ) : EReal) ≤ b := by
  have h : ((mx4 (P.eK v) n c : ℝ) : EReal) = max (max ((P.eE v (inE n 0) c : ℝ) : EReal) (P.eE v (inE n 1) c : ℝ)) (max ((P.eE v (inE n 2) c : ℝ) : EReal) (P.eE v (inE n 3) c : ℝ)) := by
    have m := EReal.coe_strictMono.monotone
    show ((max (max (P.eE v (inE n 0) c) (P.eE v (inE n 1) c)) (max (P.eE v (inE n 2) c) (P.eE v (inE n 3) c)) : ℝ) : EReal) = _
    rw [m.map_max, m.map_max, m.map_max]
  rw [h]
  simp only [max_le_iff, dst_iff]
  constructor
  · rintro ⟨⟨h0, h1⟩, h2, h3⟩ e ⟨k, rfl⟩
    fin_cases k
    exacts [h0, h1, h2, h3]
  · intro q
    exact ⟨⟨q _ ⟨0, rfl⟩, q _ ⟨1, rfl⟩⟩, q _ ⟨2, rfl⟩, q _ ⟨3, rfl⟩⟩

end Cert.Lift

namespace Cert.ReferenceIdeal.Value
open Idealize.ShloMosaic Idealize.ShloMosaic.StableHlo Idealize.ShloMosaic.Routing Cert.Lift Cert.Model Cert.ReferenceIdeal Cert.ReferenceIdeal.Gen

variable {V0 : Valuation τ sig (Elt Ideal)} {a : Args}

/-- The projected nodes, head by head. -/
theorem v80_eq (H : Holds V0 a) (I : Index V0) : res_main_v80 V0
    = (L3 .f32 (fun n h c => a.P.h (full a.nd) n ⟨64 * h.val + c.val, by omega⟩) : FVec Ideal S20480x4x64 .f32) := by
  unfold res_main_v80
  rw [v78_eq H I, H.h15]
  have e := hdot_L2 (φ := .f32) (ψ := .f32) none (full a.nd) a.Wg
  exact (congrArg (fun q => shapeCast S20480x4x64 q shapeCasts_S20480x256_S20480x4x64) e).trans (split_L2 rfl _ _)

/-- The column of the sources. -/
abbrev col5 (V0 : Valuation τ sig (Elt Ideal)) : IVec S81920x1 32 :=
  broadcastInDim S81920x1 ![0] bcast_S81920_S81920x1_0 (select (cmpi .slt (V0 (Proc.devRef .tc main_arg5) : IVec S81920 32) (broadcastInDim S81920 ![] bcast_S_S81920 (constantI S_ 32 0#32)))
    (addi (V0 (Proc.devRef .tc main_arg5) : IVec S81920 32) (broadcastInDim S81920 ![] bcast_S_S81920 (constantI S_ 32 20480#32))) (V0 (Proc.devRef .tc main_arg5) : IVec S81920 32))
/-- The column of the sources names them. -/
theorem names5 (I : Index V0) : Names (col5 V0) srcN := names_wrap (by decide) srcN 20480#32 _ I.h5 bcast_S81920_S81920x1_0 bcast_S_S81920 bcast_S_S81920
/-- The column of the destinations. -/
abbrev col6 (V0 : Valuation τ sig (Elt Ideal)) : IVec S81920x1 32 :=
  broadcastInDim S81920x1 ![0] bcast_S81920_S81920x1_0 (select (cmpi .slt (V0 (Proc.devRef .tc main_arg6) : IVec S81920 32) (broadcastInDim S81920 ![] bcast_S_S81920 (constantI S_ 32 0#32)))
    (addi (V0 (Proc.devRef .tc main_arg6) : IVec S81920 32) (broadcastInDim S81920 ![] bcast_S_S81920 (constantI S_ 32 20480#32))) (V0 (Proc.devRef .tc main_arg6) : IVec S81920 32))
/-- The column of the destinations names them. -/
theorem names6 (I : Index V0) : Names (col6 V0) dstN := names_wrap (by decide) dstN 20480#32 _ I.h6 bcast_S81920_S81920x1_0 bcast_S_S81920 bcast_S_S81920

/-- The scores before the rectifier. -/
theorem v103_eq (H : Holds V0 a) (I : Index V0) : res_main_v103 V0
    = (L2 .f32 (fun e h => mm (a.P.h (full a.nd)) (asM a.aS) (srcN e) h + mm (a.P.h (full a.nd)) (asM a.aD) (dstN e) h) : FVec Ideal S81920x4 .f32) := by
  unfold res_main_v103
  rw [v80_eq H I, H.h16, H.h17]
  have s1 := headSum_host (a.P.h (full a.nd)) a.aS bcast_S4x64_S1x4x64_1_2 bcast_S1x4x64_S20480x4x64_0_1_2 reducesTo_S20480x4x64_S20480x4_d2 h_S_
  have s2 := headSum_host (a.P.h (full a.nd)) a.aD bcast_S4x64_S1x4x64_1_2 bcast_S1x4x64_S20480x4x64_0_1_2 reducesTo_S20480x4x64_S20480x4_d2 h_S_
  have g1 := take4 gather_S20480x4_S81920x1_S81920x4_1_0_n_n_0_1_14 rfl rfl rfl rfl rfl (by decide) (mm (a.P.h (full a.nd)) (asM a.aS)) (col5 V0) srcN (names5 I)
  have g2 := take4 gather_S20480x4_S81920x1_S81920x4_1_0_n_n_0_1_14 rfl rfl rfl rfl rfl (by decide) (mm (a.P.h (full a.nd)) (asM a.aD)) (col6 V0) dstN (names6 I)
  rw [← s1] at g1
  rw [← s2] at g2
  exact (congrArg₂ addf g1 g2).trans (addf_L2 _ _)

/-- The scores. -/
theorem v104_eq (H : Holds V0 a) (I : Index V0) : res_main_v104 V0 = (L2 .f32 (a.P.eE (full a.nd)) : FVec Ideal S81920x4 .f32) := by
  unfold res_main_v104
  rw [v103_eq H I]
  exact leaky_host _ _ _

/-- The largest score into every node. -/
theorem v114_eq (H : Holds V0 a) (I : Index V0) : res_main_v114 V0 = (L2 .f32 (mx4 (a.P.eK (full a.nd))) : FVec Ideal S20480x4 .f32) := by
  unfold res_main_v114
  rw [v104_eq H I]
  exact max_host (by decide) (by decide) (by decide) dstN _ I.h6 _ _ (mx4_le a.P (full a.nd)) _ _ _ _ _ _ _ _ _ _ _

/-- The exponentials. -/
theorem v127_eq (H : Holds V0 a) (I : Index V0) : res_main_v127 V0 = (L2 .f32 (a.P.xE (full a.nd)) : FVec Ideal S81920x4 .f32) := by
  unfold res_main_v127
  rw [v104_eq H I, v114_eq H I]
  have f1 := finite_L2 (mx4 (a.P.eK (full a.nd))) (broadcastInDim S20480x4 ![] bcast_S_S20480x4 (id (constant S_ .f32 0x00000000#32))) bcast_S_S20480x4
  have g1 := take4 gather_S20480x4_S81920x1_S81920x4_1_0_n_n_0_1_14 rfl rfl rfl rfl rfl (by decide) (mx4 (a.P.eK (full a.nd))) (col6 V0) dstN (names6 I)
  rw [← f1] at g1
  exact (congrArg (fun q => Host.exp (subf (L2 .f32 (a.P.eE (full a.nd))) q)) g1).trans ((congrArg Host.exp (subf_L2 _ _)).trans (hexp_L2 _))

end Cert.ReferenceIdeal.Value

end
-- ==== Proof.Value.RefOut.lean ====
/-
The reference's result on the precondition's arguments is the model's.
-/
module

public import proofs.«01_k».proof.Proof.Value.RefAtt

@[expose] public section

set_option maxRecDepth 16384

noncomputable section

namespace Cert.Lift

open Idealize.ShloMosaic Idealize.ShloMosaic.Routing Cert.Model
open scoped BigOperators

section
variable {N U : ℕ}

/-- The gate as the reference writes it. -/
theorem gate_host (P : Par) (b : Fin 256 → EReal) (hb : P.bgate = fun _ => b) (v : Fin N → Fin 256 → ℝ)
    (b1 b2 : (⟨0, ![]⟩ : Shape).BroadcastsInDim ⟨2, ![N, 256]⟩ ![])
    (b3 : Shape.BroadcastsInDim ⟨2, ![1, 256]⟩ ⟨2, ![N, 256]⟩ ![0, 1]) (b4 : Shape.BroadcastsInDim ⟨1, ![256]⟩ ⟨2, ![1, 256]⟩ ![1]) :
    Host.divf (broadcastInDim ⟨2, ![N, 256]⟩ ![] b1 (constant ⟨0, ![]⟩ .f32 0x3F800000#32))
      (addf (broadcastInDim ⟨2, ![N, 256]⟩ ![] b2 (constant ⟨0, ![]⟩ .f32 0x3F800000#32)) (Host.exp (Host.negf (addf
        (Host.dotGeneral (DotDims.plain N 256 256) none (L2 .f32 v) (L2 .f32 P.Wgate))
        (broadcastInDim ⟨2, ![N, 256]⟩ ![0, 1] b3 (broadcastInDim ⟨2, ![1, 256]⟩ ![1] b4 (X1 .f32 b))))))) = L2 .f32 (P.gate v) := by
  rw [bid_cst 0x3F800000#32 val_one, hdot_L2, bid_asRowX, bid_rowX, addf_LX, cst_of val_one, hlogistic_X2, ← hb]
  rfl

/-- A node's new value as the reference writes it. -/
theorem comb_host (P : Par) (v g : Fin N → Fin 256 → ℝ) (b1 b2 : (⟨0, ![]⟩ : Shape).BroadcastsInDim ⟨2, ![N, 256]⟩ ![]) :
    maximumf (addf (mulf (L2 .f32 (P.gate v)) (L2 .f32 g)) (mulf (subf (broadcastInDim ⟨2, ![N, 256]⟩ ![] b1 (constant ⟨0, ![]⟩ .f32 0x3F800000#32)) (L2 .f32 (P.gate v)))
      (Host.dotGeneral (DotDims.plain N 256 256) none (L2 .f32 v) (L2 .f32 P.Wskip)))) (broadcastInDim ⟨2, ![N, 256]⟩ ![] b2 (constant ⟨0, ![]⟩ .f32 0x00000000#32))
      = L2 .f32 (P.comb v g) := by
  rw [mulf_L2, bid_cst 0x3F800000#32 val_one, subf_L2, hdot_L2, mulf_L2, addf_L2, bid_cst 0x00000000#32 val_zero, maximumf_L2, cst_of val_one, cst_of val_zero]
  rfl

/-- The weight of every edge: its exponential over its end's sum and a small number. -/
theorem alpha_host (hN : N < 2 ^ 31) (d : Fin U → Fin N) (raw idx : IVec ⟨2, ![U, 1]⟩ 32) (hr : Names raw d) (hi : Names idx d) (x : Fin U → Fin 4 → ℝ) (hx : ∀ e c, 0 ≤ x e c)
    (gd : GatherDims ⟨2, ![N, 4]⟩ ⟨2, ![U, 1]⟩ ⟨2, ![U, 4]⟩) (g1 : gd.offsetDims = [1]) (g2 : gd.collapsedSliceDims = [0])
    (g3 : gd.operandBatchingDims = []) (g4 : gd.startIndexMap = [0]) (g5 : gd.indexVectorDim = 1) (wf)
    (b1 : (⟨0, ![]⟩ : Shape).BroadcastsInDim ⟨2, ![N, 4]⟩ ![]) (b2 : (⟨0, ![]⟩ : Shape).BroadcastsInDim ⟨2, ![U, 4]⟩ ![]) :
    Host.divf (L2 .f32 x) (addf (Host.gather gd (Host.scatterAdd (segDims N 4 U wf) (broadcastInDim ⟨2, ![N, 4]⟩ ![] b1 (constant ⟨0, ![]⟩ .f32 0x00000000#32)) raw (L2 .f32 x)) idx)
      (broadcastInDim ⟨2, ![U, 4]⟩ ![] b2 (constant ⟨0, ![]⟩ .f32 0x3089705F#32)))
      = L2 .f32 (x / ((fun e => (fun n c => ∑ e ∈ Finset.univ.filter (fun e => d e = n), x e c : Fin N → Fin 4 → ℝ) (d e)) + kc (cst 0x3089705F#32))) := by
  rw [bid_cst 0x00000000#32 val_zero, cst_of val_zero, scatter_L2 wf raw d hr hN, take4 gd g1 g2 g3 g4 g5 hN _ idx d hi, bid_cst 0x3089705F#32 val_eps9, addf_L2]
  have : Pos ((fun e => (fun n c => ∑ e ∈ Finset.univ.filter (fun e => d e = n), x e c : Fin N → Fin 4 → ℝ) (d e)) + kc (cst 0x3089705F#32) : Fin U → Fin 4 → ℝ) :=
    ⟨fun e c => add_pos_of_nonneg_of_pos (Finset.sum_nonneg fun _ _ => hx _ _) cst_eps9_pos⟩
  rw [hdivf_L2]

/-- The weighted sources, summed at their destinations. -/
theorem msg_host (hN : N < 2 ^ 31) (s d : Fin U → Fin N) (raw idx : IVec ⟨2, ![U, 1]⟩ 32) (hr : Names raw d) (hi : Names idx s) (x : Fin U → Fin 4 → ℝ) (h : Fin N → Fin 4 → Fin 64 → ℝ)
    (wf wg) (b0 : (⟨0, ![]⟩ : Shape).BroadcastsInDim ⟨3, ![N, 4, 64]⟩ ![]) (b1 : Shape.BroadcastsInDim ⟨2, ![U, 4]⟩ ⟨3, ![U, 4, 1]⟩ ![0, 1])
    (b2 : Shape.BroadcastsInDim ⟨3, ![U, 4, 1]⟩ ⟨3, ![U, 4, 64]⟩ ![0, 1, 2]) (sc : Shape.ShapeCasts ⟨3, ![N, 4, 64]⟩ ⟨2, ![N, 256]⟩) :
    shapeCast ⟨2, ![N, 256]⟩ (Host.scatterAdd (segDims3 N 4 64 U wf) (broadcastInDim ⟨3, ![N, 4, 64]⟩ ![] b0 (constant ⟨0, ![]⟩ .f32 0x00000000#32)) raw
      (mulf (broadcastInDim ⟨3, ![U, 4, 64]⟩ ![0, 1, 2] b2 (broadcastInDim ⟨3, ![U, 4, 1]⟩ ![0, 1] b1 (L2 .f32 x)))
        (Host.gather (takeDims3 N 4 64 U wg) (L3 .f32 h) idx))) sc
      = L2 .f32 (fun n c => ∑ e ∈ Finset.univ.filter (fun e => d e = n), x e ⟨c.val / 64, by omega⟩ * h (s e) ⟨c.val / 64, by omega⟩ ⟨c.val % 64, by omega⟩) := by
  rw [bid_last, gather_L3 wg idx s hi hN, mulf_L3, bid_cst3 0x00000000#32 val_zero, cst_of val_zero, scatter_L3 wf raw d hr hN, join_L3 (m := 4) (k := 64) (mk := 256) (by norm_num) rfl]

/-- The mean of every polymer's nodes, the number of nodes counted and a small number added. -/
theorem pool_host {M : ℕ} (hM : M < 2 ^ 31) (p : Fin N → Fin M) (raw : IVec ⟨2, ![N, 1]⟩ 32) (hr : Names raw p) (f : Fin N → Fin 256 → ℝ) (wf wf1)
    (b1 : (⟨0, ![]⟩ : Shape).BroadcastsInDim ⟨2, ![M, 256]⟩ ![]) (b2 : Shape.BroadcastsInDim ⟨2, ![M, 1]⟩ ⟨2, ![M, 256]⟩ ![0, 1])
    (b3 : Shape.BroadcastsInDim ⟨1, ![M]⟩ ⟨2, ![M, 1]⟩ ![0]) (b4 : (⟨0, ![]⟩ : Shape).BroadcastsInDim ⟨1, ![M]⟩ ![])
    (b5 : (⟨0, ![]⟩ : Shape).BroadcastsInDim ⟨1, ![N]⟩ ![]) (b6 : (⟨0, ![]⟩ : Shape).BroadcastsInDim ⟨2, ![M, 1]⟩ ![]) :
    Host.divf (Host.scatterAdd (segDims M 256 N wf) (broadcastInDim ⟨2, ![M, 256]⟩ ![] b1 (constant ⟨0, ![]⟩ .f32 0x00000000#32)) raw (L2 .f32 f))
      (broadcastInDim ⟨2, ![M, 256]⟩ ![0, 1] b2 (addf (broadcastInDim ⟨2, ![M, 1]⟩ ![0] b3
        (Host.scatterAdd (segDims1 M N wf1) (broadcastInDim ⟨1, ![M]⟩ ![] b4 (constant ⟨0, ![]⟩ .f32 0x00000000#32)) raw (broadcastInDim ⟨1, ![N]⟩ ![] b5 (constant ⟨0, ![]⟩ .f32 0x3F800000#32))))
        (broadcastInDim ⟨2, ![M, 1]⟩ ![] b6 (constant ⟨0, ![]⟩ .f32 0x3089705F#32))))
      = L2 .f32 ((fun n c => ∑ e ∈ Finset.univ.filter (fun e => p e = n), f e c)
        / bC ((fun n _ => ∑ _e ∈ Finset.univ.filter (fun e => p e = n), (1 : ℝ)) + kc (cst 0x3089705F#32))) := by
  rw [bid_cst 0x00000000#32 val_zero, cst_of val_zero, scatter_L2 wf raw p hr hM, bid_cst1 0x00000000#32 val_zero, cst_of val_zero, bid_cst1 0x3F800000#32 val_one,
    cst_of val_one, scatter_L1 wf1 raw p hr hM, bid_asCol, bid_cst 0x3089705F#32 val_eps9, addf_L2, bid_col]
  have : Pos (bC ((fun n _ => ∑ _e ∈ Finset.univ.filter (fun e => p e = n), (1 : ℝ)) + kc (cst 0x3089705F#32)) : Fin M → Fin 256 → ℝ) :=
    ⟨fun e c => add_pos_of_nonneg_of_pos (Finset.sum_nonneg fun _ _ => zero_le_one) cst_eps9_pos⟩
  rw [hdivf_L2]

/-- A dense layer with a rectifier. -/
theorem layer_host {K M : ℕ} (x : Fin N → Fin K → ℝ) (w : Fin K → Fin M → ℝ) (b : Fin M → ℝ)
    (b1 : Shape.BroadcastsInDim ⟨2, ![1, M]⟩ ⟨2, ![N, M]⟩ ![0, 1]) (b2 : Shape.BroadcastsInDim ⟨1, ![M]⟩ ⟨2, ![1, M]⟩ ![1])
    (b3 : (⟨0, ![]⟩ : Shape).BroadcastsInDim ⟨2, ![N, M]⟩ ![]) :
    maximumf (addf (Host.dotGeneral (DotDims.plain N K M) none (L2 .f32 x) (L2 .f32 w)) (broadcastInDim ⟨2, ![N, M]⟩ ![0, 1] b1 (broadcastInDim ⟨2, ![1, M]⟩ ![1] b2 (L1 .f32 b))))
      (broadcastInDim ⟨2, ![N, M]⟩ ![] b3 (constant ⟨0, ![]⟩ .f32 0x00000000#32)) = L2 .f32 ((mm x w + bR fun _ => b) ⊔ kc 0) := by
  rw [hdot_L2, bid_asRow, bid_row, addf_L2, bid_cst 0x00000000#32 val_zero, cst_of val_zero, maximumf_L2]

/-- The three tasks' numbers of every row. -/
theorem tasks_host (P : Par) (x : Fin N → Fin 128 → ℝ) (c1 : Fin 3 → Fin 128 → EReal) (w2 : Fin 3 → Fin 128 → Fin 1 → EReal) (c2 : Fin 3 → Fin 1 → EReal)
    (h1 : P.bt1 = fun t _ => c1 t) (h2 : P.wt2 = fun t _ l => w2 t l 0) (h3 : P.bt2 = fun _ t => c2 t 0) (wS wB)
    (t1 : Shape.Transposes ⟨3, ![3, 128, N]⟩ [0, 2, 1] ⟨3, ![3, N, 128]⟩)
    (b1 : Shape.BroadcastsInDim ⟨2, ![3, 128]⟩ ⟨3, ![3, 1, 128]⟩ ![0, 2]) (b2 : Shape.BroadcastsInDim ⟨3, ![3, 1, 128]⟩ ⟨3, ![3, N, 128]⟩ ![0, 1, 2])
    (b3 : (⟨0, ![]⟩ : Shape).BroadcastsInDim ⟨3, ![3, N, 128]⟩ ![])
    (b4 : Shape.BroadcastsInDim ⟨2, ![3, 1]⟩ ⟨3, ![3, 1, 1]⟩ ![0, 2]) (b5 : Shape.BroadcastsInDim ⟨3, ![3, 1, 1]⟩ ⟨3, ![3, N, 1]⟩ ![0, 1, 2])
    (sc : Shape.ShapeCasts ⟨3, ![3, N, 1]⟩ ⟨2, ![3, N]⟩) (t2 : Shape.Transposes ⟨2, ![3, N]⟩ [1, 0] ⟨2, ![N, 3]⟩) :
    transpose ⟨2, ![N, 3]⟩ [1, 0] (shapeCast ⟨2, ![3, N]⟩ (addf (Host.dotGeneral (⟨[2], [1], [1], [2], [0], [0], wB⟩ : DotDims ⟨3, ![3, N, 128]⟩ ⟨3, ![3, 128, 1]⟩ ⟨3, ![3, N, 1]⟩) none
      (maximumf (addf (transpose ⟨3, ![3, N, 128]⟩ [0, 2, 1] (Host.dotGeneral (⟨[1], [1], [0, 2], [0], [], [], wS⟩ : DotDims ⟨3, ![3, 128, 128]⟩ ⟨2, ![N, 128]⟩ ⟨3, ![3, 128, N]⟩) none
        (L3 .f32 P.Wt1) (L2 .f32 x)) t1) (broadcastInDim ⟨3, ![3, N, 128]⟩ ![0, 1, 2] b2 (broadcastInDim ⟨3, ![3, 1, 128]⟩ ![0, 2] b1 (X2 .f32 c1))))
        (broadcastInDim ⟨3, ![3, N, 128]⟩ ![] b3 (constant ⟨0, ![]⟩ .f32 0x00000000#32))) (X3 .f32 w2))
      (broadcastInDim ⟨3, ![3, N, 1]⟩ ![0, 1, 2] b5 (broadcastInDim ⟨3, ![3, 1, 1]⟩ ![0, 2] b4 (X2 .f32 c2)))) sc) t2
      = X2 .f32 ((fun i t => P.task t x i 0) + bRX P.bt2) := by
  rw [hdotS_L3, transp_L3, bid_midX, addf_LX3, bid_cst3 0x00000000#32 val_zero, cst_of val_zero, maximumf_XL3, hdotB_X3, bid_midX, addf_XX3, last_X3]
  refine congrArg _ ?_
  funext i t
  have e (l : Fin 128) : ∑ c, P.Wt1 t c l * x i c = mm x (P.Wt1 t) i l := Finset.sum_congr rfl fun c _ => mul_comm _ _
  show (∑ l, max (((∑ c, P.Wt1 t c l * x i c : ℝ) : EReal) + c1 t l) ((0 : ℝ) : EReal) * w2 t l 0) + c2 t 0
    = (∑ l, max (((mm x (P.Wt1 t) i l : ℝ) : EReal) + P.bt1 t 0 l) ((0 : ℝ) : EReal) * P.wt2 t 0 l) + P.bt2 0 t
  rw [h1, h2, h3]
  simp only [e]
end

/-- A sum over a polymer's nodes. -/
theorem sum_poly (p : Fin 4096) (f : Fin 20480 → ℝ) : ∑ n ∈ Finset.univ.filter (fun n => polyN n = p), f n = ∑ d : Fin 5, f ⟨5 * p.val + d.val, by omega⟩ := by
  have : (Finset.univ.filter fun n => polyN n = p) = Finset.univ.image (fun d : Fin 5 => (⟨5 * p.val + d.val, by omega⟩ : Fin 20480)) := by
    ext n
    simp only [Finset.mem_filter, Finset.mem_univ, true_and, Finset.mem_image, polyN, Fin.ext_iff]
    constructor
    · intro h; exact ⟨⟨n.val % 5, by omega⟩, by simp only; omega⟩
    · rintro ⟨d, hd⟩; omega
  rw [this, Finset.sum_image]
  intro k _ l _ h
  have := congrArg Fin.val h
  exact Fin.ext (by simpa using this)

/-- The mean over the nodes is the model's mean. -/
theorem pool_eq (P : Par) (w : Fin 5 → Fin 4096 → Fin 256 → ℝ) :
    ((fun n c => ∑ e ∈ Finset.univ.filter (fun e => polyN e = n), P.comb (full w) (P.gN (full w)) e c)
      / bC ((fun n _ => ∑ _e ∈ Finset.univ.filter (fun e => polyN e = n), (1 : ℝ)) + kc (cst 0x3089705F#32)) : Fin 4096 → Fin 256 → ℝ)
      = P.pool five w := by
  funext p c
  have h5 : ∑ _e ∈ Finset.univ.filter (fun e => polyN e = p), (1 : ℝ) = 5 := by
    rw [sum_poly]; simp
  have hn (d : Fin 5) : P.comb (full w) (P.gN (full w)) ⟨5 * p.val + d.val, by omega⟩ c = P.node w d p c := by
    rw [Par.comb_full]
    have e1 : (⟨(5 * p.val + d.val) % 5, by omega⟩ : Fin 5) = d := Fin.ext (by simp only; omega)
    have e2 : polyN ⟨5 * p.val + d.val, by omega⟩ = p := Fin.ext (by simp only [polyN]; omega)
    rw [e2]
    exact congrArg (fun q => P.node w q p c) e1
  show (∑ e ∈ Finset.univ.filter (fun e => polyN e = p), P.comb (full w) (P.gN (full w)) e c)
    / ((∑ _e ∈ Finset.univ.filter (fun e => polyN e = p), (1 : ℝ)) + cst 0x3089705F#32)
    = (0 + P.node w 0 p c + P.node w 1 p c + P.node w 2 p c + P.node w 3 p c + P.node w 4 p c) / five
  rw [h5, sum_poly]
  simp only [hn]
  rw [Fin.sum_univ_five, zero_add, cst_of val_eps9]
  refine congrArg _ ?_
  unfold five
  norm_num

end Cert.Lift

namespace Cert.ReferenceIdeal.Value
open Idealize.ShloMosaic Idealize.ShloMosaic.StableHlo Idealize.ShloMosaic.Routing Cert.Lift Cert.Model Cert.ReferenceIdeal Cert.ReferenceIdeal.Gen

variable {V0 : Valuation τ sig (Elt Ideal)} {a : Args}

/-- The gate of every node. -/
theorem v164_eq (H : Holds V0 a) (I : Index V0) : res_main_v164 V0 = (L2 .f32 (a.P.gate (full a.nd)) : FVec Ideal S20480x256 .f32) := by
  unfold res_main_v164
  rw [v78_eq H I, H.h18, H.h19]
  exact gate_host a.P a.bgate rfl _ _ _ _ _

/-- The reference's result. -/
theorem out_eq (H : Holds V0 a) (I : Index V0) :
    transpose S4096x3 [1, 0] (shapeCast S3x4096 (res_main_v203 V0) shapeCasts_S3x4096x1_S3x4096) transposes_S3x4096_S4096x3_1_0 = (X2 .f32 a.out : FVec Ideal S4096x3 .f32) := by
  unfold res_main_v203
  rw [v164_eq H I, v127_eq H I, v80_eq H I, v78_eq H I, H.h20, H.h21, H.h22, H.h23, H.h24, H.h25, H.h26, H.h27, H.h28]
  have r6 : Names _ dstN := names_raw dstN _ I.h6 bcast_S81920_S81920x1_0
  have r4 : Names _ polyN := names_raw polyN _ I.h4 bcast_S20480_S20480x1_0
  have e1 := alpha_host (by decide) dstN _ (col6 V0) r6 (names6 I) (a.P.xE (full a.nd)) (fun _ _ => (Real.exp_pos _).le)
    gather_S20480x4_S81920x1_S81920x4_1_0_n_n_0_1_14 rfl rfl rfl rfl rfl scatter_S20480x4_S81920x1_S81920x4_1_0_0_1.wf bcast_S_S20480x4 bcast_S_S81920x4
  have e2 := msg_host (by decide) srcN dstN _ (col5 V0) r6 (names5 I) (a.P.aE (full a.nd)) (fun n h c => a.P.h (full a.nd) n ⟨64 * h.val + c.val, by omega⟩)
    scatter_S20480x4x64_S81920x1_S81920x4x64_12_0_0_1.wf gather_S20480x4x64_S81920x1_S81920x4x64_12_0_n_n_0_1_1464.wf bcast_S_S20480x4x64 bcast_S81920x4_S81920x4x1_0_1
    bcast_S81920x4x1_S81920x4x64_0_1_2 shapeCasts_S20480x4x64_S20480x256
  have e3 := comb_host a.P (full a.nd) (a.P.gN (full a.nd)) bcast_S_S20480x256 bcast_S_S20480x256
  have e4 := pool_host (by decide) polyN _ r4 (a.P.comb (full a.nd) (a.P.gN (full a.nd))) scatter_S4096x256_S20480x1_S20480x256_1_0_0_1.wf scatter_S4096_S20480x1_S20480_n_0_0_1.wf
    bcast_S_S4096x256 bcast_S4096x1_S4096x256_0_1 bcast_S4096_S4096x1_0 bcast_S_S4096 bcast_S_S20480 bcast_S_S4096x1
  rw [pool_eq] at e4
  have e5 := layer_host (a.P.pool five a.nd) a.Wout a.bout bcast_S1x128_S4096x128_0_1 bcast_S128_S1x128_1 bcast_S_S4096x128
  have e6 := layer_host (a.P.poly five a.nd) a.Ws a.bs bcast_S1x128_S4096x128_0_1 bcast_S128_S1x128_1 bcast_S_S4096x128
  have e7 := tasks_host a.P (a.P.shared (a.P.poly five a.nd)) a.bt1 a.Wt2 a.bt2 rfl rfl rfl dot_S3x128x128_S4096x128_S3x128x4096_1_1_02_0_n_n.wf
    dot_S3x4096x128_S3x128x1_S3x4096x1_2_1_1_2_0_0.wf transposes_S3x128x4096_S3x4096x128_0_2_1 bcast_S3x128_S3x1x128_0_2 bcast_S3x1x128_S3x4096x128_0_1_2 bcast_S_S3x4096x128
    bcast_S3x1_S3x1x1_0_2 bcast_S3x1x1_S3x4096x1_0_1_2 shapeCasts_S3x4096x1_S3x4096 transposes_S3x4096_S4096x3_1_0
  have e1' : _ = (L2 .f32 (a.P.aE (full a.nd)) : FVec Ideal ⟨2, ![81920, 4]⟩ .f32) := e1
  have e2' : _ = (L2 .f32 (a.P.gN (full a.nd)) : FVec Ideal ⟨2, ![20480, 256]⟩ .f32) := e2
  have e5' : _ = (L2 .f32 (a.P.poly five a.nd) : FVec Ideal ⟨2, ![4096, 128]⟩ .f32) := e5
  have e6' : _ = (L2 .f32 (a.P.shared (a.P.poly five a.nd)) : FVec Ideal ⟨2, ![4096, 128]⟩ .f32) := e6
  rw [← e1'] at e2'
  rw [← e2'] at e3
  rw [← e3] at e4
  rw [← e4] at e5'
  rw [← e5'] at e6'
  rw [← e6'] at e7
  exact e7

end Cert.ReferenceIdeal.Value

end
-- ==== Proof.Value.Pre.lean ====
/-
What the precondition says: finite floats are real numbers, and the index arrays are the fixed graph's.
-/
module

public import proofs.«01_k».proof.Proof.Value.XLift
public import proofs.«01_k».proof.Pre_inputs
public import proofs.«01_k».proof.Proof.Gen.Pre_inputs
public import proofs.«01_k».proof.Proof.Value.RefNode

@[expose] public section

noncomputable section

namespace Cert.Pre

open Idealize.ShloMosaic
open Cert.Lift Cert.Model Cert.ReferenceIdeal.Value

/-- An ideal float whose size is below infinity is a real number. -/
theorem real_of_fin (x : EReal) (h : Ideal.cmp .olt (max x (-x)) (Ideal.ofBits .f32 0x7F800000#32) = 1#1) : ((x.toReal : ℝ) : EReal) = x := by
  have e : Ideal.ofBits .f32 0x7F800000#32 = ⊤ := by
    simp [Ideal.ofBits, Ideal.ieee]
  rw [e] at h
  induction x using EReal.rec with
  | bot => exact absurd h (by simp [Ideal.cmp])
  | coe r => rfl
  | top => exact absurd h (by simp [Ideal.cmp])

/-- The test for finite floats. -/
theorem finite {S : Shape} (hb : (⟨0, ![]⟩ : Shape).BroadcastsInDim S (![] : Fin 0 → Fin S.rank)) (x : FVec Ideal S .f32)
    (h : cmpf .olt (Host.absf x) (broadcastInDim S ![] hb (constant ⟨0, ![]⟩ .f32 0x7F800000#32 : FVec Ideal ⟨0, ![]⟩ .f32)) = fun _ => 1#1) (i : S.Idx) :
    (((x i).toReal : ℝ) : EReal) = x i := real_of_fin (x i) (congrFun h i)

/-- A finite vector is a real one. -/
theorem real1 {n : ℕ} (x : FVec Ideal ⟨1, ![n]⟩ .f32) (h : ∀ i, (((x i).toReal : ℝ) : EReal) = x i) :
    x = L1 .f32 (fun a => (x (ValueIdx.ix1 a)).toReal) := by
  funext i
  obtain ⟨a, rfl⟩ : ∃ a : Fin n, i = ValueIdx.ix1 a := ⟨i 0, ValueIdx.eq_ix1 i⟩
  exact (h _).symm
/-- A finite matrix is a real one. -/
theorem real2 {n m : ℕ} (x : FVec Ideal ⟨2, ![n, m]⟩ .f32) (h : ∀ i, (((x i).toReal : ℝ) : EReal) = x i) :
    x = L2 .f32 (fun a b => (x (ValueIdx.ix2 a b)).toReal) := by
  funext i
  obtain ⟨a, b, rfl⟩ : ∃ (a : Fin n) (b : Fin m), i = ValueIdx.ix2 a b := ⟨i 0, i 1, ValueIdx.eq_ix2 i⟩
  exact (h _).symm
/-- A finite stack of matrices is a real one. -/
theorem real3 {n m k : ℕ} (x : FVec Ideal ⟨3, ![n, m, k]⟩ .f32) (h : ∀ i, (((x i).toReal : ℝ) : EReal) = x i) :
    x = L3 .f32 (fun a b c => (x (ValueIdx.ix3 a b c)).toReal) := by
  funext i
  obtain ⟨a, b, c, rfl⟩ : ∃ (a : Fin n) (b : Fin m) (c : Fin k), i = ValueIdx.ix3 a b c := ⟨i 0, i 1, i 2, ValueIdx.eq_ix3 i⟩
  exact (h _).symm

/-- A vector is the array of its entries. -/
theorem entries1 {n : ℕ} (x : FVec Ideal ⟨1, ![n]⟩ .f32) : x = X1 .f32 (fun a => x (ValueIdx.ix1 a)) := by
  funext i
  obtain ⟨a, rfl⟩ : ∃ a : Fin n, i = ValueIdx.ix1 a := ⟨i 0, ValueIdx.eq_ix1 i⟩
  rfl
/-- A matrix is the array of its entries. -/
theorem entries2 {n m : ℕ} (x : FVec Ideal ⟨2, ![n, m]⟩ .f32) : x = X2 .f32 (fun a b => x (ValueIdx.ix2 a b)) := xext2 fun _ _ => rfl
/-- A stack of matrices is the array of its entries. -/
theorem entries3 {n m k : ℕ} (x : FVec Ideal ⟨3, ![n, m, k]⟩ .f32) : x = X3 .f32 (fun a b c => x (ValueIdx.ix3 a b c)) := xext3 fun _ _ _ => rfl

/-- An equality test that holds everywhere is an equality. -/
theorem eq_of_cmpi {S : Shape} (x y : IVec S 32) (h : cmpi .eq x y = fun _ => 1#1) : x = y := by
  funext i
  have e : BitVec.ofBool (x i == y i) = 1#1 := congrFun h i
  by_contra hne
  rw [beq_eq_false_iff_ne.mpr hne] at e
  exact absurd e (by decide)

/-- The polymer of every node. -/
theorem poly_of (x : IVec ⟨1, ![20480]⟩ 32) (hs : (⟨1, ![20480]⟩ : Shape).ShapeCasts ⟨2, ![4096, 5]⟩)
    (h : cmpi .eq (shapeCast ⟨2, ![4096, 5]⟩ x hs) (iotaInDim ⟨2, ![4096, 5]⟩ 32 0) = fun _ => 1#1) :
    x = fun i => BitVec.ofNat 32 (polyN (at0 i)).val := by
  have e := eq_of_cmpi _ _ h
  funext i
  obtain ⟨n, rfl⟩ : ∃ n : Fin 20480, i = ValueIdx.ix1 n := ⟨i 0, ValueIdx.eq_ix1 i⟩
  have hn := n.isLt
  have e2 := congrFun e (ValueIdx.ix2 (⟨n.val / 5, by omega⟩ : Fin 4096) (⟨n.val % 5, by omega⟩ : Fin 5))
  rw [shapeCast_apply x hs _ (ValueIdx.ix1 n) (by
    rw [Shape.rowMajor_val_one, Shape.rowMajor_val_two]
    show n.val = n.val / 5 * 5 + n.val % 5
    omega)] at e2
  exact e2

/-- Five times the polymer and a molecule number, as the words compute it. -/
theorem five_word (p i : ℕ) : IntOp.addi (IntOp.muli (5#32) (BitVec.ofNat 32 p)) (BitVec.ofNat 32 i) = BitVec.ofNat 32 (5 * p + i) := by
  show 5#32 * BitVec.ofNat 32 p + BitVec.ofNat 32 i = _
  rw [BitVec.ofNat_add, BitVec.ofNat_mul]

/-- The source of every edge. -/
theorem src_of (x : IVec ⟨1, ![81920]⟩ 32) (hs : (⟨1, ![81920]⟩ : Shape).ShapeCasts ⟨3, ![4096, 5, 4]⟩)
    (hb : (⟨0, ![]⟩ : Shape).BroadcastsInDim ⟨3, ![4096, 5, 4]⟩ (![] : Fin 0 → Fin 3))
    (h : cmpi .eq (shapeCast ⟨3, ![4096, 5, 4]⟩ x hs) (addi (muli (broadcastInDim ⟨3, ![4096, 5, 4]⟩ ![] hb (constantI ⟨0, ![]⟩ 32 5#32))
      (iotaInDim ⟨3, ![4096, 5, 4]⟩ 32 0)) (iotaInDim ⟨3, ![4096, 5, 4]⟩ 32 1)) = fun _ => 1#1) :
    x = fun i => BitVec.ofNat 32 (srcN (at0 i)).val := by
  have e := eq_of_cmpi _ _ h
  funext i
  obtain ⟨n, rfl⟩ : ∃ n : Fin 81920, i = ValueIdx.ix1 n := ⟨i 0, ValueIdx.eq_ix1 i⟩
  have hn := n.isLt
  have e2 := congrFun e (ValueIdx.ix3 (⟨n.val / 20, by omega⟩ : Fin 4096) (⟨n.val % 20 / 4, by omega⟩ : Fin 5) (⟨n.val % 4, by omega⟩ : Fin 4))
  rw [shapeCast_apply x hs _ (ValueIdx.ix1 n) (by
    rw [Shape.rowMajor_val_one, Shape.rowMajor_val_three]
    show n.val = (n.val / 20 * 5 + n.val % 20 / 4) * 4 + n.val % 4
    omega)] at e2
  exact e2.trans (five_word (n.val / 20) (n.val % 20 / 4))

/-- A molecule number past the source's own, as the words compute it. -/
theorem skip_word : ∀ (k : Fin 4) (i : Fin 5), IntOp.addi (BitVec.ofNat 32 k.val)
    (BitVec.setWidth 32 (IntOp.cmpi .sge (BitVec.ofNat 32 k.val) (BitVec.ofNat 32 i.val))) = BitVec.ofNat 32 (k.val + if i.val ≤ k.val then 1 else 0) := by
  decide

/-- The target of every edge. -/
theorem dst_of (x : IVec ⟨1, ![81920]⟩ 32) (hs : (⟨1, ![81920]⟩ : Shape).ShapeCasts ⟨3, ![4096, 5, 4]⟩)
    (hb : (⟨0, ![]⟩ : Shape).BroadcastsInDim ⟨3, ![4096, 5, 4]⟩ (![] : Fin 0 → Fin 3)) (hw : 1 < 32)
    (h : cmpi .eq (shapeCast ⟨3, ![4096, 5, 4]⟩ x hs) (addi (muli (broadcastInDim ⟨3, ![4096, 5, 4]⟩ ![] hb (constantI ⟨0, ![]⟩ 32 5#32))
      (iotaInDim ⟨3, ![4096, 5, 4]⟩ 32 0)) (addi (iotaInDim ⟨3, ![4096, 5, 4]⟩ 32 2)
        (extui 32 (cmpi .sge (iotaInDim ⟨3, ![4096, 5, 4]⟩ 32 2) (iotaInDim ⟨3, ![4096, 5, 4]⟩ 32 1)) hw))) = fun _ => 1#1) :
    x = fun i => BitVec.ofNat 32 (dstN (at0 i)).val := by
  have e := eq_of_cmpi _ _ h
  funext i
  obtain ⟨n, rfl⟩ : ∃ n : Fin 81920, i = ValueIdx.ix1 n := ⟨i 0, ValueIdx.eq_ix1 i⟩
  have hn := n.isLt
  have e2 := congrFun e (ValueIdx.ix3 (⟨n.val / 20, by omega⟩ : Fin 4096) (⟨n.val % 20 / 4, by omega⟩ : Fin 5) (⟨n.val % 4, by omega⟩ : Fin 4))
  rw [shapeCast_apply x hs _ (ValueIdx.ix1 n) (by
    rw [Shape.rowMajor_val_one, Shape.rowMajor_val_three]
    show n.val = (n.val / 20 * 5 + n.val % 20 / 4) * 4 + n.val % 4
    omega)] at e2
  refine e2.trans ((congrArg (IntOp.addi (IntOp.muli (5#32) (BitVec.ofNat 32 (n.val / 20)))) (skip_word ⟨n.val % 4, by omega⟩ ⟨n.val % 20 / 4, by omega⟩)).trans ?_)
  exact five_word (n.val / 20) _

section inputs
variable
  (x0 : FVec Ideal ⟨2, ![16384, 300]⟩ .f32)
  (x1 : FVec Ideal ⟨2, ![4096, 300]⟩ .f32)
  (x2 : FVec Ideal ⟨2, ![16384, 7]⟩ .f32)
  (x3 : FVec Ideal ⟨2, ![4096, 7]⟩ .f32)
  (x4 : IVec ⟨1, ![20480]⟩ 32)
  (x5 : IVec ⟨1, ![81920]⟩ 32)
  (x6 : IVec ⟨1, ![81920]⟩ 32)
  (x7 : FVec Ideal ⟨2, ![307, 512]⟩ .f32)
  (x8 : FVec Ideal ⟨1, ![512]⟩ .f32)
  (x9 : FVec Ideal ⟨2, ![512, 256]⟩ .f32)
  (x10 : FVec Ideal ⟨1, ![256]⟩ .f32)
  (x11 : FVec Ideal ⟨2, ![307, 512]⟩ .f32)
  (x12 : FVec Ideal ⟨1, ![512]⟩ .f32)
  (x13 : FVec Ideal ⟨2, ![512, 256]⟩ .f32)
  (x14 : FVec Ideal ⟨1, ![256]⟩ .f32)
  (x15 : FVec Ideal ⟨2, ![256, 256]⟩ .f32)
  (x16 : FVec Ideal ⟨2, ![4, 64]⟩ .f32)
  (x17 : FVec Ideal ⟨2, ![4, 64]⟩ .f32)
  (x18 : FVec Ideal ⟨2, ![256, 256]⟩ .f32)
  (x19 : FVec Ideal ⟨1, ![256]⟩ .f32)
  (x20 : FVec Ideal ⟨2, ![256, 256]⟩ .f32)
  (x21 : FVec Ideal ⟨2, ![256, 128]⟩ .f32)
  (x22 : FVec Ideal ⟨1, ![128]⟩ .f32)
  (x23 : FVec Ideal ⟨2, ![128, 128]⟩ .f32)
  (x24 : FVec Ideal ⟨1, ![128]⟩ .f32)
  (x25 : FVec Ideal ⟨3, ![3, 128, 128]⟩ .f32)
  (x26 : FVec Ideal ⟨2, ![3, 128]⟩ .f32)
  (x27 : FVec Ideal ⟨3, ![3, 128, 1]⟩ .f32)
  (x28 : FVec Ideal ⟨2, ![3, 1]⟩ .f32)

/-- The arguments hold the arrays of `a`, and the index arrays are the graph's. -/
structure Inputs (a : Args) : Prop where
  h0 : x0 = L2 .f32 a.m3
  h1 : x1 = L2 .f32 a.s3
  h2 : x2 = X2 .f32 a.m7
  h3 : x3 = X2 .f32 a.s7
  h7 : x7 = L2 .f32 a.mW1
  h8 : x8 = X1 .f32 a.mb1
  h9 : x9 = X2 .f32 a.mW2
  h10 : x10 = X1 .f32 a.mb2
  h11 : x11 = L2 .f32 a.sW1
  h12 : x12 = X1 .f32 a.sb1
  h13 : x13 = X2 .f32 a.sW2
  h14 : x14 = X1 .f32 a.sb2
  h15 : x15 = L2 .f32 a.Wg
  h16 : x16 = L2 .f32 a.aS
  h17 : x17 = L2 .f32 a.aD
  h18 : x18 = L2 .f32 a.Wgate
  h19 : x19 = X1 .f32 a.bgate
  h20 : x20 = L2 .f32 a.Wskip
  h21 : x21 = L2 .f32 a.Wout
  h22 : x22 = L1 .f32 a.bout
  h23 : x23 = L2 .f32 a.Ws
  h24 : x24 = L1 .f32 a.bs
  h25 : x25 = L3 .f32 a.Wt1
  h26 : x26 = X2 .f32 a.bt1
  h27 : x27 = X3 .f32 a.Wt2
  h28 : x28 = X2 .f32 a.bt2
  h4 : x4 = fun i => BitVec.ofNat 32 (polyN (at0 i)).val
  h5 : x5 = fun i => BitVec.ofNat 32 (srcN (at0 i)).val
  h6 : x6 = fun i => BitVec.ofNat 32 (dstN (at0 i)).val

/-- The precondition's arguments are an `Args` and the graph's index arrays. -/
theorem inputs_of [Cert.Pre_inputs.Facts]
    (h : (Cert.Pre_inputs.fn (F := Ideal) x0 x1 x2 x3 x4 x5 x6 x7 x8 x9 x10 x11 x12 x13 x14 x15 x16 x17 x18 x19 x20 x21 x22 x23 x24 x25 x26 x27 x28).1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.2.2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.2.2.2.2.2.2.2.2.1 = (fun _ => 1#1)
      ∧ (Cert.Pre_inputs.fn (F := Ideal) x0 x1 x2 x3 x4 x5 x6 x7 x8 x9 x10 x11 x12 x13 x14 x15 x16 x17 x18 x19 x20 x21 x22 x23 x24 x25 x26 x27 x28).2.2.2.2.2.2.2.2.2.2.2.2.2.2.2.2 = (fun _ => 1#1)) :
    ∃ a : Args, Inputs x0 x1 x2 x3 x4 x5 x6 x7 x8 x9 x10 x11 x12 x13 x14 x15 x16 x17 x18 x19 x20 x21 x22 x23 x24 x25 x26 x27 x28 a := by
  obtain ⟨h4, h5, h6, h0, h1, h7, h11, h15, h16, h17, h18, h20, h21, h22, h23, h24, h25⟩ := h
  exact ⟨⟨fun a b => (x0 (ValueIdx.ix2 a b)).toReal,
    fun a b => (x1 (ValueIdx.ix2 a b)).toReal,
    fun a b => x2 (ValueIdx.ix2 a b),
    fun a b => x3 (ValueIdx.ix2 a b),
    fun a b => (x7 (ValueIdx.ix2 a b)).toReal,
    fun a => x8 (ValueIdx.ix1 a),
    fun a b => x9 (ValueIdx.ix2 a b),
    fun a => x10 (ValueIdx.ix1 a),
    fun a b => (x11 (ValueIdx.ix2 a b)).toReal,
    fun a => x12 (ValueIdx.ix1 a),
    fun a b => x13 (ValueIdx.ix2 a b),
    fun a => x14 (ValueIdx.ix1 a),
    fun a b => (x15 (ValueIdx.ix2 a b)).toReal,
    fun a b => (x16 (ValueIdx.ix2 a b)).toReal,
    fun a b => (x17 (ValueIdx.ix2 a b)).toReal,
    fun a b => (x18 (ValueIdx.ix2 a b)).toReal,
    fun a => x19 (ValueIdx.ix1 a),
    fun a b => (x20 (ValueIdx.ix2 a b)).toReal,
    fun a b => (x21 (ValueIdx.ix2 a b)).toReal,
    fun a => (x22 (ValueIdx.ix1 a)).toReal,
    fun a b => (x23 (ValueIdx.ix2 a b)).toReal,
    fun a => (x24 (ValueIdx.ix1 a)).toReal,
    fun a b c => (x25 (ValueIdx.ix3 a b c)).toReal,
    fun a b => x26 (ValueIdx.ix2 a b),
    fun a b c => x27 (ValueIdx.ix3 a b c),
    fun a b => x28 (ValueIdx.ix2 a b)⟩,
    real2 x0 (finite _ x0 h0),
    real2 x1 (finite _ x1 h1),
    entries2 x2,
    entries2 x3,
    real2 x7 (finite _ x7 h7),
    entries1 x8,
    entries2 x9,
    entries1 x10,
    real2 x11 (finite _ x11 h11),
    entries1 x12,
    entries2 x13,
    entries1 x14,
    real2 x15 (finite _ x15 h15),
    real2 x16 (finite _ x16 h16),
    real2 x17 (finite _ x17 h17),
    real2 x18 (finite _ x18 h18),
    entries1 x19,
    real2 x20 (finite _ x20 h20),
    real2 x21 (finite _ x21 h21),
    real1 x22 (finite _ x22 h22),
    real2 x23 (finite _ x23 h23),
    real1 x24 (finite _ x24 h24),
    real3 x25 (finite _ x25 h25),
    entries2 x26,
    entries3 x27,
    entries2 x28,
    poly_of x4 _ h4, src_of x5 _ _ h5, dst_of x6 _ _ _ h6⟩
end inputs

end Cert.Pre

end
-- ==== Proof.lean ====
module

public import proofs.«01_k».proof.Defs
public import proofs.«01_k».proof.Proof.Gen.Kernel
public import proofs.«01_k».proof.Proof.Kernel.Run
public import proofs.«01_k».proof.Proof.Gen.KernelIdeal
public import proofs.«01_k».proof.Proof.KernelIdeal.Run
public import proofs.«01_k».proof.Proof.Gen.ReferenceIdeal
public import proofs.«01_k».proof.Proof.Gen.ReferenceIdeal.Run
public import proofs.«01_k».proof.Proof.Gen.Pre_inputs
public import proofs.«01_k».proof.Proof.Value.KOut
public import proofs.«01_k».proof.Proof.Value.RefOut
public import proofs.«01_k».proof.Proof.Value.Pre
public import Idealize.ShloMosaic.Adequacy
public import Idealize.ShloMosaic.Init

@[expose] public section

noncomputable section

namespace Cert.Proof

open Idealize.ShloMosaic Idealize.SL.Sem

/-- The reference's frame: its run leaves the arguments as launched, and it declares no semaphore. -/
theorem frame_r : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run m ρ)

/-- From arguments that meet the precondition, the kernel and the reference leave one result. -/
theorem value : Cert.algebraic_KernelIdeal_ReferenceIdeal_pre_inputs := by
  intro m g m' g' hpre hag
  choose a I using fun c => Cert.Pre.inputs_of _ _ _ _ _ _ _ _ _ _ _ _ _ _ _ _ _ _ _ _ _ _ _ _ _ _ _ _ _ (hpre c)
  refine ⟨fun c => Cert.Lift.X2 .f32 (a c).out, ?_, ?_⟩
  · refine (θ_run Cert.KernelIdeal.defs _ _).mono (fun r h c => ?_) (Cert.KernelIdeal.Gen.run_all m g)
    refine ⟨?_, Cert.KernelIdeal.Gen.kept m g r.2.mem c (h.1 c)⟩
    refine (h.1 c _ (Cert.KernelIdeal.Gen.mem_uc Cert.KernelIdeal.main_v87 (by decide))).trans (Cert.KernelIdeal.Gen.out_arr m g (a c) c ?_)
    exact {
      h0 := (I c).h0
      h1 := (I c).h1
      h2 := (I c).h2
      h3 := (I c).h3
      h7 := (I c).h7
      h8 := (I c).h8
      h9 := (I c).h9
      h10 := (I c).h10
      h11 := (I c).h11
      h12 := (I c).h12
      h13 := (I c).h13
      h14 := (I c).h14
      h15 := (I c).h15
      h16 := (I c).h16
      h17 := (I c).h17
      h18 := (I c).h18
      h19 := (I c).h19
      h20 := (I c).h20
      h21 := (I c).h21
      h22 := (I c).h22
      h23 := (I c).h23
      h24 := (I c).h24
      h25 := (I c).h25
      h26 := (I c).h26
      h27 := (I c).h27
      h28 := (I c).h28 }
  · refine (θ_run Cert.ReferenceIdeal.defs _ _).mono (fun r h c => ⟨(h c).1.trans ?_, (h c).2⟩) (Cert.ReferenceIdeal.Value.run m' g')
    obtain ⟨g0, g1, g2, g3, g4, g5, g6, g7, g8, g9, g10, g11, g12, g13, g14, g15, g16, g17, g18, g19, g20, g21, g22, g23, g24, g25, g26, g27, g28⟩ := hag c
    exact Cert.ReferenceIdeal.Value.out_eq
      (a := a c)
      { h0 := g0.trans (I c).h0
        h1 := g1.trans (I c).h1
        h2 := g2.trans (I c).h2
        h3 := g3.trans (I c).h3
        h7 := g7.trans (I c).h7
        h8 := g8.trans (I c).h8
        h9 := g9.trans (I c).h9
        h10 := g10.trans (I c).h10
        h11 := g11.trans (I c).h11
        h12 := g12.trans (I c).h12
        h13 := g13.trans (I c).h13
        h14 := g14.trans (I c).h14
        h15 := g15.trans (I c).h15
        h16 := g16.trans (I c).h16
        h17 := g17.trans (I c).h17
        h18 := g18.trans (I c).h18
        h19 := g19.trans (I c).h19
        h20 := g20.trans (I c).h20
        h21 := g21.trans (I c).h21
        h22 := g22.trans (I c).h22
        h23 := g23.trans (I c).h23
        h24 := g24.trans (I c).h24
        h25 := g25.trans (I c).h25
        h26 := g26.trans (I c).h26
        h27 := g27.trans (I c).h27
        h28 := g28.trans (I c).h28 }
      { h4 := g4.trans (I c).h4
        h5 := g5.trans (I c).h5
        h6 := g6.trans (I c).h6 }

/-- The claim: each program's frame, the one named constant's statement, and the equal results. -/
theorem claim : Cert.Claim :=
  ⟨Cert.Kernel.Gen.facts, Cert.KernelIdeal.Gen.facts, Cert.ReferenceIdeal.Gen.facts, Cert.Pre_inputs.Gen.facts,
   fun m ρ _ => Cert.Kernel.Gen.frame m ρ,
   fun m ρ _ => Cert.KernelIdeal.Gen.frame m ρ,
   fun m ρ _ => Cert.KernelIdeal.Gen.frame m ρ,
   frame_r,
   fun m ρ _ => frame_r m ρ trivial,
   IdealRules.named_const.statement Cert.KernelIdeal.κ "five" .f32 0x40A00000#32
     ((45035996282712159 / 9007199254740992 : ℝ) : EReal) rfl,
   value⟩

end Cert.Proof

end
